-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "score_scale_log2" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)) (v5 : (c : Dev Cert.KernelIdeal.nD) → Buf (Elt Ideal) ((c.tc : Thread Cert.KernelIdeal.nD Cert.KernelIdeal.τ).loc Cert.KernelIdeal.main_v13_5)) (v6 : (c : Dev Cert.KernelIdeal.nD) → Buf (Elt Ideal) ((c.tc : Thread Cert.KernelIdeal.nD Cert.KernelIdeal.τ).loc Cert.KernelIdeal.main_v13_6)) (v7 : (c : Dev Cert.KernelIdeal.nD) → Buf (Elt Ideal) ((c.tc : Thread Cert.KernelIdeal.nD Cert.KernelIdeal.τ).loc Cert.KernelIdeal.main_v13_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v13_4) = v4 c
          ∧ r.2.mem ((c.tc : Thread Cert.KernelIdeal.nD Cert.KernelIdeal.τ).loc Cert.KernelIdeal.main_v13_5) = v5 c
          ∧ r.2.mem ((c.tc : Thread Cert.KernelIdeal.nD Cert.KernelIdeal.τ).loc Cert.KernelIdeal.main_v13_6) = v6 c
          ∧ r.2.mem ((c.tc : Thread Cert.KernelIdeal.nD Cert.KernelIdeal.τ).loc Cert.KernelIdeal.main_v13_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_v188) = v1 c
          ∧ r.2.mem ((c.tc : Thread Cert.ReferenceIdeal.nD Cert.ReferenceIdeal.τ).loc Cert.ReferenceIdeal.main_v198) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_v200) = v4 c
          ∧ r.2.mem ((c.tc : Thread Cert.ReferenceIdeal.nD Cert.ReferenceIdeal.τ).loc Cert.ReferenceIdeal.main_v91) = v5 c
          ∧ r.2.mem ((c.tc : Thread Cert.ReferenceIdeal.nD Cert.ReferenceIdeal.τ).loc Cert.ReferenceIdeal.main_v202) = v6 c
          ∧ r.2.mem ((c.tc : Thread Cert.ReferenceIdeal.nD Cert.ReferenceIdeal.τ).loc Cert.ReferenceIdeal.main_v117) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1024x3072 : Shape := ⟨3, ![2, 1024, 3072]⟩
abbrev S2x1024x512 : Shape := ⟨3, ![2, 1024, 512]⟩
abbrev S2x1024 : Shape := ⟨2, ![2, 1024]⟩
abbrev S_ : Shape := ⟨0, ![]⟩

class Facts : Prop where
  bitsLt_bf16_f32 : FTy.bits .bf16 < FTy.bits .f32
  bcast_S_S2x1024x3072 : S_.BroadcastsInDim S2x1024x3072 (![] : Fin 0 → Fin S2x1024x3072.rank)
  reducesTo_S2x1024x3072_S_d0_1_2 : S2x1024x3072.ReducesTo [0, 1, 2] S_
  h_S_ : 0 < S_.numel
  bcast_S_S2x1024x512 : S_.BroadcastsInDim S2x1024x512 (![] : Fin 0 → Fin S2x1024x512.rank)
  reducesTo_S2x1024x512_S_d0_1_2 : S2x1024x512.ReducesTo [0, 1, 2] S_

variable [Facts]

def fn {F : FTy → Type} [FloatOps F] (main_arg0 : FVec F S2x1024x3072 .bf16) (main_arg1 : FVec F S2x1024x512 .bf16) (main_arg2 : FVec F S2x1024x512 .bf16) (main_arg3 : IVec S2x1024 32) : IVec S_ 1 :=
  let main_v0 : FVec F S2x1024x3072 .bf16 := Host.absf main_arg0
  let main_v1 : FVec F S2x1024x3072 .f32 := (extf .f32 · bitsLt_bf16_f32) main_v0
  let main_cst : FVec F S_ .f32 := constant S_ .f32 0x7F7F0000#32
  let main_v2 : FVec F S2x1024x3072 .f32 := broadcastInDim S2x1024x3072 ![] bcast_S_S2x1024x3072 main_cst
  let main_v3 : IVec S2x1024x3072 1 := cmpf .ole main_v1 main_v2
  let main_c : IVec S_ 1 := constantI S_ 1 1#1
  let main_v4 : IVec S_ 1 := (fun x v => Host.reduce IntOp.andi x v reducesTo_S2x1024x3072_S_d0_1_2 h_S_) main_v3 main_c
  let main_v5 : FVec F S2x1024x512 .bf16 := Host.absf main_arg1
  let main_v6 : FVec F S2x1024x512 .f32 := (extf .f32 · bitsLt_bf16_f32) main_v5
  let main_cst_0 : FVec F S_ .f32 := constant S_ .f32 0x7F7F0000#32
  let main_v7 : FVec F S2x1024x512 .f32 := broadcastInDim S2x1024x512 ![] bcast_S_S2x1024x512 main_cst_0
  let main_v8 : IVec S2x1024x512 1 := cmpf .ole main_v6 main_v7
  let main_c_1 : IVec S_ 1 := constantI S_ 1 1#1
  let main_v9 : IVec S_ 1 := (fun x v => Host.reduce IntOp.andi x v reducesTo_S2x1024x512_S_d0_1_2 h_S_) main_v8 main_c_1
  let main_v10 : IVec S_ 1 := andi main_v4 main_v9
  let main_v11 : FVec F S2x1024x512 .bf16 := Host.absf main_arg2
  let main_v12 : FVec F S2x1024x512 .f32 := (extf .f32 · bitsLt_bf16_f32) main_v11
  let main_cst_2 : FVec F S_ .f32 := constant S_ .f32 0x7F7F0000#32
  let main_v13 : FVec F S2x1024x512 .f32 := broadcastInDim S2x1024x512 ![] bcast_S_S2x1024x512 main_cst_2
  let main_v14 : IVec S2x1024x512 1 := cmpf .ole main_v12 main_v13
  let main_c_3 : IVec S_ 1 := constantI S_ 1 1#1
  let main_v15 : IVec S_ 1 := (fun x v => Host.reduce IntOp.andi x v reducesTo_S2x1024x512_S_d0_1_2 h_S_) main_v14 main_c_3
  let main_v16 : IVec S_ 1 := andi main_v10 main_v15
  main_v16
-- ==== Kernel.lean ====
abbrev S2x1024x3072 : Shape := ⟨3, ![2, 1024, 3072]⟩
abbrev S2x1024x512 : Shape := ⟨3, ![2, 1024, 512]⟩
abbrev S2x1024 : Shape := ⟨2, ![2, 1024]⟩
abbrev S64 : Shape := ⟨1, ![64]⟩
abbrev S_ : Shape := ⟨0, ![]⟩
abbrev S64x1 : Shape := ⟨2, ![64, 1]⟩
abbrev S64x128 : Shape := ⟨2, ![64, 128]⟩
abbrev S2x1024x24 : Shape := ⟨3, ![2, 1024, 24]⟩
abbrev S2x1024x4 : Shape := ⟨3, ![2, 1024, 4]⟩
abbrev S2x128 : Shape := ⟨2, ![2, 128]⟩
abbrev S1x128x3072 : Shape := ⟨3, ![1, 128, 3072]⟩
abbrev S1x128x512 : Shape := ⟨3, ![1, 128, 512]⟩
abbrev S1x128x24 : Shape := ⟨3, ![1, 128, 24]⟩
abbrev S1x128x4 : Shape := ⟨3, ![1, 128, 4]⟩
abbrev S24x128 : Shape := ⟨2, ![24, 128]⟩
abbrev S4x1024x128 : Shape := ⟨3, ![4, 1024, 128]⟩
abbrev S4x128x1024 : Shape := ⟨3, ![4, 128, 1024]⟩
abbrev S1024x512 : Shape := ⟨2, ![1024, 512]⟩
abbrev S24x128x128 : Shape := ⟨3, ![24, 128, 128]⟩
abbrev S8x128 : Shape := ⟨2, ![8, 128]⟩
abbrev S1x128 : Shape := ⟨2, ![1, 128]⟩
abbrev S1x128x128 : Shape := ⟨3, ![1, 128, 128]⟩
abbrev S128x128 : Shape := ⟨2, ![128, 128]⟩
abbrev S128 : Shape := ⟨1, ![128]⟩
abbrev S128x24 : Shape := ⟨2, ![128, 24]⟩
abbrev S4x128 : Shape := ⟨2, ![4, 128]⟩
abbrev S128x4 : Shape := ⟨2, ![128, 4]⟩
abbrev S128x256 : Shape := ⟨2, ![128, 256]⟩
abbrev S128x3072 : Shape := ⟨2, ![128, 3072]⟩
abbrev S256x128 : Shape := ⟨2, ![256, 128]⟩
abbrev S1x256 : Shape := ⟨2, ![1, 256]⟩
abbrev S16x8x256 : Shape := ⟨3, ![16, 8, 256]⟩
abbrev S8x256 : Shape := ⟨2, ![8, 256]⟩
abbrev S256 : Shape := ⟨1, ![256]⟩
abbrev S1x128x256 : Shape := ⟨3, ![1, 128, 256]⟩
abbrev S256x256 : Shape := ⟨2, ![256, 256]⟩
abbrev S1x128x384 : Shape := ⟨3, ![1, 128, 384]⟩
abbrev S128x384 : Shape := ⟨2, ![128, 384]⟩
abbrev S384x256 : Shape := ⟨2, ![384, 256]⟩
abbrev S128x512 : Shape := ⟨2, ![128, 512]⟩
abbrev S512x256 : Shape := ⟨2, ![512, 256]⟩
abbrev S1x128x640 : Shape := ⟨3, ![1, 128, 640]⟩
abbrev S128x640 : Shape := ⟨2, ![128, 640]⟩
abbrev S640x256 : Shape := ⟨2, ![640, 256]⟩
abbrev S1x128x768 : Shape := ⟨3, ![1, 128, 768]⟩
abbrev S128x768 : Shape := ⟨2, ![128, 768]⟩
abbrev S768x256 : Shape := ⟨2, ![768, 256]⟩
abbrev S1x128x896 : Shape := ⟨3, ![1, 128, 896]⟩
abbrev S128x896 : Shape := ⟨2, ![128, 896]⟩
abbrev S896x256 : Shape := ⟨2, ![896, 256]⟩
abbrev S1x128x1024 : Shape := ⟨3, ![1, 128, 1024]⟩
abbrev S128x1024 : Shape := ⟨2, ![128, 1024]⟩
abbrev S1024x256 : Shape := ⟨2, ![1024, 256]⟩

abbrev nBuf : Space → Nat
  | .hbm => 30
  | .vmem => 33
  | .smem => 0
  | _ => 0

abbrev bufTy : (tb : Table) → Fin (tcTables nBuf tb) → BufTy
  | .hbm, ⟨0, _⟩ => ⟨S2x1024x3072, .bf16⟩
  | .hbm, ⟨1, _⟩ => ⟨S2x1024x512, .bf16⟩
  | .hbm, ⟨2, _⟩ => ⟨S2x1024x512, .bf16⟩
  | .hbm, ⟨3, _⟩ => ⟨S2x1024, .i32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S64x1, .f32⟩
  | .hbm, ⟨21, _⟩ => ⟨S64x128, .f32⟩
  | .hbm, ⟨22, _⟩ => ⟨S2x1024x3072, .fp8e4m3⟩
  | .hbm, ⟨23, _⟩ => ⟨S2x1024, .f32⟩
  | .hbm, ⟨24, _⟩ => ⟨S2x1024x3072, .fp8e4m3⟩
  | .hbm, ⟨25, _⟩ => ⟨S2x1024x24, .f32⟩
  | .hbm, ⟨26, _⟩ => ⟨S2x1024x512, .fp8e4m3⟩
  | .hbm, ⟨27, _⟩ => ⟨S2x1024x4, .f32⟩
  | .hbm, ⟨28, _⟩ => ⟨S2x1024x512, .fp8e4m3⟩
  | .hbm, ⟨29, _⟩ => ⟨S2x1024x4, .f32⟩
  | .local _ .vmem, ⟨0, _⟩ => ⟨S2x128, .i32⟩
  | .local _ .vmem, ⟨1, _⟩ => ⟨S2x128, .i32⟩
  | .local _ .vmem, ⟨2, _⟩ => ⟨S64x128, .f32⟩
  | .local _ .vmem, ⟨3, _⟩ => ⟨S1x128x3072, .bf16⟩
  | .local _ .vmem, ⟨4, _⟩ => ⟨S1x128x3072, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x3072, .fp8e4m3⟩
  | .local _ .vmem, ⟨10, _⟩ => ⟨S1x128x3072, .fp8e4m3⟩
  | .local _ .vmem, ⟨11, _⟩ => ⟨S2x1024, .f32⟩
  | .local _ .vmem, ⟨12, _⟩ => ⟨S1x128x3072, .fp8e4m3⟩
  | .local _ .vmem, ⟨13, _⟩ => ⟨S1x128x3072, .fp8e4m3⟩
  | .local _ .vmem, ⟨14, _⟩ => ⟨S1x128x24, .f32⟩
  | .local _ .vmem, ⟨15, _⟩ => ⟨S1x128x24, .f32⟩
  | .local _ .vmem, ⟨16, _⟩ => ⟨S1x128x512, .fp8e4m3⟩
  | .local _ .vmem, ⟨17, _⟩ => ⟨S1x128x512, .fp8e4m3⟩
  | .local _ .vmem, ⟨18, _⟩ => ⟨S1x128x4, .f32⟩
  | .local _ .vmem, ⟨19, _⟩ => ⟨S1x128x4, .f32⟩
  | .local _ .vmem, ⟨20, _⟩ => ⟨S1x128x512, .fp8e4m3⟩
  | .local _ .vmem, ⟨21, _⟩ => ⟨S1x128x512, .fp8e4m3⟩
  | .local _ .vmem, ⟨22, _⟩ => ⟨S1x128x4, .f32⟩
  | .local _ .vmem, ⟨23, _⟩ => ⟨S1x128x4, .f32⟩
  | .local _ .vmem, ⟨24, _⟩ => ⟨S24x128, .f32⟩
  | .local _ .vmem, ⟨25, _⟩ => ⟨S4x1024x128, .fp8e4m3⟩
  | .local _ .vmem, ⟨26, _⟩ => ⟨S4x1024x128, .f32⟩
  | .local _ .vmem, ⟨27, _⟩ => ⟨S4x128x1024, .bf16⟩
  | .local _ .vmem, ⟨28, _⟩ => ⟨S1024x512, .f32⟩
  | .local _ .vmem, ⟨29, _⟩ => ⟨S1024x512, .bf16⟩
  | .local _ .vmem, ⟨30, _⟩ => ⟨S24x128x128, .f32⟩
  | .local _ .vmem, ⟨31, _⟩ => ⟨S24x128, .f32⟩
  | .local _ .vmem, ⟨32, _⟩ => ⟨S8x128, .f32⟩
  | _, _ => ⟨S2x1024x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v13_5 : Ref sig .tc := ⟨.hbm, 27, rfl⟩
abbrev main_v13_6 : Ref sig .tc := ⟨.hbm, 28, rfl⟩
abbrev main_v13_7 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  v0
def k0_off1 (i : grid0.Coords) : Fin 2 → Nat :=
  let arg0 : BitVec 32 := BitVec.ofNat 32 (i 0).val
  let v2 : Index := Scalar.indexCast arg0
  let c0 : Index := 0#32
  ![v2.toNat, 0]
def k0_off2 (i : grid0.Coords) : Fin 3 → Nat :=
  let c0_598 : Index := 0#32
  let arg1 : BitVec 32 := BitVec.ofNat 32 (i 1).val
  let c128_i32 : BitVec 32 := 128#32
  let v0 : BitVec 32 := Scalar.muli arg1 c128_i32
  let v1 : BitVec 32 := v0
  let v2138 : Index := Scalar.indexCast v1
  let c0_599 : Index := 0#32
  ![0, v2138.toNat, 0]
def k0_off3 (i : grid0.Coords) : Fin 3 → Nat :=
  let c0_626 : Index := 0#32
  let c0_627 : Index := 0#32
  let arg1 : BitVec 32 := BitVec.ofNat 32 (i 1).val
  let c128_i32 : BitVec 32 := 128#32
  let v0 : BitVec 32 := Scalar.muli arg1 c128_i32
  let v1 : BitVec 32 := v0
  let v2227 : Index := Scalar.indexCast v1
  ![0, 0, v2227.toNat]
def k0_off4 (i : grid0.Coords) : Fin 3 → Nat :=
  let c1_652 : Index := 1#32
  let arg1 : BitVec 32 := BitVec.ofNat 32 (i 1).val
  let c128_i32 : BitVec 32 := 128#32
  let v0 : BitVec 32 := Scalar.muli arg1 c128_i32
  let v1 : BitVec 32 := v0
  let v2313 : Index := Scalar.indexCast v1
  let c0_653 : Index := 0#32
  ![1, v2313.toNat, 0]
def k0_off5 (i : grid0.Coords) : Fin 3 → Nat :=
  let c1_680 : Index := 1#32
  let c0_681 : Index := 0#32
  let arg1 : BitVec 32 := BitVec.ofNat 32 (i 1).val
  let c128_i32 : BitVec 32 := 128#32
  let v0 : BitVec 32 := Scalar.muli arg1 c128_i32
  let v1 : BitVec 32 := v0
  let v2402 : Index := Scalar.indexCast v1
  ![1, 0, v2402.toNat]
def k0_off6 (i : grid0.Coords) : Fin 3 → Nat :=
  let c2_706 : Index := 2#32
  let arg1 : BitVec 32 := BitVec.ofNat 32 (i 1).val
  let c128_i32 : BitVec 32 := 128#32
  let v0 : BitVec 32 := Scalar.muli arg1 c128_i32
  let v1 : BitVec 32 := v0
  let v2488 : Index := Scalar.indexCast v1
  let c0_707 : Index := 0#32
  ![2, v2488.toNat, 0]
def k0_off7 (i : grid0.Coords) : Fin 3 → Nat :=
  let c2_734 : Index := 2#32
  let c0_735 : Index := 0#32
  let arg1 : BitVec 32 := BitVec.ofNat 32 (i 1).val
  let c128_i32 : BitVec 32 := 128#32
  let v0 : BitVec 32 := Scalar.muli arg1 c128_i32
  let v1 : BitVec 32 := v0
  let v2577 : Index := Scalar.indexCast v1
  ![2, 0, v2577.toNat]
def k0_off8 (i : grid0.Coords) : Fin 3 → Nat :=
  let c3_760 : Index := 3#32
  let arg1 : BitVec 32 := BitVec.ofNat 32 (i 1).val
  let c128_i32 : BitVec 32 := 128#32
  let v0 : BitVec 32 := Scalar.muli arg1 c128_i32
  let v1 : BitVec 32 := v0
  let v2663 : Index := Scalar.indexCast v1
  let c0_761 : Index := 0#32
  ![3, v2663.toNat, 0]
def k0_off9 (i : grid0.Coords) : Fin 3 → Nat :=
  let c3_788 : Index := 3#32
  let c0_789 : Index := 0#32
  let arg1 : BitVec 32 := BitVec.ofNat 32 (i 1).val
  let c128_i32 : BitVec 32 := 128#32
  let v0 : BitVec 32 := Scalar.muli arg1 c128_i32
  let v1 : BitVec 32 := v0
  let v2752 : Index := Scalar.indexCast v1
  ![3, 0, v2752.toNat]
def k0_cond9 (i : grid0.Coords) : BitVec 1 :=
  let arg0 : BitVec 32 := BitVec.ofNat 32 (i 0).val
  let c0_i32_822 : BitVec 32 := 0#32
  let v2850 : BitVec 1 := Scalar.cmpi .eq arg0 c0_i32_822
  let v2851 : BitVec 32 := Scalar.extui v2850
  let c0_i32_823 : BitVec 32 := 0#32
  let v2852 : BitVec 1 := Scalar.cmpi .ne v2851 c0_i32_823
  v2852

def k0_off10 (i : grid0.Coords) : Fin 2 → Nat :=
  let c0_1066 : Index := 0#32
  let arg1 : BitVec 32 := BitVec.ofNat 32 (i 1).val
  let c128_i32 : BitVec 32 := 128#32
  let v0 : BitVec 32 := Scalar.muli arg1 c128_i32
  let v1 : BitVec 32 := v0
  let v3216 : Index := Scalar.indexCast v1
  ![0, v3216.toNat]
def k0_cond10 (i : grid0.Coords) : BitVec 1 :=
  let arg0 : BitVec 32 := BitVec.ofNat 32 (i 0).val
  let c1_i32_824 : BitVec 32 := 1#32
  let v2853 : BitVec 1 := Scalar.cmpi .eq arg0 c1_i32_824
  let v2854 : BitVec 32 := Scalar.extui v2853
  let c0_i32_825 : BitVec 32 := 0#32
  let v2855 : BitVec 1 := Scalar.cmpi .ne v2854 c0_i32_825
  v2855

def k0_off11 (i : grid0.Coords) : Fin 2 → Nat :=
  let c1_1066 : Index := 1#32
  let arg1 : BitVec 32 := BitVec.ofNat 32 (i 1).val
  let c128_i32 : BitVec 32 := 128#32
  let v0 : BitVec 32 := Scalar.muli arg1 c128_i32
  let v1 : BitVec 32 := v0
  let v3216 : Index := Scalar.indexCast v1
  ![1, v3216.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x3072 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x3072 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x24 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x512 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x4 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x512 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x4 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "score_scale_log2" => some (((Real.sqrt 128)⁻¹ * (Real.log 2)⁻¹ : ℝ) : EReal)
  | _ => none
-- ==== ReferenceIdeal.lean ====
abbrev S2x1024x3072 : Shape := ⟨3, ![2, 1024, 3072]⟩
abbrev S2x1024x512 : Shape := ⟨3, ![2, 1024, 512]⟩
abbrev S2x1024 : Shape := ⟨2, ![2, 1024]⟩
abbrev S64 : Shape := ⟨1, ![64]⟩
abbrev S_ : Shape := ⟨0, ![]⟩
abbrev S2x1024x1 : Shape := ⟨3, ![2, 1024, 1]⟩
abbrev S1x1x64 : Shape := ⟨3, ![1, 1, 64]⟩
abbrev S2x1024x64 : Shape := ⟨3, ![2, 1024, 64]⟩
abbrev S2x1024x1x64 : Shape := ⟨4, ![2, 1024, 1, 64]⟩
abbrev S2x1024x24x128 : Shape := ⟨4, ![2, 1024, 24, 128]⟩
abbrev S2x1024x24x64 : Shape := ⟨4, ![2, 1024, 24, 64]⟩
abbrev S2x1024x4x128 : Shape := ⟨4, ![2, 1024, 4, 128]⟩
abbrev S2x1024x4x64 : Shape := ⟨4, ![2, 1024, 4, 64]⟩
abbrev S2x1024x24 : Shape := ⟨3, ![2, 1024, 24]⟩
abbrev S2x1024x24x1 : Shape := ⟨4, ![2, 1024, 24, 1]⟩
abbrev S2x1024x4 : Shape := ⟨3, ![2, 1024, 4]⟩
abbrev S2x1024x4x1 : Shape := ⟨4, ![2, 1024, 4, 1]⟩
abbrev S2x1024x4x6x128 : Shape := ⟨5, ![2, 1024, 4, 6, 128]⟩
abbrev S2x4x1024x6x128 : Shape := ⟨5, ![2, 4, 1024, 6, 128]⟩
abbrev S2x1024x4x6 : Shape := ⟨4, ![2, 1024, 4, 6]⟩
abbrev S2x4x1024x6 : Shape := ⟨4, ![2, 4, 1024, 6]⟩
abbrev S2x4x1024x128 : Shape := ⟨4, ![2, 4, 1024, 128]⟩
abbrev S2x4x1024 : Shape := ⟨3, ![2, 4, 1024]⟩
abbrev S2x4x1x1x1024 : Shape := ⟨5, ![2, 4, 1, 1, 1024]⟩
abbrev S2x4x1024x6x1024 : Shape := ⟨5, ![2, 4, 1024, 6, 1024]⟩
abbrev S2x4x1024x6x1 : Shape := ⟨5, ![2, 4, 1024, 6, 1]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S1x1x1024x1x1024 : Shape := ⟨5, ![1, 1, 1024, 1, 1024]⟩

abbrev nBuf : Space → Nat
  | .hbm => 288
  | .vmem => 0
  | .smem => 0
  | _ => 0

abbrev hbmTy0_0 (i : Nat) : BufTy := match i % 128 with
  | 0 => ⟨S2x1024x3072, .bf16⟩
  | 1 => ⟨S2x1024x512, .bf16⟩
  | 2 => ⟨S2x1024x512, .bf16⟩
  | 3 => ⟨S2x1024, .i32⟩
  | 4 => ⟨S64, .f32⟩
  | 5 => ⟨S_, .f32⟩
  | 6 => ⟨S64, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S2x1024, .f32⟩
  | 21 => ⟨S2x1024x1, .f32⟩
  | 22 => ⟨S1x1x64, .f32⟩
  | 23 => ⟨S2x1024x64, .f32⟩
  | 24 => ⟨S2x1024x64, .f32⟩
  | 25 => ⟨S2x1024x64, .f32⟩
  | 26 => ⟨S2x1024x64, .f32⟩
  | 27 => ⟨S2x1024x1x64, .f32⟩
  | 28 => ⟨S2x1024x64, .f32⟩
  | 29 => ⟨S2x1024x1x64, .f32⟩
  | 30 => ⟨S2x1024x3072, .f32⟩
  | 31 => ⟨S2x1024x24x128, .f32⟩
  | 32 => ⟨S2x1024x24x64, .f32⟩
  | 33 => ⟨S2x1024x24x64, .f32⟩
  | 34 => ⟨S2x1024x24x64, .f32⟩
  | 35 => ⟨S2x1024x24x64, .f32⟩
  | 36 => ⟨S2x1024x24x64, .f32⟩
  | 37 => ⟨S2x1024x24x64, .f32⟩
  | 38 => ⟨S2x1024x24x64, .f32⟩
  | 39 => ⟨S2x1024x24x64, .f32⟩
  | 40 => ⟨S2x1024x24x64, .f32⟩
  | 41 => ⟨S2x1024x24x64, .f32⟩
  | 42 => ⟨S2x1024x24x64, .f32⟩
  | 43 => ⟨S2x1024x24x64, .f32⟩
  | 44 => ⟨S2x1024x24x128, .f32⟩
  | 45 => ⟨S2x1024x512, .f32⟩
  | 46 => ⟨S2x1024x4x128, .f32⟩
  | 47 => ⟨S2x1024x4x64, .f32⟩
  | 48 => ⟨S2x1024x4x64, .f32⟩
  | 49 => ⟨S2x1024x4x64, .f32⟩
  | 50 => ⟨S2x1024x4x64, .f32⟩
  | 51 => ⟨S2x1024x4x64, .f32⟩
  | 52 => ⟨S2x1024x4x64, .f32⟩
  | 53 => ⟨S2x1024x4x64, .f32⟩
  | 54 => ⟨S2x1024x4x64, .f32⟩
  | 55 => ⟨S2x1024x4x64, .f32⟩
  | 56 => ⟨S2x1024x4x64, .f32⟩
  | 57 => ⟨S2x1024x4x64, .f32⟩
  | 58 => ⟨S2x1024x4x64, .f32⟩
  | 59 => ⟨S2x1024x4x128, .f32⟩
  | 60 => ⟨S2x1024x24x128, .f32⟩
  | 61 => ⟨S_, .f32⟩
  | 62 => ⟨S2x1024x24, .f32⟩
  | 63 => ⟨S_, .f32⟩
  | 64 => ⟨S2x1024x24, .f32⟩
  | 65 => ⟨S2x1024x24, .f32⟩
  | 66 => ⟨S_, .f32⟩
  | 67 => ⟨S2x1024x24, .f32⟩
  | 68 => ⟨S2x1024x24, .i1⟩
  | 69 => ⟨S2x1024x24, .f32⟩
  | 70 => ⟨S_, .f32⟩
  | 71 => ⟨S_, .f32⟩
  | 72 => ⟨S_, .f32⟩
  | 73 => ⟨S2x1024x24, .f32⟩
  | 74 => ⟨S2x1024x24, .f32⟩
  | 75 => ⟨S2x1024x24, .f32⟩
  | 76 => ⟨S_, .f32⟩
  | 77 => ⟨S2x1024x24, .f32⟩
  | 78 => ⟨S2x1024x24, .f32⟩
  | 79 => ⟨S_, .f32⟩
  | 80 => ⟨S_, .f32⟩
  | 81 => ⟨S2x1024x24, .f32⟩
  | 82 => ⟨S2x1024x24, .f32⟩
  | 83 => ⟨S_, .f32⟩
  | 84 => ⟨S2x1024x24, .f32⟩
  | 85 => ⟨S2x1024x24, .f32⟩
  | 86 => ⟨S2x1024x24, .f32⟩
  | 87 => ⟨S_, .f32⟩
  | 88 => ⟨S2x1024x24, .f32⟩
  | 89 => ⟨S2x1024x24, .f32⟩
  | 90 => ⟨S2x1024x24x1, .f32⟩
  | 91 => ⟨S2x1024x24x128, .f32⟩
  | 92 => ⟨S2x1024x24x128, .f32⟩
  | 93 => ⟨S_, .f32⟩
  | 94 => ⟨S_, .f32⟩
  | 95 => ⟨S_, .f32⟩
  | 96 => ⟨S2x1024x24x128, .f32⟩
  | 97 => ⟨S2x1024x24x128, .f32⟩
  | 98 => ⟨S_, .f32⟩
  | 99 => ⟨S2x1024x24x128, .f32⟩
  | 100 => ⟨S2x1024x24x128, .f32⟩
  | 101 => ⟨S2x1024x4x128, .f32⟩
  | 102 => ⟨S_, .f32⟩
  | 103 => ⟨S2x1024x4, .f32⟩
  | 104 => ⟨S_, .f32⟩
  | 105 => ⟨S2x1024x4, .f32⟩
  | 106 => ⟨S2x1024x4, .f32⟩
  | 107 => ⟨S_, .f32⟩
  | 108 => ⟨S2x1024x4, .f32⟩
  | 109 => ⟨S2x1024x4, .i1⟩
  | 110 => ⟨S2x1024x4, .f32⟩
  | 111 => ⟨S_, .f32⟩
  | 112 => ⟨S_, .f32⟩
  | 113 => ⟨S_, .f32⟩
  | 114 => ⟨S2x1024x4, .f32⟩
  | 115 => ⟨S2x1024x4, .f32⟩
  | 116 => ⟨S2x1024x4, .f32⟩
  | 117 => ⟨S_, .f32⟩
  | 118 => ⟨S2x1024x4, .f32⟩
  | 119 => ⟨S2x1024x4, .f32⟩
  | 120 => ⟨S_, .f32⟩
  | 121 => ⟨S_, .f32⟩
  | 122 => ⟨S2x1024x4, .f32⟩
  | 123 => ⟨S2x1024x4, .f32⟩
  | 124 => ⟨S_, .f32⟩
  | 125 => ⟨S2x1024x4, .f32⟩
  | 126 => ⟨S2x1024x4, .f32⟩
  | 127 => ⟨S2x1024x4, .f32⟩
  | _ => ⟨S2x1024x3072, .bf16⟩

abbrev hbmTy0_1 (i : Nat) : BufTy := match i % 128 with
  | 0 => ⟨S_, .f32⟩
  | 1 => ⟨S2x1024x4, .f32⟩
  | 2 => ⟨S2x1024x4, .f32⟩
  | 3 => ⟨S2x1024x4x1, .f32⟩
  | 4 => ⟨S2x1024x4x128, .f32⟩
  | 5 => ⟨S2x1024x4x128, .f32⟩
  | 6 => ⟨S_, .f32⟩
  | 7 => ⟨S_, .f32⟩
  | 8 => ⟨S_, .f32⟩
  | 9 => ⟨S2x1024x4x128, .f32⟩
  | 10 => ⟨S2x1024x4x128, .f32⟩
  | 11 => ⟨S_, .f32⟩
  | 12 => ⟨S2x1024x4x128, .f32⟩
  | 13 => ⟨S2x1024x4x128, .f32⟩
  | 14 => ⟨S2x1024x512, .f32⟩
  | 15 => ⟨S2x1024x4x128, .f32⟩
  | 16 => ⟨S2x1024x4x128, .f32⟩
  | 17 => ⟨S_, .f32⟩
  | 18 => ⟨S2x1024x4, .f32⟩
  | 19 => ⟨S_, .f32⟩
  | 20 => ⟨S2x1024x4, .f32⟩
  | 21 => ⟨S2x1024x4, .f32⟩
  | 22 => ⟨S_, .f32⟩
  | 23 => ⟨S2x1024x4, .f32⟩
  | 24 => ⟨S2x1024x4, .i1⟩
  | 25 => ⟨S2x1024x4, .f32⟩
  | 26 => ⟨S_, .f32⟩
  | 27 => ⟨S_, .f32⟩
  | 28 => ⟨S_, .f32⟩
  | 29 => ⟨S2x1024x4, .f32⟩
  | 30 => ⟨S2x1024x4, .f32⟩
  | 31 => ⟨S2x1024x4, .f32⟩
  | 32 => ⟨S_, .f32⟩
  | 33 => ⟨S2x1024x4, .f32⟩
  | 34 => ⟨S2x1024x4, .f32⟩
  | 35 => ⟨S_, .f32⟩
  | 36 => ⟨S_, .f32⟩
  | 37 => ⟨S2x1024x4, .f32⟩
  | 38 => ⟨S2x1024x4, .f32⟩
  | 39 => ⟨S_, .f32⟩
  | 40 => ⟨S2x1024x4, .f32⟩
  | 41 => ⟨S2x1024x4, .f32⟩
  | 42 => ⟨S2x1024x4, .f32⟩
  | 43 => ⟨S_, .f32⟩
  | 44 => ⟨S2x1024x4, .f32⟩
  | 45 => ⟨S2x1024x4, .f32⟩
  | 46 => ⟨S2x1024x4x1, .f32⟩
  | 47 => ⟨S2x1024x4x128, .f32⟩
  | 48 => ⟨S2x1024x4x128, .f32⟩
  | 49 => ⟨S_, .f32⟩
  | 50 => ⟨S_, .f32⟩
  | 51 => ⟨S_, .f32⟩
  | 52 => ⟨S2x1024x4x128, .f32⟩
  | 53 => ⟨S2x1024x4x128, .f32⟩
  | 54 => ⟨S_, .f32⟩
  | 55 => ⟨S2x1024x4x128, .f32⟩
  | 56 => ⟨S2x1024x4x128, .f32⟩
  | 57 => ⟨S2x1024x4x6x128, .f32⟩
  | 58 => ⟨S2x4x1024x6x128, .f32⟩
  | 59 => ⟨S2x1024x4x6, .f32⟩
  | 60 => ⟨S2x4x1024x6, .f32⟩
  | 61 => ⟨S2x4x1024x128, .f32⟩
  | 62 => ⟨S2x1024x4x128, .bf16⟩
  | 63 => ⟨S2x4x1024x128, .bf16⟩
  | 64 => ⟨S2x4x1024, .f32⟩
  | 65 => ⟨S2x4x1x1x1024, .f32⟩
  | 66 => ⟨S2x4x1024, .f32⟩
  | 67 => ⟨S2x4x1x1x1024, .f32⟩
  | 68 => ⟨S2x4x1024x6x1024, .f32⟩
  | 69 => ⟨S2x4x1024x6x1, .f32⟩
  | 70 => ⟨S2x4x1024x6x1024, .f32⟩
  | 71 => ⟨S2x4x1024x6x1024, .f32⟩
  | 72 => ⟨S2x4x1024x6x1024, .f32⟩
  | 73 => ⟨S2x4x1024x6x1024, .f32⟩
  | 74 => ⟨S_, .f32⟩
  | 75 => ⟨S_, .f32⟩
  | 76 => ⟨S_, .f32⟩
  | 77 => ⟨S2x4x1024x6x1024, .f32⟩
  | 78 => ⟨S2x4x1024x6x1024, .f32⟩
  | 79 => ⟨S1024, .i32⟩
  | 80 => ⟨S1x1024, .i32⟩
  | 81 => ⟨S1024, .i32⟩
  | 82 => ⟨S1024x1, .i32⟩
  | 83 => ⟨S1024x1024, .i32⟩
  | 84 => ⟨S1024x1024, .i32⟩
  | 85 => ⟨S1024x1024, .i1⟩
  | 86 => ⟨S1x1x1024x1x1024, .i1⟩
  | 87 => ⟨S_, .f32⟩
  | 88 => ⟨S_, .f32⟩
  | 89 => ⟨S2x4x1024x6x1024, .i1⟩
  | 90 => ⟨S2x4x1024x6x1024, .f32⟩
  | 91 => ⟨S2x4x1024x6x1024, .f32⟩
  | 92 => ⟨S_, .f32⟩
  | 93 => ⟨S2x4x1024x6, .f32⟩
  | 94 => ⟨S_, .f32⟩
  | 95 => ⟨S2x4x1024x6, .f32⟩
  | 96 => ⟨S2x4x1024x6, .f32⟩
  | 97 => ⟨S2x4x1024x6x1, .f32⟩
  | 98 => ⟨S2x4x1024x6x1024, .f32⟩
  | 99 => ⟨S2x4x1024x6x1024, .f32⟩
  | 100 => ⟨S2x4x1024x6x1024, .f32⟩
  | 101 => ⟨S_, .f32⟩
  | 102 => ⟨S2x4x1024x6, .f32⟩
  | 103 => ⟨S2x4x1024x6x1, .f32⟩
  | 104 => ⟨S2x4x1024x6x1024, .f32⟩
  | 105 => ⟨S2x4x1024x6x1024, .f32⟩
  | 106 => ⟨S2x4x1024x6x1024, .f32⟩
  | 107 => ⟨S2x4x1024x6x1024, .f32⟩
  | 108 => ⟨S2x4x1024x6x1024, .bf16⟩
  | 109 => ⟨S2x4x1024x6x128, .f32⟩
  | 110 => ⟨S2x1024x4x6x128, .f32⟩
  | 111 => ⟨S2x1024x3072, .f32⟩
  | 112 => ⟨S2x1024x3072, .f32⟩
  | 113 => ⟨S_, .f32⟩
  | 114 => ⟨S2x1024, .f32⟩
  | 115 => ⟨S_, .f32⟩
  | 116 => ⟨S2x1024, .f32⟩
  | 117 => ⟨S2x1024, .f32⟩
  | 118 => ⟨S_, .f32⟩
  | 119 => ⟨S2x1024, .f32⟩
  | 120 => ⟨S2x1024, .i1⟩
  | 121 => ⟨S2x1024, .f32⟩
  | 122 => ⟨S_, .f32⟩
  | 123 => ⟨S_, .f32⟩
  | 124 => ⟨S_, .f32⟩
  | 125 => ⟨S2x1024, .f32⟩
  | 126 => ⟨S2x1024, .f32⟩
  | 127 => ⟨S2x1024, .f32⟩
  | _ => ⟨S2x1024x3072, .bf16⟩

abbrev hbmTy0_2 (i : Nat) : BufTy := match i % 128 with
  | 0 => ⟨S_, .f32⟩
  | 1 => ⟨S2x1024, .f32⟩
  | 2 => ⟨S2x1024, .f32⟩
  | 3 => ⟨S_, .f32⟩
  | 4 => ⟨S_, .f32⟩
  | 5 => ⟨S2x1024, .f32⟩
  | 6 => ⟨S2x1024, .f32⟩
  | 7 => ⟨S_, .f32⟩
  | 8 => ⟨S2x1024, .f32⟩
  | 9 => ⟨S2x1024, .f32⟩
  | 10 => ⟨S2x1024, .f32⟩
  | 11 => ⟨S_, .f32⟩
  | 12 => ⟨S2x1024, .f32⟩
  | 13 => ⟨S2x1024, .f32⟩
  | 14 => ⟨S2x1024x1, .f32⟩
  | 15 => ⟨S2x1024x3072, .f32⟩
  | 16 => ⟨S2x1024x3072, .f32⟩
  | 17 => ⟨S_, .f32⟩
  | 18 => ⟨S_, .f32⟩
  | 19 => ⟨S_, .f32⟩
  | 20 => ⟨S2x1024x3072, .f32⟩
  | 21 => ⟨S2x1024x3072, .f32⟩
  | 22 => ⟨S_, .f32⟩
  | 23 => ⟨S2x1024x3072, .f32⟩
  | 24 => ⟨S2x1024x3072, .f32⟩
  | 25 => ⟨S2x1024x3072, .fp8e4m3⟩
  | 26 => ⟨S2x1024x24x128, .fp8e4m3⟩
  | 27 => ⟨S2x1024x3072, .fp8e4m3⟩
  | 28 => ⟨S2x1024x4x128, .fp8e4m3⟩
  | 29 => ⟨S2x1024x512, .fp8e4m3⟩
  | 30 => ⟨S2x1024x4x128, .fp8e4m3⟩
  | 31 => ⟨S2x1024x512, .fp8e4m3⟩
  | _ => ⟨S2x1024x3072, .bf16⟩

abbrev hbmTy (i : Nat) : BufTy := match i / 128 with
  | 0 => hbmTy0_0 i
  | 1 => hbmTy0_1 i
  | 2 => hbmTy0_2 i
  | _ => ⟨S2x1024x3072, .bf16⟩

abbrev bufTy : (tb : Table) → Fin (tcTables nBuf tb) → BufTy
  | .hbm, ⟨i, _⟩ => hbmTy i
  | _, _ => ⟨S2x1024x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_4 : Ref sig .tc := ⟨.hbm, 61, rfl⟩
abbrev main_v52 : Ref sig .tc := ⟨.hbm, 62, rfl⟩
abbrev main_cst_5 : Ref sig .tc := ⟨.hbm, 63, rfl⟩
abbrev main_v53 : Ref sig .tc := ⟨.hbm, 64, rfl⟩
abbrev main_v54 : Ref sig .tc := ⟨.hbm, 65, rfl⟩
abbrev main_cst_6 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_7 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_8 : Ref sig .tc := ⟨.hbm, 76, rfl⟩
abbrev main_v63 : Ref sig .tc := ⟨.hbm, 77, rfl⟩
abbrev main_v64 : Ref sig .tc := ⟨.hbm, 78, rfl⟩
abbrev main_cst_9 : Ref sig .tc := ⟨.hbm, 79, rfl⟩
abbrev main_call0_v0 : Ref sig .tc := ⟨.hbm, 80, rfl⟩
abbrev main_call0_v1 : Ref sig .tc := ⟨.hbm, 81, rfl⟩
abbrev main_v65 : Ref sig .tc := ⟨.hbm, 82, rfl⟩
abbrev main_cst_10 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_11 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_12 : Ref sig .tc := ⟨.hbm, 93, rfl⟩
abbrev main_cst_13 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_v74 : Ref sig .tc := ⟨.hbm, 100, rfl⟩
abbrev main_v75 : Ref sig .tc := ⟨.hbm, 101, rfl⟩
abbrev main_cst_14 : Ref sig .tc := ⟨.hbm, 102, rfl⟩
abbrev main_v76 : Ref sig .tc := ⟨.hbm, 103, rfl⟩
abbrev main_cst_15 : Ref sig .tc := ⟨.hbm, 104, rfl⟩
abbrev main_v77 : Ref sig .tc := ⟨.hbm, 105, rfl⟩
abbrev main_v78 : Ref sig .tc := ⟨.hbm, 106, rfl⟩
abbrev main_cst_16 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_18 : Ref sig .tc := ⟨.hbm, 117, rfl⟩
abbrev main_v87 : Ref sig .tc := ⟨.hbm, 118, rfl⟩
abbrev main_v88 : Ref sig .tc := ⟨.hbm, 119, rfl⟩
abbrev main_cst_19 : Ref sig .tc := ⟨.hbm, 120, rfl⟩
abbrev main_call2_v0 : Ref sig .tc := ⟨.hbm, 121, rfl⟩
abbrev main_call2_v1 : Ref sig .tc := ⟨.hbm, 122, rfl⟩
abbrev main_v89 : Ref sig .tc := ⟨.hbm, 123, rfl⟩
abbrev main_cst_20 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_21 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_22 : Ref sig .tc := ⟨.hbm, 134, rfl⟩
abbrev main_cst_23 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_24 : Ref sig .tc := ⟨.hbm, 145, rfl⟩
abbrev main_v102 : Ref sig .tc := ⟨.hbm, 146, rfl⟩
abbrev main_cst_25 : Ref sig .tc := ⟨.hbm, 147, rfl⟩
abbrev main_v103 : Ref sig .tc := ⟨.hbm, 148, rfl⟩
abbrev main_v104 : Ref sig .tc := ⟨.hbm, 149, rfl⟩
abbrev main_cst_26 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_27 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_28 : Ref sig .tc := ⟨.hbm, 160, rfl⟩
abbrev main_v113 : Ref sig .tc := ⟨.hbm, 161, rfl⟩
abbrev main_v114 : Ref sig .tc := ⟨.hbm, 162, rfl⟩
abbrev main_cst_29 : Ref sig .tc := ⟨.hbm, 163, rfl⟩
abbrev main_call4_v0 : Ref sig .tc := ⟨.hbm, 164, rfl⟩
abbrev main_call4_v1 : Ref sig .tc := ⟨.hbm, 165, rfl⟩
abbrev main_v115 : Ref sig .tc := ⟨.hbm, 166, rfl⟩
abbrev main_cst_30 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_cst_31 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_cst_32 : Ref sig .tc := ⟨.hbm, 177, rfl⟩
abbrev main_cst_33 : Ref sig .tc := ⟨.hbm, 178, rfl⟩
abbrev main_call5_v0 : Ref sig .tc := ⟨.hbm, 179, rfl⟩
abbrev main_call5_v1 : Ref sig .tc := ⟨.hbm, 180, rfl⟩
abbrev main_call5_v2 : Ref sig .tc := ⟨.hbm, 181, rfl⟩
abbrev main_call5_v3 : Ref sig .tc := ⟨.hbm, 182, rfl⟩
abbrev main_call5_v4 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_cst_34 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_cst_35 : Ref sig .tc := ⟨.hbm, 215, rfl⟩
abbrev main_call6_v0 : Ref sig .tc := ⟨.hbm, 216, rfl⟩
abbrev main_call6_v1 : Ref sig .tc := ⟨.hbm, 217, rfl⟩
abbrev main_call6_v2 : Ref sig .tc := ⟨.hbm, 218, rfl⟩
abbrev main_v154 : Ref sig .tc := ⟨.hbm, 219, rfl⟩
abbrev main_cst_36 : Ref sig .tc := ⟨.hbm, 220, rfl⟩
abbrev main_v155 : Ref sig .tc := ⟨.hbm, 221, rfl⟩
abbrev main_cst_37 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_cst_38 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_cst_39 : Ref sig .tc := ⟨.hbm, 241, rfl⟩
abbrev main_v173 : Ref sig .tc := ⟨.hbm, 242, rfl⟩
abbrev main_cst_40 : Ref sig .tc := ⟨.hbm, 243, rfl⟩
abbrev main_v174 : Ref sig .tc := ⟨.hbm, 244, rfl⟩
abbrev main_v175 : Ref sig .tc := ⟨.hbm, 245, rfl⟩
abbrev main_cst_41 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_cst_42 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_cst_43 : Ref sig .tc := ⟨.hbm, 256, rfl⟩
abbrev main_v184 : Ref sig .tc := ⟨.hbm, 257, rfl⟩
abbrev main_v185 : Ref sig .tc := ⟨.hbm, 258, rfl⟩
abbrev main_cst_44 : Ref sig .tc := ⟨.hbm, 259, rfl⟩
abbrev main_call7_v0 : Ref sig .tc := ⟨.hbm, 260, rfl⟩
abbrev main_call7_v1 : Ref sig .tc := ⟨.hbm, 261, rfl⟩
abbrev main_v186 : Ref sig .tc := ⟨.hbm, 262, rfl⟩
abbrev main_cst_45 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_cst_46 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_cst_47 : Ref sig .tc := ⟨.hbm, 273, rfl⟩
abbrev main_cst_48 : Ref sig .tc := ⟨.hbm, 274, rfl⟩
abbrev main_call8_v0 : Ref sig .tc := ⟨.hbm, 275, rfl⟩
abbrev main_call8_v1 : Ref sig .tc := ⟨.hbm, 276, rfl⟩
abbrev main_call8_v2 : Ref sig .tc := ⟨.hbm, 277, rfl⟩
abbrev main_call8_v3 : Ref sig .tc := ⟨.hbm, 278, rfl⟩
abbrev main_call8_v4 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_v200 : Ref sig .tc := ⟨.hbm, 285, rfl⟩
abbrev main_v201 : Ref sig .tc := ⟨.hbm, 286, rfl⟩
abbrev main_v202 : Ref sig .tc := ⟨.hbm, 287, rfl⟩

abbrev nD : Nat := 1
abbrev τ : Topo := Topo.v7x

variable {F : FTy → Type} [FloatOps F]
-- ==== Proof.Lang.lean ====
module

public import proofs.«01_k».proof.Proof.Gen.KernelIdeal

/-!
# The kernel body as a program over named buffers

The body touches memory only by loading a rectangle of a buffer and by storing to one. `Cmd` is the language of such
programs; `Cmd.exec` is what one does to the contents of the buffers, `Cmd.prog` the program of the machine it stands
for, given the memrefs of the buffers.
-/

@[expose] public section

noncomputable section

namespace Cert.Attn

open Idealize.ShloMosaic Idealize.SL.Sem
open Cert.KernelIdeal (S2x1024 S2x128 S64x128 S1x128x3072 S1x128x512 S1x128x24 S1x128x4 S24x128 S4x1024x128 S4x128x1024
  S1024x512 S24x128x128 S8x128 S128x3072)

/-- The buffers of the body: five inputs, eight results, nine scratch buffers. -/
inductive Buf0 where
  | pos | freq | x | k | v
  | oc | os | qc | qso | kco | kso | vco | vso
  | qs | kc | ks | vt | t | p | o | rl | am
deriving DecidableEq

namespace Buf0

/-- The shape of a buffer. -/
@[reducible] def shape : Buf0 → Shape
  | pos => S2x128 | freq => S64x128 | x => S1x128x3072 | k => S1x128x512 | v => S1x128x512
  | oc => S1x128x3072 | os => S2x1024 | qc => S1x128x3072 | qso => S1x128x24 | kco => S1x128x512 | kso => S1x128x4
  | vco => S1x128x512 | vso => S1x128x4
  | qs => S24x128 | kc => S4x1024x128 | ks => S4x1024x128 | vt => S4x128x1024 | t => S1024x512 | p => S1024x512
  | o => S24x128x128 | rl => S24x128 | am => S8x128

/-- The element type of a buffer. -/
@[reducible] def elt : Buf0 → EltTy
  | pos => .i32 | freq => .f32 | x => .bf16 | k => .bf16 | v => .bf16
  | oc => .fp8e4m3 | os => .f32 | qc => .fp8e4m3 | qso => .f32 | kco => .fp8e4m3 | kso => .f32
  | vco => .fp8e4m3 | vso => .f32
  | qs => .f32 | kc => .fp8e4m3 | ks => .f32 | vt => .bf16 | t => .f32 | p => .bf16
  | o => .f32 | rl => .f32 | am => .f32

end Buf0

variable (F : FTy → Type)

/-- The contents of every buffer. -/
abbrev St := ∀ b : Buf0, Vec F b.shape b.elt

/-- A program that loads and stores rectangles of the buffers; `loadQ` loads from the query codes with the leading unit
    axis dropped. -/
inductive Cmd (α : Type) : Type 1 where
  | ret (a : α) : Cmd α
  | load (b : Buf0) (r : Rect b.shape) (h : 0 < r.shape.numel) (k : (r.shape.Idx → Elt F b.elt) → Cmd α) : Cmd α
  | loadQ (r : Rect S128x3072) (h : 0 < r.shape.numel) (k : (r.shape.Idx → Elt F .fp8e4m3) → Cmd α) : Cmd α
  | store (b : Buf0) (r : Rect b.shape) (h : 0 < r.shape.numel) (hp : r.PackedRows (EltTy.packing b.elt))
      (w : r.shape.Idx → Elt F b.elt) (k : Cmd α) : Cmd α

variable {F}

namespace Cmd

/-- One program, then another on its answer. -/
def bind {α β : Type} : Cmd F α → (α → Cmd F β) → Cmd F β
  | .ret a, f => f a
  | .load b r h k, f => .load b r h fun v => (k v).bind f
  | .loadQ r h k, f => .loadQ r h fun v => (k v).bind f
  | .store b r h hp w k, f => .store b r h hp w (k.bind f)

instance : Monad (Cmd F) where
  pure := .ret
  bind := bind

/-- What a store of `w` through the rectangle `r` makes of the contents `X`. -/
def upd {s : Shape} {e : EltTy} (r : Rect s) (w : r.shape.Idx → Elt F e) (X : Vec F s e) : Vec F s e :=
  fun i => match preimage? r.emb i with
    | some j => w j
    | none => X i

/-- The query codes read with the leading unit axis dropped. -/
def flatQ (X : Vec F S1x128x3072 .fp8e4m3) : Vec F S128x3072 .fp8e4m3 :=
  fun y => X (Shape.reshapeEquiv (Cert.KernelIdeal.Gen.squeezes_S1x128x3072_S128x3072).numel_eq y)

/-- A program's answer, and the contents it leaves. -/
def exec {α : Type} : Cmd F α → St F → α × St F
  | .ret a, σ => (a, σ)
  | .load b r _ k, σ => (k fun j => σ b (r.idx j)).exec σ
  | .loadQ r _ k, σ => (k fun j => flatQ (σ .qc) (r.idx j)).exec σ
  | .store b r _ _ w k, σ => k.exec (Function.update σ b (upd r w (σ b)))

variable {nD : Nat} {τ : Topo} {sig : RefSig} {Λ : Labels}

/-- The machine's program, over the memrefs `M` of the buffers. -/
def prog {α : Type} (M : ∀ b : Buf0, Memref sig .tc .vmem b.shape b.elt) (hM : ∀ b, (M b).IsWhole) :
    Cmd F α → Prog (TpuEff nD τ sig (Elt F) Λ .tc) α
  | .ret a => .ret a
  | .load b r h k => .op (.load (M b) r.toLoadRect (View.loadsAt_vmem h)) fun v => (k v).prog M hM
  | .loadQ r h k =>
      .op (.load (((M .qc).slice (Rect.unit (s := S1x128x3072) ![0, 0, 0] S1x128x3072.size
          Cert.KernelIdeal.Gen.inb_S1x128x3072_S1x128x3072_0_0_0) (fun _ => rfl)).squeeze S128x3072
            Cert.KernelIdeal.Gen.squeezes_S1x128x3072_S128x3072) r.toLoadRect (View.loadsAt_vmem h)) fun v => (k v).prog M hM
  | .store b r h hp w k =>
      .op (.store (M b) r w Finset.univ (View.stores_vmem h ((hM b).storeExact_slice rfl _ hp) (fun _ => rfl)) (.inl rfl))
        fun _ => k.prog M hM

/-- Load a rectangle. -/
def ld (b : Buf0) (r : Rect b.shape) (h : 0 < r.shape.numel) : Cmd F (r.shape.Idx → Elt F b.elt) := .load b r h .ret

/-- Load a rectangle of the query codes. -/
def ldQ (r : Rect S128x3072) (h : 0 < r.shape.numel) : Cmd F (r.shape.Idx → Elt F .fp8e4m3) := .loadQ r h .ret

/-- Store to a rectangle what is made after a load of it that nothing uses. -/
def put (b : Buf0) (r : Rect b.shape) (h : 0 < r.shape.numel) (hp : r.PackedRows (EltTy.packing b.elt))
    (w : r.shape.Idx → Elt F b.elt) : Cmd F Unit :=
  .load b r h fun _ => .store b r h hp w (.ret ())

/-- The programs of a list, one after another. -/
def each {ι : Type} (f : ι → Cmd F Unit) : List ι → Cmd F Unit
  | [] => .ret ()
  | a :: l => (f a).bind fun _ => each f l

end Cmd

end Cert.Attn
-- ==== Proof.Body.lean ====
module

public import proofs.«01_k».proof.Proof.Lang

/-!
# The kernel body

The body of the kernel at batch `b` and query block `n`, written once in the language of `Lang` with its loops over
heads, head groups, pairs of heads and key blocks as recursions. `c` is the constant the scores are multiplied by.
-/

@[expose] public section

noncomputable section

namespace Cert.Attn

open Idealize.ShloMosaic Idealize.SL.Sem
open Cert.KernelIdeal (S2x1024 S2x128 S64x128 S1x128x3072 S1x128x512 S1x128x24 S1x128x4 S24x128 S4x1024x128 S4x128x1024
  S1024x512 S24x128x128 S8x128 S128x3072 S1x128 S1x128x128 S128x128 S128 S128x24 S4x128 S128x4 S128x256 S256x128 S1x256
  S16x8x256 S8x256 S256)
open Cert.KernelIdeal.Gen

/-! ### Rectangles -/

/-- The rectangle of rank two at offset `(o0, o1)` of sizes `(s0, s1)`. -/
@[reducible] def rect2 {d0 d1 : Nat} (o0 o1 s0 s1 : Nat) (h : o0 + s0 ≤ d0 ∧ o1 + s1 ≤ d1) : Rect ⟨2, ![d0, d1]⟩ :=
  Rect.unit (s := ⟨2, ![d0, d1]⟩) ![o0, o1] ![s0, s1] (Fin.forall_fin_two.2 h)

/-- The rectangle of rank three at offset `(o0, o1, o2)` of sizes `(s0, s1, s2)`. -/
@[reducible] def rect3 {d0 d1 d2 : Nat} (o0 o1 o2 s0 s1 s2 : Nat) (h : o0 + s0 ≤ d0 ∧ o1 + s1 ≤ d1 ∧ o2 + s2 ≤ d2) :
    Rect ⟨3, ![d0, d1, d2]⟩ :=
  Rect.unit (s := ⟨3, ![d0, d1, d2]⟩) ![o0, o1, o2] ![s0, s1, s2] (by
    intro a; fin_cases a
    · exact h.1
    · exact h.2.1
    · exact h.2.2)

theorem numel2 {d0 d1 o0 o1 s0 s1 : Nat} (h : o0 + s0 ≤ d0 ∧ o1 + s1 ≤ d1) (h0 : 0 < s0) (h1 : 0 < s1) :
    0 < (rect2 o0 o1 s0 s1 h).shape.numel := by
  show 0 < ∏ a : Fin 2, (![s0, s1] : Fin 2 → Nat) a
  rw [Fin.prod_univ_two]; exact Nat.mul_pos h0 h1

theorem numel3 {d0 d1 d2 o0 o1 o2 s0 s1 s2 : Nat} (h : o0 + s0 ≤ d0 ∧ o1 + s1 ≤ d1 ∧ o2 + s2 ≤ d2) (h0 : 0 < s0)
    (h1 : 0 < s1) (h2 : 0 < s2) : 0 < (rect3 o0 o1 o2 s0 s1 s2 h).shape.numel := by
  show 0 < ∏ a : Fin 3, (![s0, s1, s2] : Fin 3 → Nat) a
  rw [Fin.prod_univ_three]; exact Nat.mul_pos (Nat.mul_pos h0 h1) h2

theorem packed2 {p d0 d1 o0 o1 s0 s1 : Nat} (h : o0 + s0 ≤ d0 ∧ o1 + s1 ≤ d1) (ho : p ∣ o0) (hs : p ∣ s0) :
    (rect2 o0 o1 s0 s1 h).PackedRows p :=
  .inr ⟨le_refl 2, rfl, .inl ⟨ho, hs⟩⟩

theorem packed3 {p d0 d1 d2 o0 o1 o2 s0 s1 s2 : Nat} (h : o0 + s0 ≤ d0 ∧ o1 + s1 ≤ d1 ∧ o2 + s2 ≤ d2) (ho : p ∣ o1)
    (hs : p ∣ s1) : (rect3 o0 o1 o2 s0 s1 s2 h).PackedRows p := by
  refine .inr ⟨show 2 ≤ 3 by decide, rfl, .inl ⟨?_, ?_⟩⟩
  · exact ho
  · exact hs

variable {F : FTy → Type} [FloatOps F]

/-! ### The values the body computes -/

/-- A head's block of a bf16 array, transposed: feature by token. -/
def headT (v : Vec F S1x128x128 .bf16) : FVec F S128x128 .f32 :=
  transpose S128x128 [1, 0] (extf .f32 (shapeCast S128x128 v shapeCasts_S1x128x128_S128x128 : FVec F S128x128 .bf16) bitsLt_bf16_f32)
    transposes_S128x128_p1_0_S128x128

/-- The rotary embedding of a transposed head. -/
def rot (cs sn : FVec F S64x128 .f32) (xt : FVec F S128x128 .f32) : FVec F S128x128 .f32 :=
  let a := extractStridedSlice S64x128 ![0, 0] xt slices_S128x128_o0_0_S64x128
  let b := extractStridedSlice S64x128 ![64, 0] xt slices_S128x128_o64_0_S64x128
  concatenate S128x128 0 [⟨S64x128, subf (mulf a cs) (mulf b sn)⟩, ⟨S64x128, addf (mulf b cs) (mulf a sn)⟩]
    concatenates_S64x128_S64x128_S128x128_d0

/-- The largest magnitude of each token of a transposed head. -/
def amaxT (xt : FVec F S128x128 .f32) : FVec F S1x128 .f32 :=
  shapeCast S1x128 (multiReduction .maximumf [0] S128 (absf xt) 0xFF800000#32 reduces_S128x128_S128 (.inl rfl) rfl)
    shapeCasts_S128_S1x128

/-- The magnitudes divided by the largest code. -/
def over448 (a : FVec F S1x128 .f32) : FVec F S1x128 .f32 := mulf a (broadcast S1x128 (Scalar.ofBits .f32 0x3B124925#32))

/-- One step of the search for the exponent bits: take the bit `w` unless that exceeds `y`. -/
def expStep (y : FVec F S1x128 .f32) (w : BitVec 32) (e : IVec S1x128 32) : IVec S1x128 32 :=
  select (cmpf .olt y (bitcastToFloat .f32 (addi e (broadcast S1x128 w)))) e (addi e (broadcast S1x128 w))

/-- The exponent bits of `y ≥ 0`. -/
def expBits (y : FVec F S1x128 .f32) : IVec S1x128 32 :=
  expStep y 8388608#32 <| expStep y 16777216#32 <| expStep y 33554432#32 <| expStep y 67108864#32 <|
  expStep y 134217728#32 <| expStep y 268435456#32 <| expStep y 536870912#32 <| expStep y 1073741824#32 <|
  broadcast S1x128 0#32

/-- The scale of exponent bits. -/
def scaleOf (e : IVec S1x128 32) : FVec F S1x128 .f32 :=
  select (cmpi .eq e (broadcast S1x128 0#32)) (broadcast S1x128 (Scalar.ofBits .f32 0x3F800000#32))
    (bitcastToFloat .f32 (addi e (broadcast S1x128 8388608#32)))

/-- The reciprocal of the scale of exponent bits. -/
def invOf (e : IVec S1x128 32) : FVec F S1x128 .f32 :=
  select (cmpi .eq e (broadcast S1x128 0#32)) (broadcast S1x128 (Scalar.ofBits .f32 0x3F800000#32))
    (bitcastToFloat .f32 (subi (broadcast S1x128 2122317824#32) e))

/-- The clip to the range of the codes. -/
def clip (v : FVec F S128x128 .f32) : FVec F S128x128 .f32 :=
  minimumf (broadcast S128x128 (Scalar.ofBits .f32 0x43E00000#32))
    (maximumf (broadcast S128x128 (Scalar.ofBits .f32 0xC3E00000#32)) v)

/-- The scale of each token of a transposed head. -/
def scaleT (xt : FVec F S128x128 .f32) : FVec F S1x128 .f32 := scaleOf (expBits (over448 (amaxT xt)))

/-- The codes of a transposed head, before their rounding. -/
def codesT (xt : FVec F S128x128 .f32) : FVec F S128x128 .f32 :=
  clip (mulf xt (broadcastTo S128x128 (invOf (expBits (over448 (amaxT xt)))) broadcasts_S1x128_S128x128))

/-- A transposed head's codes, token by feature, rounded. -/
def codesOut (v : FVec F S128x128 .f32) : FVec F S128x128 .fp8e4m3 :=
  truncf .fp8e4m3 (transpose S128x128 [1, 0] v transposes_S128x128_p1_0_S128x128) bitsLt_fp8e4m3_f32

/-- Which keys a query of the diagonal block sees, for two heads side by side. -/
def causal : IVec S128x256 1 :=
  let m := cmpi .sle (iota .tc S128x128 32 [0] iota_S128x128_d0_w32) (iota .tc S128x128 32 [1] iota_S128x128_d1_w32)
  concatenate S128x256 1 [⟨S128x128, m⟩, ⟨S128x128, m⟩] concatenates_S128x128_S128x128_S128x256_d1

/-- A maximum over eight rows. -/
def max8 (v : FVec F S8x256 .f32) : FVec F S1x256 .f32 :=
  shapeCast S1x256 (multiReduction .maximumf [0] S256 v 0xFF800000#32 reduces_S8x256_S256 (.inl rfl) rfl) shapeCasts_S256_S1x256

/-- A sum over eight rows. -/
def sum8 (v : FVec F S8x256 .f32) : FVec F S1x256 .f32 :=
  shapeCast S1x256 (multiReduction .add [0] S256 v 0x00000000#32 reduces_S8x256_S256 (.inl rfl) rfl) shapeCasts_S256_S1x256

/-- A maximum over sixteen groups of eight rows. -/
def max16 (v : FVec F S128x256 .f32) : FVec F S8x256 .f32 :=
  multiReduction .maximumf [0] S8x256 (shapeCast S16x8x256 v shapeCasts_S128x256_S16x8x256) 0xFF800000#32
    reduces_S16x8x256_S8x256 (.inl rfl) rfl

/-- A sum over sixteen groups of eight rows. -/
def sum16 (v : FVec F S128x256 .f32) : FVec F S8x256 .f32 :=
  multiReduction .add [0] S8x256 (shapeCast S16x8x256 v shapeCasts_S128x256_S16x8x256) 0x00000000#32
    reduces_S16x8x256_S8x256 (.inl rfl) rfl

/-! ### The loops -/

open Cmd

/-- A query head: its codes to the result, its scales to the scratch buffer. -/
def qHead (cs sn : FVec F S64x128 .f32) (h : Fin 24) : Cmd F Unit := do
  let v : Vec F S1x128x128 .bf16 ←
    ld .x (rect3 0 0 (h * 128) 1 128 128 (by omega)) (numel3 _ (by omega) (by omega) (by omega))
  let xt := rot cs sn (headT v)
  put .qc (rect3 0 0 (h * 128) 1 128 128 (by omega)) (numel3 _ (by omega) (by omega) (by omega)) (packed3 _ (by decide) (by decide))
    (shapeCast S1x128x128 (codesOut (codesT xt)) shapeCasts_S128x128_S1x128x128)
  put .qs (rect2 h 0 1 128 (by omega)) (numel2 _ (by omega) (by omega)) (packed2 _ (one_dvd _) (one_dvd _))
    (shapeCast S1x128 (scaleT xt) shapeCasts_S1x128_S1x128)

/-- A key and value head of block `n`: codes to the results and to the cache; its key and value scales. -/
def kvHead (n : Fin 8) (cs sn : FVec F S64x128 .f32) (g : Fin 4) : Cmd F (FVec F S1x128 .f32 × FVec F S1x128 .f32) := do
  let k : Vec F S1x128x128 .bf16 ←
    ld .k (rect3 0 0 (g * 128) 1 128 128 (by omega)) (numel3 _ (by omega) (by omega) (by omega))
  let kt := rot cs sn (headT k)
  put .kco (rect3 0 0 (g * 128) 1 128 128 (by omega)) (numel3 _ (by omega) (by omega) (by omega)) (packed3 _ (by decide) (by decide))
    (shapeCast S1x128x128 (codesOut (codesT kt)) shapeCasts_S128x128_S1x128x128)
  put .kc (rect3 g (n * 128) 0 1 128 128 (by omega)) (numel3 _ (by omega) (by omega) (by omega))
    (packed3 _ (Dvd.dvd.mul_left (by decide) _) (by decide))
    (shapeCast S1x128x128 (codesOut (codesT kt)) shapeCasts_S128x128_S1x128x128)
  put .ks (rect3 g (n * 128) 0 1 128 128 (by omega)) (numel3 _ (by omega) (by omega) (by omega)) (packed3 _ (one_dvd _) (one_dvd _))
    (shapeCast S1x128x128 (transpose S128x128 [1, 0]
      (broadcastTo S128x128 (shapeCast S1x128 (scaleT kt) shapeCasts_S1x128_S1x128) broadcasts_S1x128_S128x128)
      transposes_S128x128_p1_0_S128x128) shapeCasts_S128x128_S1x128x128)
  let v : Vec F S1x128x128 .bf16 ←
    ld .v (rect3 0 0 (g * 128) 1 128 128 (by omega)) (numel3 _ (by omega) (by omega) (by omega))
  let vt := headT v
  put .vco (rect3 0 0 (g * 128) 1 128 128 (by omega)) (numel3 _ (by omega) (by omega) (by omega)) (packed3 _ (by decide) (by decide))
    (shapeCast S1x128x128 (codesOut (codesT vt)) shapeCasts_S128x128_S1x128x128)
  put .vt (rect3 g 0 (n * 128) 1 128 128 (by omega)) (numel3 _ (by omega) (by omega) (by omega)) (packed3 _ (by decide) (by decide))
    (shapeCast S1x128x128 (truncf .bf16 (mulf (extf .f32 (truncf .fp8e4m3 (codesT vt) bitsLt_fp8e4m3_f32) bitsLt_fp8e4m3_f32)
      (broadcastTo S128x128 (scaleT vt) broadcasts_S1x128_S128x128)) bitsLt_bf16_f32) shapeCasts_S128x128_S1x128x128)
  pure (scaleT kt, scaleT vt)

/-- The lanes of the scratch buffers a pair of heads uses. -/
def lane (g : Fin 4) (p : Fin 3) : Nat := (g * 3 + p) % 2 * 256

theorem lane_le (g : Fin 4) (p : Fin 3) : lane g p + 256 ≤ 512 := by unfold lane; omega

/-- The scores of a key block against a pair of query heads: stored, and their maxima over groups of rows. -/
def scoreBlk (n : Fin 8) (g : Fin 4) (p : Fin 3) (q : FVec F S256x128 .fp8e4m3) (kb : Nat) (hk : kb < 8) :
    Cmd F (FVec F S8x256 .f32) := do
  let kc : Vec F S1x128x128 .fp8e4m3 ←
    ld .kc (rect3 g (kb * 128) 0 1 128 128 (by omega)) (numel3 _ (by omega) (by omega) (by omega))
  let s := matmul Cert.KernelIdeal.dot_S128x128_S256x128_S128x256_1_1_0_0_n_n none
    (shapeCast S128x128 kc shapeCasts_S1x128x128_S128x128 : FVec F S128x128 .fp8e4m3) q (constant S128x256 .f32 0x00000000#32)
  let ks : Vec F S1x128x128 .f32 ←
    ld .ks (rect3 g (kb * 128) 0 1 128 128 (by omega)) (numel3 _ (by omega) (by omega) (by omega))
  let ks' : FVec F S128x128 .f32 := shapeCast S128x128 ks shapeCasts_S1x128x128_S128x128
  let t := mulf s (concatenate S128x256 1 [⟨S128x128, ks'⟩, ⟨S128x128, ks'⟩] concatenates_S128x128_S128x128_S128x256_d1)
  let t := if kb = n then select causal t (broadcast S128x256 (Scalar.ofBits .f32 0xFF800000#32)) else t
  put .t (rect2 (kb * 128) (lane g p) 128 256 ⟨by omega, lane_le g p⟩) (numel2 _ (by omega) (by omega)) (packed2 _ (one_dvd _) (one_dvd _))
    (shapeCast S128x256 t shapeCasts_S128x256_S128x256)
  pure (max16 t)

/-- The scores of the key blocks up to `kb`. -/
def scoreLoop (n : Fin 8) (g : Fin 4) (p : Fin 3) (q : FVec F S256x128 .fp8e4m3) : (kb : Nat) → kb < 8 → Cmd F (FVec F S8x256 .f32)
  | 0, h => scoreBlk n g p q 0 h
  | kb + 1, h => do
    let m ← scoreLoop n g p q kb (by omega)
    let bm ← scoreBlk n g p q (kb + 1) h
    pure (maximumf m bm)

/-- The weights of a key block: stored, and their sums over groups of rows. -/
def expBlk (g : Fin 4) (p : Fin 3) (qs m : FVec F S1x256 .f32) (kb : Nat) (hk : kb < 8) : Cmd F (FVec F S8x256 .f32) := do
  let t : Vec F S128x256 .f32 ←
    ld .t (rect2 (kb * 128) (lane g p) 128 256 ⟨by omega, lane_le g p⟩) (numel2 _ (by omega) (by omega))
  let e := exp2 (subf (mulf (t : FVec F S128x256 .f32) (broadcastTo S128x256 qs broadcasts_S1x256_S128x256))
    (broadcastTo S128x256 m broadcasts_S1x256_S128x256))
  put .p (rect2 (kb * 128) (lane g p) 128 256 ⟨by omega, lane_le g p⟩) (numel2 _ (by omega) (by omega))
    (packed2 _ (Dvd.dvd.mul_left (by decide) _) (by decide))
    (shapeCast S128x256 (truncf .bf16 e bitsLt_bf16_f32) shapeCasts_S128x256_S128x256)
  pure (sum16 e)

/-- The weights of the key blocks up to `kb`. -/
def expLoop (g : Fin 4) (p : Fin 3) (qs m : FVec F S1x256 .f32) : (kb : Nat) → kb < 8 → Cmd F (FVec F S8x256 .f32)
  | 0, h => expBlk g p qs m 0 h
  | kb + 1, h => do
    let d ← expLoop g p qs m kb (by omega)
    let bs ← expBlk g p qs m (kb + 1) h
    pure (addf d bs)

theorem vtCast (n : Fin 8) :
    (⟨3, ![1, 128, (n + 1) * 128]⟩ : Shape).ShapeCasts ⟨2, ![128, (n + 1) * 128]⟩ := by
  fin_cases n <;> decide

/-- The larger of the running maximum and a new one. -/
def maxOpt (a : Option (FVec F S1x128 .f32)) (b : FVec F S1x128 .f32) : FVec F S1x128 .f32 :=
  match a with
  | none => b
  | some a => maximumf a b

/-- A head's unnormalised output and the reciprocal of its weights' sum: stored. -/
def outHead (h : Nat) (hh : h < 24) (o : FVec F S128x128 .f32) (rl : FVec F S1x128 .f32) : Cmd F Unit := do
  put .o (rect3 h 0 0 1 128 128 (by omega)) (numel3 _ (by omega) (by omega) (by omega)) (packed3 _ (one_dvd _) (one_dvd _))
    (shapeCast S1x128x128 o shapeCasts_S128x128_S1x128x128)
  put .rl (rect2 h 0 1 128 (by omega)) (numel2 _ (by omega) (by omega)) (packed2 _ (one_dvd _) (one_dvd _))
    (shapeCast S1x128 rl shapeCasts_S1x128_S1x128)

/-- The attention of a pair of query heads; `amax` is the running maximum of the outputs' magnitudes. -/
def pair (c : F .f32) (n : Fin 8) (g : Fin 4) (p : Fin 3) (amax : Option (FVec F S1x128 .f32)) : Cmd F (FVec F S1x128 .f32) := do
  let q0 : Vec F S128x128 .fp8e4m3 ←
    ldQ (rect2 0 ((g * 6 + p * 2) * 128) 128 128 (by omega)) (numel2 _ (by omega) (by omega))
  let q1 : Vec F S128x128 .fp8e4m3 ←
    ldQ (rect2 0 ((g * 6 + p * 2 + 1) * 128) 128 128 (by omega)) (numel2 _ (by omega) (by omega))
  let q : FVec F S256x128 .fp8e4m3 :=
    concatenate S256x128 0 [⟨S128x128, shapeCast S128x128 q0 shapeCasts_S128x128_S128x128⟩,
      ⟨S128x128, shapeCast S128x128 q1 shapeCasts_S128x128_S128x128⟩] concatenates_S128x128_S128x128_S256x128_d0
  let s0 : Vec F S1x128 .f32 ← ld .qs (rect2 (g * 6 + p * 2) 0 1 128 (by omega)) (numel2 _ (by omega) (by omega))
  let s1 : Vec F S1x128 .f32 ← ld .qs (rect2 (g * 6 + p * 2 + 1) 0 1 128 (by omega)) (numel2 _ (by omega) (by omega))
  let qs : FVec F S1x256 .f32 :=
    mulf (concatenate S1x256 1 [⟨S1x128, s0⟩, ⟨S1x128, s1⟩] concatenates_S1x128_S1x128_S1x256_d1) (broadcast S1x256 c)
  let mx ← scoreLoop n g p q n n.2
  let m := mulf (max8 mx) qs
  let den ← expLoop g p qs m n n.2
  let rl := divf (broadcast S1x256 (Scalar.ofBits .f32 0x3F800000#32)) (sum8 den)
  let vt : Vec F ⟨3, ![1, 128, (n + 1) * 128]⟩ .bf16 ←
    ld .vt (rect3 g 0 0 1 128 ((n + 1) * 128) (by omega)) (numel3 _ (by omega) (by omega) (by omega))
  let vt' : FVec F ⟨2, ![128, (n + 1) * 128]⟩ .bf16 := shapeCast ⟨2, ![128, (n + 1) * 128]⟩ vt (vtCast n)
  let pm : Vec F ⟨2, ![(n + 1) * 128, 256]⟩ .bf16 ←
    ld .p (rect2 0 (lane g p) ((n + 1) * 128) 256 ⟨by omega, lane_le g p⟩) (numel2 _ (by omega) (by omega))
  let ot : FVec F S128x256 .f32 :=
    matmul (DotDims.plain 128 ((n + 1) * 128) 256) none vt' (pm : FVec F ⟨2, ![(n + 1) * 128, 256]⟩ .bf16)
      (constant S128x256 .f32 0x00000000#32)
  let am := mulf (shapeCast S1x256 (multiReduction .maximumf [0] S256 (absf ot) 0xFF800000#32 reduces_S128x256_S256 (.inl rfl) rfl)
    shapeCasts_S256_S1x256) rl
  outHead (g * 6 + p * 2) (by omega) (extractStridedSlice S128x128 ![0, 0] ot slices_S128x256_o0_0_S128x128)
    (extractStridedSlice S1x128 ![0, 0] rl slices_S1x256_o0_0_S1x128)
  let amax := maxOpt amax (extractStridedSlice S1x128 ![0, 0] am slices_S1x256_o0_0_S1x128)
  outHead (g * 6 + p * 2 + 1) (by omega) (extractStridedSlice S128x128 ![0, 128] ot slices_S128x256_o0_128_S128x128)
    (extractStridedSlice S1x128 ![0, 128] rl slices_S1x256_o0_128_S1x128)
  pure (maximumf amax (extractStridedSlice S1x128 ![0, 128] am slices_S1x256_o0_128_S1x128))

/-- The attention of the query heads of one key and value head. -/
def group (c : F .f32) (n : Fin 8) (g : Fin 4) : Cmd F (FVec F S1x128 .f32) := do
  let a0 ← pair c n g 0 none
  let a1 ← pair c n g 1 (some a0)
  pair c n g 2 (some a1)

/-- An output head's codes. -/
def oHead (inv : FVec F S1x128 .f32) (h : Fin 24) : Cmd F Unit := do
  let o : Vec F S1x128x128 .f32 ← ld .o (rect3 h 0 0 1 128 128 (by omega)) (numel3 _ (by omega) (by omega) (by omega))
  let rl : Vec F S1x128 .f32 ← ld .rl (rect2 h 0 1 128 (by omega)) (numel2 _ (by omega) (by omega))
  put .oc (rect3 0 0 (h * 128) 1 128 128 (by omega)) (numel3 _ (by omega) (by omega) (by omega)) (packed3 _ (by decide) (by decide))
    (shapeCast S1x128x128 (codesOut (clip (mulf (shapeCast S128x128 o shapeCasts_S1x128x128_S128x128 : FVec F S128x128 .f32)
      (broadcastTo S128x128 (mulf inv rl) broadcasts_S1x128_S128x128)))) shapeCasts_S128x128_S1x128x128)

/-- The rotary angles of the block's tokens. -/
def angles (b : Fin 2) : Cmd F (FVec F S64x128 .f32) := do
  let pos : Vec F S1x128 .i32 ← ld .pos (rect2 b 0 1 128 (by omega)) (numel2 _ (by omega) (by omega))
  let fr : Vec F S64x128 .f32 ← ld .freq (rect2 0 0 64 128 (by omega)) (numel2 _ (by omega) (by omega))
  pure (mulf (broadcastTo S64x128 (sitofp .f32 pos) broadcasts_S1x128_S64x128)
    (shapeCast S64x128 fr shapeCasts_S64x128_S64x128))

/-- The quantisation of the block's queries, keys and values. -/
def quant (b : Fin 2) (n : Fin 8) : Cmd F Unit := do
  let a ← angles b
  each (qHead (cos a) (sin a)) (List.finRange 24)
  let s : Vec F S24x128 .f32 ← ld .qs (rect2 0 0 24 128 (by omega)) (numel2 _ (by omega) (by omega))
  put .qso (rect3 0 0 0 1 128 24 (by omega)) (numel3 _ (by omega) (by omega) (by omega)) (packed3 _ (one_dvd _) (one_dvd _))
    (shapeCast S1x128x24 (transpose S128x24 [1, 0] s transposes_S24x128_p1_0_S128x24) shapeCasts_S128x24_S1x128x24)
  let s0 ← kvHead n (cos a) (sin a) 0
  let s1 ← kvHead n (cos a) (sin a) 1
  let s2 ← kvHead n (cos a) (sin a) 2
  let s3 ← kvHead n (cos a) (sin a) 3
  put .kso (rect3 0 0 0 1 128 4 (by omega)) (numel3 _ (by omega) (by omega) (by omega)) (packed3 _ (one_dvd _) (one_dvd _))
    (shapeCast S1x128x4 (transpose S128x4 [1, 0]
      (concatenate S4x128 0 [⟨S1x128, s0.1⟩, ⟨S1x128, s1.1⟩, ⟨S1x128, s2.1⟩, ⟨S1x128, s3.1⟩]
        concatenates_S1x128_S1x128_S1x128_S1x128_S4x128_d0) transposes_S4x128_p1_0_S128x4) shapeCasts_S128x4_S1x128x4)
  put .vso (rect3 0 0 0 1 128 4 (by omega)) (numel3 _ (by omega) (by omega) (by omega)) (packed3 _ (one_dvd _) (one_dvd _))
    (shapeCast S1x128x4 (transpose S128x4 [1, 0]
      (concatenate S4x128 0 [⟨S1x128, s0.2⟩, ⟨S1x128, s1.2⟩, ⟨S1x128, s2.2⟩, ⟨S1x128, s3.2⟩]
        concatenates_S1x128_S1x128_S1x128_S1x128_S4x128_d0) transposes_S4x128_p1_0_S128x4) shapeCasts_S128x4_S1x128x4)

/-- The attention of the block's queries, and the largest magnitude of each token's output. -/
def attend (c : F .f32) (n : Fin 8) : Cmd F Unit := do
  let a0 ← group c n 0
  let a1 ← group c n 1
  let a1 := maximumf a0 a1
  let a2 ← group c n 2
  let a2 := maximumf a1 a2
  let a3 ← group c n 3
  put .am (rect2 0 0 1 128 (by omega)) (numel2 _ (by omega) (by omega)) (packed2 _ (one_dvd _) (one_dvd _))
    (shapeCast S1x128 (maximumf a2 a3) shapeCasts_S1x128_S1x128)

/-- The quantisation of the block's output. -/
def finish (b : Fin 2) (n : Fin 8) : Cmd F Unit := do
  let am : Vec F S1x128 .f32 ← ld .am (rect2 0 0 1 128 (by omega)) (numel2 _ (by omega) (by omega))
  let e := expBits (over448 (am : FVec F S1x128 .f32))
  put .os (rect2 b (n * 128) 1 128 (by omega)) (numel2 _ (by omega) (by omega)) (packed2 _ (one_dvd _) (one_dvd _)) (scaleOf e)
  each (oHead (invOf e)) (List.finRange 24)

/-- The batch of a grid point. -/
def bOf (t : Fin 16) : Fin 2 := ⟨t / 8, by omega⟩

/-- The block of a grid point. -/
def nOf (t : Fin 16) : Fin 8 := ⟨t % 8, by omega⟩

/-- The body. -/
def body (c : F .f32) (b : Fin 2) (n : Fin 8) : Cmd F Unit := do
  quant b n
  attend c n
  finish b n

end Cert.Attn
-- ==== Proof.Wp.lean ====
module

public import proofs.«01_k».proof.Proof.Body
public import Idealize.ShloMosaic.Lib.Tactic
public import Idealize.ShloMosaic.Lib.VecWindow

/-!
# Running a body program

A program of `Cmd` run by the machine, every buffer held at its contents, ends with every buffer at the contents
`Cmd.exec` computes.
-/

@[expose] public section

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

instance : Fintype Buf0 where
  elems := {.pos, .freq, .x, .k, .v, .oc, .os, .qc, .qso, .kco, .kso, .vco, .vso, .qs, .kc, .ks, .vt, .t, .p, .o, .rl, .am}
  complete b := by cases b <;> decide

/-- The buffers in order. -/
def bufs : List Buf0 :=
  [.pos, .freq, .x, .k, .v, .oc, .os, .qc, .qso, .kco, .kso, .vco, .vso, .qs, .kc, .ks, .vt, .t, .p, .o, .rl, .am]

variable {F : FTy → Type} [FloatOps F] {nD : Nat} {τ : Topo} {sig : RefSig} {Λ : Labels}
variable {Ix : Type} [DecidableEq Ix] {Name : Type} [DecidableEq Name] {U : Type} [URA U] {Lvl : Type} [Preorder Lvl]

local notation "𝕄" => MT nD τ sig Ix (Elt F) Name U Lvl

/-- The buffers conjoined one by one. -/
theorem bufs_sep {R : Type} [URA R] (Φ : Buf0 → sProp R) : bigSep Finset.univ Φ = iprop(Φ .pos ∗ Φ .freq ∗ Φ .x ∗ Φ .k ∗ Φ .v ∗ Φ .oc ∗ Φ .os ∗ Φ .qc ∗ Φ .qso ∗ Φ .kco ∗ Φ .kso ∗ Φ .vco ∗ Φ .vso ∗ Φ .qs ∗ Φ .kc ∗ Φ .ks ∗ Φ .vt ∗ Φ .t ∗ Φ .p ∗ Φ .o ∗ Φ .rl ∗ Φ .am) :=
  bigSep_univ_eq_bigSepL bufs (by decide) (by decide) Φ

/-- Read through a view after a write through one of its rectangles. -/
theorem read_upd {sp : Space} {s : Shape} {e : EltTy} (m : Memref sig .tc sp s e) (r : Rect s)
    (w : r.shape.Idx → Elt F e) (f : m.view.ty.Contents (Elt F)) :
    m.view.read (Elt F) ((m.access r).write (Elt F) f w Finset.univ) = Cmd.upd r w (m.view.read (Elt F) f) := by
  funext i
  unfold Cmd.upd
  by_cases h : ∃ j, r.emb j = i
  · obtain ⟨j, rfl⟩ := h
    rw [preimage?_emb]
    exact View.read_slice_write_emb r f w (Finset.mem_univ _)
  · rw [preimage?_eq_none fun j hj => h ⟨j, hj⟩]
    refine View.read_slice_write_of_not_mem r f w _ fun hm => ?_
    obtain ⟨j, -, hj⟩ := Finset.mem_map.mp hm
    exact h ⟨j, hj⟩

variable (𝒱 : Variants) (defs : Defs nD τ sig (Elt F) Λ) (c : Dev nD) (E : Set Name)

theorem wp_ld {s : Shape} {e : EltTy} {m : Memref sig .tc .vmem s e} (hm : m.IsWhole) {r : Rect s} {hl : m.view.LoadsAt r.toLoadRect}
    {α : Type} {k : (r.shape.Idx → Elt F e) → Prog (TpuEff nD τ sig (Elt F) Λ .tc) α} {Q : α → sProp 𝕄} (X : s.Idx → Elt F e) :
    (owns (c : Thread nD τ) m fullShare X : sProp 𝕄)
      ⊢ iprop((owns (c : Thread nD τ) m fullShare X -∗ wp frame (wpE defs 𝒱 (c : Thread nD τ) none) E (k fun j => X (r.idx j)) Q)
        -∗ wp frame (wpE defs 𝒱 (c : Thread nD τ) none) E (.op (.load m r.toLoadRect hl) k) Q) := by
  unfold owns
  iintro ⟨%f, %hf, H⟩ Hk
  subst hf
  iapply (wp_load (defs := defs) 𝒱 (c : Thread nD τ) none (Γ := .empty) E (Q := Q) (m := m) (r := r.toLoadRect) (hl := hl) (k := k)
    (q := fullShare) (f := f) (S := m.view.set) (by rw [hm.set_eq_univ]; exact Finset.subset_univ _)) $$ H
  iintro H
  iapply Hk
  iexists f
  isplitr
  · ipureintro; rfl
  · iexact H

theorem wp_ldQ {m : Memref sig .tc .vmem Cert.KernelIdeal.S1x128x3072 .fp8e4m3} (hm : m.IsWhole) {r : Rect Cert.KernelIdeal.S128x3072}
    {hl : ((m.slice (Rect.unit (s := Cert.KernelIdeal.S1x128x3072) ![0, 0, 0] Cert.KernelIdeal.S1x128x3072.size
          Cert.KernelIdeal.Gen.inb_S1x128x3072_S1x128x3072_0_0_0) (fun _ => rfl)).squeeze Cert.KernelIdeal.S128x3072
            Cert.KernelIdeal.Gen.squeezes_S1x128x3072_S128x3072).view.LoadsAt r.toLoadRect}
    {α : Type} {k : (r.shape.Idx → Elt F .fp8e4m3) → Prog (TpuEff nD τ sig (Elt F) Λ .tc) α} {Q : α → sProp 𝕄}
    (X : Vec F Cert.KernelIdeal.S1x128x3072 .fp8e4m3) :
    (owns (c : Thread nD τ) m fullShare X : sProp 𝕄)
      ⊢ iprop((owns (c : Thread nD τ) m fullShare X -∗ wp frame (wpE defs 𝒱 (c : Thread nD τ) none) E (k fun j => Cmd.flatQ X (r.idx j)) Q)
        -∗ wp frame (wpE defs 𝒱 (c : Thread nD τ) none) E (.op (.load ((m.slice (Rect.unit (s := Cert.KernelIdeal.S1x128x3072) ![0, 0, 0] Cert.KernelIdeal.S1x128x3072.size
          Cert.KernelIdeal.Gen.inb_S1x128x3072_S1x128x3072_0_0_0) (fun _ => rfl)).squeeze Cert.KernelIdeal.S128x3072
            Cert.KernelIdeal.Gen.squeezes_S1x128x3072_S128x3072) r.toLoadRect hl) k) Q) := by
  unfold owns
  iintro ⟨%f, %hf, H⟩ Hk
  subst hf
  have e : (fun j => Cmd.flatQ (F := F) (m.view.read (Elt F) f) (r.idx j)) = ((m.slice (Rect.unit (s := Cert.KernelIdeal.S1x128x3072) ![0, 0, 0] Cert.KernelIdeal.S1x128x3072.size
          Cert.KernelIdeal.Gen.inb_S1x128x3072_S1x128x3072_0_0_0) (fun _ => rfl)).squeeze Cert.KernelIdeal.S128x3072
            Cert.KernelIdeal.Gen.squeezes_S1x128x3072_S128x3072).view.readAt (Elt F) r.toLoadRect f := by
    funext j
    exact (congrFun (Memref.read_squeeze_full m _ _ f) (r.idx j)).symm
  rw [e]
  have hu : m.view.set = Finset.univ := hm.set_eq_univ
  iapply (wp_load (defs := defs) 𝒱 (c : Thread nD τ) none (Γ := .empty) E (Q := Q) (r := r.toLoadRect) (hl := hl) (k := k)
    (q := fullShare) (f := f) (S := m.view.set) (by rw [hu]; exact Finset.subset_univ _)) $$ H
  iintro H
  iapply Hk
  iexists f
  isplitr
  · ipureintro; rfl
  · iexact H

theorem wp_st {s : Shape} {e : EltTy} {m : Memref sig .tc .vmem s e} (hm : m.IsWhole) {r : Rect s} {w : r.shape.Idx → Elt F e}
    {hx : (m.access r).Stores Finset.univ} {h1 : Finset.univ = Finset.univ ∨ ∀ a, r.stride a = 1}
    {α : Type} {k : PUnit → Prog (TpuEff nD τ sig (Elt F) Λ .tc) α} {Q : α → sProp 𝕄} (X : s.Idx → Elt F e) :
    (owns (c : Thread nD τ) m fullShare X : sProp 𝕄)
      ⊢ iprop((owns (c : Thread nD τ) m fullShare (Cmd.upd (F := F) r w X) -∗ wp frame (wpE defs 𝒱 (c : Thread nD τ) none) E (k ⟨⟩) Q)
        -∗ wp frame (wpE defs 𝒱 (c : Thread nD τ) none) E (.op (.store m r w Finset.univ hx h1) k) Q) := by
  unfold owns
  iintro ⟨%f, %hf, H⟩ Hk
  subst hf
  have hu : m.view.set = Finset.univ := hm.set_eq_univ
  iapply (wp_store (defs := defs) 𝒱 (c : Thread nD τ) none (Γ := .empty) E (Q := Q) (m := m) (r := r) (hx := hx) (hm := h1) (k := k)
    (f := f) (S := m.view.set) (by rw [hu]; exact Finset.subset_univ _)) $$ H
  iintro H
  iapply Hk
  iexists _
  isplitr
  swap
  · iexact H
  · ipureintro; exact read_upd m r w f

/-- Every buffer held, at the contents `σ`. -/
def held (M : ∀ b : Buf0, Memref sig .tc .vmem b.shape b.elt) (σ : St F) : sProp 𝕄 :=
  bigSep Finset.univ fun b : Buf0 => owns (c : Thread nD τ) (M b) fullShare (σ b)

omit [FloatOps F] [Preorder Lvl] in
/-- One buffer taken out, to be put back at any contents. -/
theorem held_take (M : ∀ b : Buf0, Memref sig .tc .vmem b.shape b.elt) (σ : St F) (b : Buf0) :
    (held c M σ : sProp 𝕄) ⊢ iprop(owns (c : Thread nD τ) (M b) fullShare (σ b)
      ∗ ∀ X, owns (c : Thread nD τ) (M b) fullShare X -∗ held c M (Function.update σ b X)) := by
  have h : ∀ τ' : St F, (held c M τ' : sProp 𝕄) = iprop(owns (c : Thread nD τ) (M b) fullShare (τ' b)
      ∗ bigSep (Finset.univ.erase b) fun b : Buf0 => owns (c : Thread nD τ) (M b) fullShare (τ' b)) :=
    fun τ' => bigSep_erase (Finset.mem_univ b)
  have h' : ∀ X, (held c M (Function.update σ b X) : sProp 𝕄) = iprop(owns (c : Thread nD τ) (M b) fullShare X
      ∗ bigSep (Finset.univ.erase b) fun b : Buf0 => owns (c : Thread nD τ) (M b) fullShare (σ b)) := fun X => by
    rw [h, Function.update_self, bigSep_congr fun a ha => by rw [Function.update_of_ne (Finset.ne_of_mem_erase ha)]]
  rw [h]
  simp only [h']
  iintro ⟨H, Hr⟩
  isplitl [H]; · iexact H
  iintro %X HX
  isplitl [HX]; · iexact HX
  iexact Hr

/-- The run of a program of `Cmd`. -/
theorem wp_prog (M : ∀ b : Buf0, Memref sig .tc .vmem b.shape b.elt) (hM : ∀ b, (M b).IsWhole) {α : Type} (p : Cmd F α) :
    ∀ (σ : St F) (Q : α → sProp 𝕄),
    iprop((held c M σ : sProp 𝕄) ∗ (held c M (p.exec σ).2 -∗ Q (p.exec σ).1))
      ⊢ wp frame (wpE defs 𝒱 (c : Thread nD τ) none) E (p.prog M hM) Q := by
  induction p with
  | ret a =>
    intro σ Q
    refine BIBase.Entails.trans ?_ (le_wp_ret _ _ _ a Q)
    show iprop(held c M σ ∗ (held c M σ -∗ Q a)) ⊢ Q a
    iintro ⟨H, Hk⟩
    iapply Hk; iexact H
  | load b r h k ih =>
    intro σ Q
    iintro ⟨H, Hk⟩
    ihave ⟨Hb, Hc⟩ := (held_take c M σ b) $$ H
    iapply (wp_ld 𝒱 defs c E (hM b) (σ b)) $$ Hb
    iintro Hb
    iapply (ih _ σ Q)
    isplitr [Hk]
    · ispecialize Hc $$ %(σ b) Hb
      rw [Function.update_eq_self]
      iexact Hc
    · iexact Hk
  | loadQ r h k ih =>
    intro σ Q
    iintro ⟨H, Hk⟩
    ihave ⟨Hb, Hc⟩ := (held_take c M σ .qc) $$ H
    iapply (wp_ldQ 𝒱 defs c E (hM .qc) (σ .qc)) $$ Hb
    iintro Hb
    iapply (ih _ σ Q)
    isplitr [Hk]
    · ispecialize Hc $$ %(σ .qc) Hb
      rw [Function.update_eq_self]
      iexact Hc
    · iexact Hk
  | store b r h hp w k ih =>
    intro σ Q
    iintro ⟨H, Hk⟩
    ihave ⟨Hb, Hc⟩ := (held_take c M σ b) $$ H
    iapply (wp_st 𝒱 defs c E (hM b) (σ b)) $$ Hb
    iintro Hb
    iapply (ih _ Q)
    isplitr [Hk]
    · ispecialize Hc $$ %(Cmd.upd r w (σ b)) Hb
      iexact Hc
    · iexact Hk

end Cert.Attn
-- ==== Proof.Printed.lean ====
module

public import proofs.«01_k».proof.Proof.Body
public import proofs.«01_k».proof.Proof.Gen.Kernel.Launch

/-!
# The printed body of `Kernel` is the body

At each of the sixteen grid points the printed program unfolds to `body` at that point's batch and block.
-/

@[expose] public section

noncomputable section

namespace Cert.Attn.Kernel

open Idealize.ShloMosaic Idealize.SL.Sem
open Cert.Kernel

variable {F : FTy → Type} [FloatOps F]

/-- The constant the scores are multiplied by. -/
abbrev score : F .f32 := Scalar.ofBits .f32 0x3E0293EE#32

theorem printed (t : Fin grid0.N) (M : ∀ b : Buf0, Memref sig .tc .vmem b.shape b.elt) (hM : ∀ b, (M b).IsWhole) :
    cc0_fp8_causal_gqa (F := F) (grid0.coords t)
        (M .pos) (hM .pos) (M .freq) (hM .freq) (M .x) (hM .x) (M .k) (hM .k) (M .v) (hM .v) (M .oc) (hM .oc) (M .os)
        (hM .os) (M .qc) (hM .qc) (M .qso) (hM .qso) (M .kco) (hM .kco) (M .kso) (hM .kso) (M .vco) (hM .vco) (M .vso)
        (hM .vso) (M .qs) (hM .qs) (M .kc) (hM .kc) (M .ks) (hM .ks) (M .vt) (hM .vt) (M .t) (hM .t) (M .p) (hM .p) (M
        .o) (hM .o) (M .rl) (hM .rl) (M .am) (hM .am) =
      (body score (bOf t) (nOf t)).prog M hM := by
  rcases Gen.fin_N0 t with rfl | rfl | rfl | rfl | rfl | rfl | rfl | rfl | rfl | rfl | rfl | rfl | rfl | rfl | rfl | rfl <;> chain_rfl

end Cert.Attn.Kernel
-- ==== Proof.Run.lean ====
module

public import proofs.«01_k».proof.Proof.Wp
public import proofs.«01_k».proof.Proof.Printed
public import proofs.«01_k».proof.Proof.Gen.Kernel.Frame

/-!
# The run of `Kernel`

The pipeline run with the scratch tracked: before each grid point the scratch satisfies an invariant, and each window's
buffer is left in a stated relation to what it was handed. `Spec` is what a proof of either chooses.
-/

@[expose] public section

noncomputable section

namespace Cert.Attn.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the windows' buffers. -/
abbrev Wins (F : FTy → Type) := (w : Fin cfg0.W) → (cfg0.win w).block.Idx → Elt F (cfg0.win w).elt

/-- The memrefs of the body's buffers at point `t`. -/
noncomputable def mem (t : Fin grid0.N) : ∀ b : Buf0, Memref sig .tc .vmem b.shape b.elt
  | .pos => st0_0 t | .freq => st0_1 t | .x => st0_2 t | .k => st0_3 t | .v => st0_4 t
  | .oc => st0_5 t | .os => st0_6 t | .qc => st0_7 t | .qso => st0_8 t | .kco => st0_9 t | .kso => st0_10 t
  | .vco => st0_11 t | .vso => st0_12 t
  | .qs => .whole cc0_scratch0 | .kc => .whole cc0_scratch1 | .ks => .whole cc0_scratch2 | .vt => .whole cc0_scratch3
  | .t => .whole cc0_scratch4 | .p => .whole cc0_scratch5 | .o => .whole cc0_scratch6 | .rl => .whole cc0_scratch7
  | .am => .whole cc0_scratch8

/-- The buffers' contents: the windows' from `Y`, the scratch's from `ζ`. -/
noncomputable def join (Y : Wins F) (ζ : St F) : St F
  | .pos => Y 0 | .freq => Y 1 | .x => Y 2 | .k => Y 3 | .v => Y 4
  | .oc => Y 5 | .os => Y 6 | .qc => Y 7 | .qso => Y 8 | .kco => Y 9 | .kso => Y 10 | .vco => Y 11 | .vso => Y 12
  | .qs => ζ .qs | .kc => ζ .kc | .ks => ζ .ks | .vt => ζ .vt | .t => ζ .t | .p => ζ .p | .o => ζ .o | .rl => ζ .rl
  | .am => ζ .am

/-- The windows' part of the buffers' contents. -/
noncomputable def wins (σ : St F) : Wins F
  | 0 => σ .pos | 1 => σ .freq | 2 => σ .x | 3 => σ .k | 4 => σ .v
  | 5 => σ .oc | 6 => σ .os | 7 => σ .qc | 8 => σ .qso | 9 => σ .kco | 10 => σ .kso | 11 => σ .vco | 12 => σ .vso

theorem mem_whole (t : Fin grid0.N) : ∀ b, (mem t b).IsWhole
  | .pos => stage_whole0 0 _ | .freq => stage_whole0 1 _ | .x => stage_whole0 2 _ | .k => stage_whole0 3 _ | .v => stage_whole0 4 _
  | .oc => stage_whole0 5 _ | .os => stage_whole0 6 _ | .qc => stage_whole0 7 _ | .qso => stage_whole0 8 _ | .kco => stage_whole0 9 _
  | .kso => stage_whole0 10 _ | .vco => stage_whole0 11 _ | .vso => stage_whole0 12 _
  | .qs => Memref.isWhole_whole _ | .kc => Memref.isWhole_whole _ | .ks => Memref.isWhole_whole _ | .vt => Memref.isWhole_whole _
  | .t => Memref.isWhole_whole _ | .p => Memref.isWhole_whole _ | .o => Memref.isWhole_whole _ | .rl => Memref.isWhole_whole _
  | .am => Memref.isWhole_whole _

/-- What a proof of the run chooses: how the body may change each window's buffer, and what the scratch satisfies before
    each point. -/
structure Spec (F : FTy → Type) where
  rel : (w : Fin cfg0.W) → Fin cfg0.N → (Y X : (cfg0.win w).block.Idx → Elt F (cfg0.win w).elt) → Prop
  inv : ℕ → St F → Prop

/-- The scratch buffers, at the contents `ζ`. -/
noncomputable def scr (c : Dev nD) (ζ : St F) : sProp 𝕄 :=
  iprop(owns (c : Thread nD τ) (Memref.whole cc0_scratch0) fullShare (ζ .qs) ∗ owns (c : Thread nD τ) (Memref.whole cc0_scratch1) fullShare (ζ .kc)
    ∗ owns (c : Thread nD τ) (Memref.whole cc0_scratch2) fullShare (ζ .ks) ∗ owns (c : Thread nD τ) (Memref.whole cc0_scratch3) fullShare (ζ .vt)
    ∗ owns (c : Thread nD τ) (Memref.whole cc0_scratch4) fullShare (ζ .t) ∗ owns (c : Thread nD τ) (Memref.whole cc0_scratch5) fullShare (ζ .p)
    ∗ owns (c : Thread nD τ) (Memref.whole cc0_scratch6) fullShare (ζ .o) ∗ owns (c : Thread nD τ) (Memref.whole cc0_scratch7) fullShare (ζ .rl)
    ∗ owns (c : Thread nD τ) (Memref.whole cc0_scratch8) fullShare (ζ .am))

/-- The proof data of the run. -/
noncomputable def rdat (S : Dev nD → Spec F) (c : Dev nD) : RDat τ (Elt F) Unit ℕ (UR sig nD τ) ℕ cfg0 c where
  A w := V m c (Pipeline.arrRef spec0 w)
  after := (S c).rel
  Φ t := iprop((∃ ζ, ⌜(S c).inv t ζ⌝ ∗ scr c ζ) ∗ (∃ r, prngReg c r))
  q _ := fullShare
  owed _ := 0

/-- What the body must do: at each point, from windows' contents it may find and scratch in the invariant, leave the
    windows' buffers in the relation and the scratch in the next invariant. -/
def Step (S : Dev nD → Spec F) (c : Dev nD) : Prop :=
  ∀ (t : Fin cfg0.N) (Y : Wins F) (ζ : St F), (∀ w, (rdat m S c).Finds w t (Y w)) → (S c).inv t ζ →
    (∀ w, (S c).rel w t (Y w) (wins ((body score (bOf t) (nOf t)).exec (join Y ζ)).2 w))
      ∧ (S c).inv (t + 1) ((body score (bOf t) (nOf t)).exec (join Y ζ)).2

theorem row_body (t : Fin cfg0.N) : defs₀ (F := F) .tc cfg0.body (cfg0.bodyArgs t (cfg0.slots t)) = bodyAt0 t := by
  unfold defs₀; rw [Defs.onTc_tc]

theorem defs₀_row (t : Fin cfg0.N) :
    defs₀ (F := F) .tc cfg0.body (cfg0.bodyArgs t (cfg0.slots t)) = (body score (bOf t) (nOf t)).prog (mem t) (mem_whole t) :=
  (row_body t).trans (printed t (mem t) (mem_whole t))

/-- The windows' buffers, at the contents `Y`. -/
noncomputable def win (c : Dev nD) (t : Fin cfg0.N) (Y : Wins F) : sProp 𝕄 :=
  iprop(owns (c : Thread nD τ) (st0_0 t) fullShare (Y 0) ∗ owns (c : Thread nD τ) (st0_1 t) fullShare (Y 1)
    ∗ owns (c : Thread nD τ) (st0_2 t) fullShare (Y 2) ∗ owns (c : Thread nD τ) (st0_3 t) fullShare (Y 3)
    ∗ owns (c : Thread nD τ) (st0_4 t) fullShare (Y 4) ∗ owns (c : Thread nD τ) (st0_5 t) fullShare (Y 5)
    ∗ owns (c : Thread nD τ) (st0_6 t) fullShare (Y 6) ∗ owns (c : Thread nD τ) (st0_7 t) fullShare (Y 7)
    ∗ owns (c : Thread nD τ) (st0_8 t) fullShare (Y 8) ∗ owns (c : Thread nD τ) (st0_9 t) fullShare (Y 9)
    ∗ owns (c : Thread nD τ) (st0_10 t) fullShare (Y 10) ∗ owns (c : Thread nD τ) (st0_11 t) fullShare (Y 11)
    ∗ owns (c : Thread nD τ) (st0_12 t) fullShare (Y 12))

theorem held_of (c : Dev nD) (t : Fin cfg0.N) (σ : St F) :
    iprop((win c t (wins σ) : sProp 𝕄) ∗ scr c σ) ⊢ held c (mem t) σ := by
  unfold held scr win
  rw [bufs_sep]
  iintro ⟨⟨H0, H1, H2, H3, H4, H5, H6, H7, H8, H9, H10, H11, H12⟩, H13, H14, H15, H16, H17, H18, H19, H20, H21⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem held_to (c : Dev nD) (t : Fin cfg0.N) (σ : St F) :
    (held c (mem t) σ : sProp 𝕄) ⊢ iprop(win c t (wins σ) ∗ scr c σ) := by
  unfold held scr win
  rw [bufs_sep]
  iintro ⟨H0, H1, H2, H3, H4, H5, H6, H7, H8, H9, H10, H11, H12, H13, H14, H15, H16, H17, H18, H19, H20, H21⟩
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

theorem wins_join (Y : Wins F) (ζ : St F) : wins (join Y ζ) = Y := by
  funext w; fin_cases w <;> rfl

variable {m}

theorem body_obligation {S : Dev nD → Spec F} {c : Dev nD} (h : Step m S c) :
    (rdat m S c).BodyObligation (defs₀ (F := F)) Variants.none () Set.univ := fun t Y hY => by
  rw [bigSep_W0, bigSep_W0, defs₀_row]
  show iprop(((∃ ζ, ⌜(S c).inv t ζ⌝ ∗ scr c ζ) ∗ (∃ r, prngReg c r)) ∗ (rdat m S c).owesAt () t.castSucc ∗ win c t Y) ⊢ _
  iintro ⟨⟨⟨%ζ, %hζ, HS⟩, Hg⟩, HO, HW⟩
  have hs := h t Y ζ hY hζ
  generalize hσ : ((body score (bOf t) (nOf t)).exec (join Y ζ)).2 = σ' at hs
  iapply (wp_prog Variants.none (defs₀ (F := F)) c Set.univ (mem t) (mem_whole t) (body score (bOf t) (nOf t)) (join Y ζ))
  rw [hσ]
  isplitl [HS HW]
  · iapply (held_of c t (join Y ζ))
    rw [wins_join]
    isplitl [HW]; · iexact HW
    iexact HS
  iintro H
  rw [show (rdat m S c).Φ t.succ = iprop((∃ ζ, ⌜(S c).inv (t + 1) ζ⌝ ∗ scr c ζ) ∗ (∃ r, prngReg c r)) from rfl]
  ihave ⟨HW, HS⟩ := (held_to c t σ') $$ H
  isplitl [HS Hg]
  · isplitl [HS]
    · iexists σ'
      isplitr; · ipureintro; exact hs.2
      iexact HS
    iexact Hg
  isplitl [HO]; · iexact HO
  unfold win
  icases HW with ⟨H0, H1, H2, H3, H4, H5, H6, H7, H8, H9, H10, H11, H12⟩
  isplitl [H0]
  · iexists _; isplitr; swap; · iexact H0
    ipureintro; exact hs.1 0
  isplitl [H1]
  · iexists _; isplitr; swap; · iexact H1
    ipureintro; exact hs.1 1
  isplitl [H2]
  · iexists _; isplitr; swap; · iexact H2
    ipureintro; exact hs.1 2
  isplitl [H3]
  · iexists _; isplitr; swap; · iexact H3
    ipureintro; exact hs.1 3
  isplitl [H4]
  · iexists _; isplitr; swap; · iexact H4
    ipureintro; exact hs.1 4
  isplitl [H5]
  · iexists _; isplitr; swap; · iexact H5
    ipureintro; exact hs.1 5
  isplitl [H6]
  · iexists _; isplitr; swap; · iexact H6
    ipureintro; exact hs.1 6
  isplitl [H7]
  · iexists _; isplitr; swap; · iexact H7
    ipureintro; exact hs.1 7
  isplitl [H8]
  · iexists _; isplitr; swap; · iexact H8
    ipureintro; exact hs.1 8
  isplitl [H9]
  · iexists _; isplitr; swap; · iexact H9
    ipureintro; exact hs.1 9
  isplitl [H10]
  · iexists _; isplitr; swap; · iexact H10
    ipureintro; exact hs.1 10
  isplitl [H11]
  · iexists _; isplitr; swap; · iexact H11
    ipureintro; exact hs.1 11
  iexists _; isplitr; swap; · iexact H12
  ipureintro; exact hs.1 12

/-- Nothing is asked of the scratch before the first point, whatever it holds. -/
theorem scr_in (c : Dev nD) : (Pipeline.ΦA spec0 c : sProp 𝕄) ⊢ iprop((∃ ζ, scr c ζ) ∗ (∃ r, prngReg c r)) := by
  unfold Pipeline.ΦA
  rw [scopedRest0_eq]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, Hg⟩
  isplitr [Hg]
  · iexists (fun | .qs => f0 | .kc => f1 | .ks => f2 | .vt => f3 | .t => f4 | .p => f5 | .o => f6 | .rl => f7 | .am => f8
                 | _ => fun _ => Classical.arbitrary _)
    unfold scr
    simp only [owns_whole]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iexact Hg

theorem scr_out (c : Dev nD) : iprop((∃ ζ, (scr c ζ : sProp 𝕄)) ∗ (∃ r, prngReg c r)) ⊢ Pipeline.ΦA spec0 c := by
  unfold Pipeline.ΦA scr
  rw [scopedRest0_eq]
  simp only [owns_whole]
  iintro ⟨⟨%ζ, H0, H1, H2, H3, H4, H5, H6, H7, H8⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    iexists _; iexact H8
  · iexact Hg

variable (m)

/-- The run: every array ends as the relations allow. -/
theorem run (S : Dev nD → Spec F) (h0 : ∀ c ζ, (S c).inv 0 ζ) (h : ∀ c, Step m S c) :
    θ_run defs (onTc (τ := τ) (main (F := F))) (s₀ m ρ)
      (fun r => Pipeline.RDat.FramePost cfg0 (rdat m S) (V m) r ∧ r.2.sem = fun _ => 0) :=
  Pipeline.RDat.θ_run_frame_track cfgs (0 : Fin 1) launch0 defs₀ Variants.none (rdat m S) m ρ main
    (hbody := fun c => body_obligation (h c)) (hshare := fun c w => by unfold RDat.share rdat; split <;> rfl)
    (howed := fun _ _ => rfl) (V := V m) (hmain := hmain m Variants.none) (hA := fun _ _ => rfl)
    (hin := fun c => by
      refine (scr_in c).trans ?_
      show _ ⊢ iprop((∃ ζ, ⌜(S c).inv 0 ζ⌝ ∗ scr c ζ) ∗ (∃ r, prngReg c r))
      iintro ⟨⟨%ζ, H⟩, Hg⟩
      isplitr [Hg]
      · iexists ζ; isplitr; · ipureintro; exact h0 c ζ
        iexact H
      · iexact Hg)
    (hout := fun c => by
      refine BIBase.Entails.trans ?_ (scr_out c)
      show iprop((∃ ζ, ⌜(S c).inv _ ζ⌝ ∗ scr c ζ) ∗ (∃ r, prngReg c r)) ⊢ _
      iintro ⟨⟨%ζ, -, H⟩, Hg⟩
      isplitr [Hg]
      · iexists ζ; iexact H
      · iexact Hg)
    (Q' := _) (hQ' := fun _ h => h)

variable {m} in
/-- The arguments are unchanged. -/
theorem args {S : Dev nD → Spec F} {r : PUnit × MemSt nD τ sig (Elt F)} (h : Pipeline.RDat.FramePost cfg0 (rdat m S) (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨(h.arr_in c 2 rfl).trans (V_main_arg0 m c), (h.arr_in c 3 rfl).trans (V_main_arg1 m c),
    (h.arr_in c 4 rfl).trans (V_main_arg2 m c), (h.arr_in c 0 rfl).trans (V_main_arg3 m c)⟩

/-- The frame: the run ends, the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨args h.1, h.2⟩)
    (run m ρ (fun _ => ⟨fun _ _ _ _ => True, fun _ _ => True⟩) (fun _ _ => trivial) fun _ _ _ _ _ _ => ⟨fun _ => trivial, trivial⟩)

end Cert.Attn.Kernel
-- ==== Proof.PrintedIdeal.lean ====
module

public import proofs.«01_k».proof.Proof.Body
public import proofs.«01_k».proof.Proof.Gen.KernelIdeal.Launch

/-!
# The printed body of `KernelIdeal` is the body

At each of the sixteen grid points the printed program unfolds to `body` at that point's batch and block.
-/

@[expose] public section

noncomputable section

namespace Cert.Attn.KernelIdeal

open Idealize.ShloMosaic Idealize.SL.Sem
open Cert.KernelIdeal

variable {F : FTy → Type} [FloatOps F] [Named F]

/-- The constant the scores are multiplied by. -/
abbrev score : F .f32 := Named.named Cert.KernelIdeal.κ "score_scale_log2" 0x3E0293EE#32

theorem printed (t : Fin grid0.N) (M : ∀ b : Buf0, Memref sig .tc .vmem b.shape b.elt) (hM : ∀ b, (M b).IsWhole) :
    cc0_fp8_causal_gqa (F := F) (grid0.coords t)
        (M .pos) (hM .pos) (M .freq) (hM .freq) (M .x) (hM .x) (M .k) (hM .k) (M .v) (hM .v) (M .oc) (hM .oc) (M .os)
        (hM .os) (M .qc) (hM .qc) (M .qso) (hM .qso) (M .kco) (hM .kco) (M .kso) (hM .kso) (M .vco) (hM .vco) (M .vso)
        (hM .vso) (M .qs) (hM .qs) (M .kc) (hM .kc) (M .ks) (hM .ks) (M .vt) (hM .vt) (M .t) (hM .t) (M .p) (hM .p) (M
        .o) (hM .o) (M .rl) (hM .rl) (M .am) (hM .am) =
      (body score (bOf t) (nOf t)).prog M hM := by
  rcases Gen.fin_N0 t with rfl | rfl | rfl | rfl | rfl | rfl | rfl | rfl | rfl | rfl | rfl | rfl | rfl | rfl | rfl | rfl <;> chain_rfl

end Cert.Attn.KernelIdeal
-- ==== Proof.RunIdeal.lean ====
module

public import proofs.«01_k».proof.Proof.Wp
public import proofs.«01_k».proof.Proof.PrintedIdeal
public import proofs.«01_k».proof.Proof.Gen.KernelIdeal.Frame

/-!
# The run of `KernelIdeal`

The pipeline run with the scratch tracked: before each grid point the scratch satisfies an invariant, and each window's
buffer is left in a stated relation to what it was handed. `Spec` is what a proof of either chooses.
-/

@[expose] public section

noncomputable section

namespace Cert.Attn.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The contents of the windows' buffers. -/
abbrev Wins (F : FTy → Type) := (w : Fin cfg0.W) → (cfg0.win w).block.Idx → Elt F (cfg0.win w).elt

/-- The memrefs of the body's buffers at point `t`. -/
noncomputable def mem (t : Fin grid0.N) : ∀ b : Buf0, Memref sig .tc .vmem b.shape b.elt
  | .pos => st0_0 t | .freq => st0_1 t | .x => st0_2 t | .k => st0_3 t | .v => st0_4 t
  | .oc => st0_5 t | .os => st0_6 t | .qc => st0_7 t | .qso => st0_8 t | .kco => st0_9 t | .kso => st0_10 t
  | .vco => st0_11 t | .vso => st0_12 t
  | .qs => .whole cc0_scratch0 | .kc => .whole cc0_scratch1 | .ks => .whole cc0_scratch2 | .vt => .whole cc0_scratch3
  | .t => .whole cc0_scratch4 | .p => .whole cc0_scratch5 | .o => .whole cc0_scratch6 | .rl => .whole cc0_scratch7
  | .am => .whole cc0_scratch8

/-- The buffers' contents: the windows' from `Y`, the scratch's from `ζ`. -/
noncomputable def join (Y : Wins F) (ζ : St F) : St F
  | .pos => Y 0 | .freq => Y 1 | .x => Y 2 | .k => Y 3 | .v => Y 4
  | .oc => Y 5 | .os => Y 6 | .qc => Y 7 | .qso => Y 8 | .kco => Y 9 | .kso => Y 10 | .vco => Y 11 | .vso => Y 12
  | .qs => ζ .qs | .kc => ζ .kc | .ks => ζ .ks | .vt => ζ .vt | .t => ζ .t | .p => ζ .p | .o => ζ .o | .rl => ζ .rl
  | .am => ζ .am

/-- The windows' part of the buffers' contents. -/
noncomputable def wins (σ : St F) : Wins F
  | 0 => σ .pos | 1 => σ .freq | 2 => σ .x | 3 => σ .k | 4 => σ .v
  | 5 => σ .oc | 6 => σ .os | 7 => σ .qc | 8 => σ .qso | 9 => σ .kco | 10 => σ .kso | 11 => σ .vco | 12 => σ .vso

theorem mem_whole (t : Fin grid0.N) : ∀ b, (mem t b).IsWhole
  | .pos => stage_whole0 0 _ | .freq => stage_whole0 1 _ | .x => stage_whole0 2 _ | .k => stage_whole0 3 _ | .v => stage_whole0 4 _
  | .oc => stage_whole0 5 _ | .os => stage_whole0 6 _ | .qc => stage_whole0 7 _ | .qso => stage_whole0 8 _ | .kco => stage_whole0 9 _
  | .kso => stage_whole0 10 _ | .vco => stage_whole0 11 _ | .vso => stage_whole0 12 _
  | .qs => Memref.isWhole_whole _ | .kc => Memref.isWhole_whole _ | .ks => Memref.isWhole_whole _ | .vt => Memref.isWhole_whole _
  | .t => Memref.isWhole_whole _ | .p => Memref.isWhole_whole _ | .o => Memref.isWhole_whole _ | .rl => Memref.isWhole_whole _
  | .am => Memref.isWhole_whole _

/-- What a proof of the run chooses: how the body may change each window's buffer, and what the scratch satisfies before
    each point. -/
structure Spec (F : FTy → Type) where
  rel : (w : Fin cfg0.W) → Fin cfg0.N → (Y X : (cfg0.win w).block.Idx → Elt F (cfg0.win w).elt) → Prop
  inv : ℕ → St F → Prop

/-- The scratch buffers, at the contents `ζ`. -/
noncomputable def scr (c : Dev nD) (ζ : St F) : sProp 𝕄 :=
  iprop(owns (c : Thread nD τ) (Memref.whole cc0_scratch0) fullShare (ζ .qs) ∗ owns (c : Thread nD τ) (Memref.whole cc0_scratch1) fullShare (ζ .kc)
    ∗ owns (c : Thread nD τ) (Memref.whole cc0_scratch2) fullShare (ζ .ks) ∗ owns (c : Thread nD τ) (Memref.whole cc0_scratch3) fullShare (ζ .vt)
    ∗ owns (c : Thread nD τ) (Memref.whole cc0_scratch4) fullShare (ζ .t) ∗ owns (c : Thread nD τ) (Memref.whole cc0_scratch5) fullShare (ζ .p)
    ∗ owns (c : Thread nD τ) (Memref.whole cc0_scratch6) fullShare (ζ .o) ∗ owns (c : Thread nD τ) (Memref.whole cc0_scratch7) fullShare (ζ .rl)
    ∗ owns (c : Thread nD τ) (Memref.whole cc0_scratch8) fullShare (ζ .am))

/-- The proof data of the run. -/
noncomputable def rdat (S : Dev nD → Spec F) (c : Dev nD) : RDat τ (Elt F) Unit ℕ (UR sig nD τ) ℕ cfg0 c where
  A w := V m c (Pipeline.arrRef spec0 w)
  after := (S c).rel
  Φ t := iprop((∃ ζ, ⌜(S c).inv t ζ⌝ ∗ scr c ζ) ∗ (∃ r, prngReg c r))
  q _ := fullShare
  owed _ := 0

/-- What the body must do: at each point, from windows' contents it may find and scratch in the invariant, leave the
    windows' buffers in the relation and the scratch in the next invariant. -/
def Step (S : Dev nD → Spec F) (c : Dev nD) : Prop :=
  ∀ (t : Fin cfg0.N) (Y : Wins F) (ζ : St F), (∀ w, (rdat m S c).Finds w t (Y w)) → (S c).inv t ζ →
    (∀ w, (S c).rel w t (Y w) (wins ((body score (bOf t) (nOf t)).exec (join Y ζ)).2 w))
      ∧ (S c).inv (t + 1) ((body score (bOf t) (nOf t)).exec (join Y ζ)).2

theorem row_body (t : Fin cfg0.N) : defs₀ (F := F) .tc cfg0.body (cfg0.bodyArgs t (cfg0.slots t)) = bodyAt0 t := by
  unfold defs₀; rw [Defs.onTc_tc]

theorem defs₀_row (t : Fin cfg0.N) :
    defs₀ (F := F) .tc cfg0.body (cfg0.bodyArgs t (cfg0.slots t)) = (body score (bOf t) (nOf t)).prog (mem t) (mem_whole t) :=
  (row_body t).trans (printed t (mem t) (mem_whole t))

/-- The windows' buffers, at the contents `Y`. -/
noncomputable def win (c : Dev nD) (t : Fin cfg0.N) (Y : Wins F) : sProp 𝕄 :=
  iprop(owns (c : Thread nD τ) (st0_0 t) fullShare (Y 0) ∗ owns (c : Thread nD τ) (st0_1 t) fullShare (Y 1)
    ∗ owns (c : Thread nD τ) (st0_2 t) fullShare (Y 2) ∗ owns (c : Thread nD τ) (st0_3 t) fullShare (Y 3)
    ∗ owns (c : Thread nD τ) (st0_4 t) fullShare (Y 4) ∗ owns (c : Thread nD τ) (st0_5 t) fullShare (Y 5)
    ∗ owns (c : Thread nD τ) (st0_6 t) fullShare (Y 6) ∗ owns (c : Thread nD τ) (st0_7 t) fullShare (Y 7)
    ∗ owns (c : Thread nD τ) (st0_8 t) fullShare (Y 8) ∗ owns (c : Thread nD τ) (st0_9 t) fullShare (Y 9)
    ∗ owns (c : Thread nD τ) (st0_10 t) fullShare (Y 10) ∗ owns (c : Thread nD τ) (st0_11 t) fullShare (Y 11)
    ∗ owns (c : Thread nD τ) (st0_12 t) fullShare (Y 12))

theorem held_of (c : Dev nD) (t : Fin cfg0.N) (σ : St F) :
    iprop((win c t (wins σ) : sProp 𝕄) ∗ scr c σ) ⊢ held c (mem t) σ := by
  unfold held scr win
  rw [bufs_sep]
  iintro ⟨⟨H0, H1, H2, H3, H4, H5, H6, H7, H8, H9, H10, H11, H12⟩, H13, H14, H15, H16, H17, H18, H19, H20, H21⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem held_to (c : Dev nD) (t : Fin cfg0.N) (σ : St F) :
    (held c (mem t) σ : sProp 𝕄) ⊢ iprop(win c t (wins σ) ∗ scr c σ) := by
  unfold held scr win
  rw [bufs_sep]
  iintro ⟨H0, H1, H2, H3, H4, H5, H6, H7, H8, H9, H10, H11, H12, H13, H14, H15, H16, H17, H18, H19, H20, H21⟩
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

theorem wins_join (Y : Wins F) (ζ : St F) : wins (join Y ζ) = Y := by
  funext w; fin_cases w <;> rfl

variable {m}

theorem body_obligation {S : Dev nD → Spec F} {c : Dev nD} (h : Step m S c) :
    (rdat m S c).BodyObligation (defs₀ (F := F)) Variants.none () Set.univ := fun t Y hY => by
  rw [bigSep_W0, bigSep_W0, defs₀_row]
  show iprop(((∃ ζ, ⌜(S c).inv t ζ⌝ ∗ scr c ζ) ∗ (∃ r, prngReg c r)) ∗ (rdat m S c).owesAt () t.castSucc ∗ win c t Y) ⊢ _
  iintro ⟨⟨⟨%ζ, %hζ, HS⟩, Hg⟩, HO, HW⟩
  have hs := h t Y ζ hY hζ
  generalize hσ : ((body score (bOf t) (nOf t)).exec (join Y ζ)).2 = σ' at hs
  iapply (wp_prog Variants.none (defs₀ (F := F)) c Set.univ (mem t) (mem_whole t) (body score (bOf t) (nOf t)) (join Y ζ))
  rw [hσ]
  isplitl [HS HW]
  · iapply (held_of c t (join Y ζ))
    rw [wins_join]
    isplitl [HW]; · iexact HW
    iexact HS
  iintro H
  rw [show (rdat m S c).Φ t.succ = iprop((∃ ζ, ⌜(S c).inv (t + 1) ζ⌝ ∗ scr c ζ) ∗ (∃ r, prngReg c r)) from rfl]
  ihave ⟨HW, HS⟩ := (held_to c t σ') $$ H
  isplitl [HS Hg]
  · isplitl [HS]
    · iexists σ'
      isplitr; · ipureintro; exact hs.2
      iexact HS
    iexact Hg
  isplitl [HO]; · iexact HO
  unfold win
  icases HW with ⟨H0, H1, H2, H3, H4, H5, H6, H7, H8, H9, H10, H11, H12⟩
  isplitl [H0]
  · iexists _; isplitr; swap; · iexact H0
    ipureintro; exact hs.1 0
  isplitl [H1]
  · iexists _; isplitr; swap; · iexact H1
    ipureintro; exact hs.1 1
  isplitl [H2]
  · iexists _; isplitr; swap; · iexact H2
    ipureintro; exact hs.1 2
  isplitl [H3]
  · iexists _; isplitr; swap; · iexact H3
    ipureintro; exact hs.1 3
  isplitl [H4]
  · iexists _; isplitr; swap; · iexact H4
    ipureintro; exact hs.1 4
  isplitl [H5]
  · iexists _; isplitr; swap; · iexact H5
    ipureintro; exact hs.1 5
  isplitl [H6]
  · iexists _; isplitr; swap; · iexact H6
    ipureintro; exact hs.1 6
  isplitl [H7]
  · iexists _; isplitr; swap; · iexact H7
    ipureintro; exact hs.1 7
  isplitl [H8]
  · iexists _; isplitr; swap; · iexact H8
    ipureintro; exact hs.1 8
  isplitl [H9]
  · iexists _; isplitr; swap; · iexact H9
    ipureintro; exact hs.1 9
  isplitl [H10]
  · iexists _; isplitr; swap; · iexact H10
    ipureintro; exact hs.1 10
  isplitl [H11]
  · iexists _; isplitr; swap; · iexact H11
    ipureintro; exact hs.1 11
  iexists _; isplitr; swap; · iexact H12
  ipureintro; exact hs.1 12

/-- Nothing is asked of the scratch before the first point, whatever it holds. -/
theorem scr_in (c : Dev nD) : (Pipeline.ΦA spec0 c : sProp 𝕄) ⊢ iprop((∃ ζ, scr c ζ) ∗ (∃ r, prngReg c r)) := by
  unfold Pipeline.ΦA
  rw [scopedRest0_eq]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, Hg⟩
  isplitr [Hg]
  · iexists (fun | .qs => f0 | .kc => f1 | .ks => f2 | .vt => f3 | .t => f4 | .p => f5 | .o => f6 | .rl => f7 | .am => f8
                 | _ => fun _ => Classical.arbitrary _)
    unfold scr
    simp only [owns_whole]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iexact Hg

theorem scr_out (c : Dev nD) : iprop((∃ ζ, (scr c ζ : sProp 𝕄)) ∗ (∃ r, prngReg c r)) ⊢ Pipeline.ΦA spec0 c := by
  unfold Pipeline.ΦA scr
  rw [scopedRest0_eq]
  simp only [owns_whole]
  iintro ⟨⟨%ζ, H0, H1, H2, H3, H4, H5, H6, H7, H8⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    iexists _; iexact H8
  · iexact Hg

variable (m)

/-- The run: every array ends as the relations allow. -/
theorem run (S : Dev nD → Spec F) (h0 : ∀ c ζ, (S c).inv 0 ζ) (h : ∀ c, Step m S c) :
    θ_run defs (onTc (τ := τ) (main (F := F))) (s₀ m ρ)
      (fun r => Pipeline.RDat.FramePost cfg0 (rdat m S) (V m) r ∧ r.2.sem = fun _ => 0) :=
  Pipeline.RDat.θ_run_frame_track cfgs (0 : Fin 1) launch0 defs₀ Variants.none (rdat m S) m ρ main
    (hbody := fun c => body_obligation (h c)) (hshare := fun c w => by unfold RDat.share rdat; split <;> rfl)
    (howed := fun _ _ => rfl) (V := V m) (hmain := hmain m Variants.none) (hA := fun _ _ => rfl)
    (hin := fun c => by
      refine (scr_in c).trans ?_
      show _ ⊢ iprop((∃ ζ, ⌜(S c).inv 0 ζ⌝ ∗ scr c ζ) ∗ (∃ r, prngReg c r))
      iintro ⟨⟨%ζ, H⟩, Hg⟩
      isplitr [Hg]
      · iexists ζ; isplitr; · ipureintro; exact h0 c ζ
        iexact H
      · iexact Hg)
    (hout := fun c => by
      refine BIBase.Entails.trans ?_ (scr_out c)
      show iprop((∃ ζ, ⌜(S c).inv _ ζ⌝ ∗ scr c ζ) ∗ (∃ r, prngReg c r)) ⊢ _
      iintro ⟨⟨%ζ, -, H⟩, Hg⟩
      isplitr [Hg]
      · iexists ζ; iexact H
      · iexact Hg)
    (Q' := _) (hQ' := fun _ h => h)

variable {m} in
/-- The arguments are unchanged. -/
theorem args {S : Dev nD → Spec F} {r : PUnit × MemSt nD τ sig (Elt F)} (h : Pipeline.RDat.FramePost cfg0 (rdat m S) (V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨(h.arr_in c 2 rfl).trans (V_main_arg0 m c), (h.arr_in c 3 rfl).trans (V_main_arg1 m c),
    (h.arr_in c 4 rfl).trans (V_main_arg2 m c), (h.arr_in c 0 rfl).trans (V_main_arg3 m c)⟩

/-- The frame: the run ends, the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨args h.1, h.2⟩)
    (run m ρ (fun _ => ⟨fun _ _ _ _ => True, fun _ _ => True⟩) (fun _ _ => trivial) fun _ _ _ _ _ _ => ⟨fun _ => trivial, trivial⟩)

end Cert.Attn.KernelIdeal
-- ==== Proof.Frames.lean ====
module

public import proofs.«01_k».proof.Proof.Run
public import proofs.«01_k».proof.Proof.RunIdeal
public import proofs.«01_k».proof.Proof.Gen.ReferenceIdeal.Run
public import Idealize.ShloMosaic.Lib.Quiescent
public import proofs.«01_k».proof.Defs

/-!
# The frame claims and the named constant
-/

@[expose] public section

noncomputable section

namespace Cert.Attn

open Idealize.ShloMosaic Idealize.SL.Sem

theorem frame_kernel : Cert.quiescent_Kernel := fun m ρ _ => Kernel.frame m ρ

theorem frame_kernelIdeal : Cert.quiescent_KernelIdeal := fun m ρ _ => KernelIdeal.frame m ρ

theorem frame_referenceIdeal : Cert.quiescent_ReferenceIdeal := fun m ρ _ =>
  (θ_run Cert.ReferenceIdeal.defs _ _).mono (fun r h => ⟨fun c => (h c).2.2.2.2.2.2.2.2, sem_eq_zero_of_no_sems (by decide) r.2⟩)
    (Cert.ReferenceIdeal.Value.run (F := Ideal) m ρ)

theorem preserves : Cert.preserves_Kernel_KernelIdeal :=
  IdealRules.named_const.statement Cert.KernelIdeal.κ "score_scale_log2" .f32 0x3E0293EE#32
    (((Real.sqrt 128)⁻¹ * (Real.log 2)⁻¹ : ℝ) : EReal) rfl

end Cert.Attn
-- ==== Proof.Exec.lean ====
module

public import proofs.«01_k».proof.Proof.Body
public import Idealize.ShloMosaic.Lib.Pointwise

/-!
# What the programs over named buffers do to contents
-/

@[expose] public section

set_option maxRecDepth 16384

noncomputable section

namespace Cert.Attn

open Idealize.ShloMosaic

variable {F : FTy → Type}

namespace Cmd

theorem exec_bind {α β : Type} (p : Cmd F α) (f : α → Cmd F β) (σ : St F) :
    (p.bind f).exec σ = (f (p.exec σ).1).exec (p.exec σ).2 := by
  induction p generalizing σ with
  | ret a => rfl
  | load b r h k ih => exact ih _ _
  | loadQ r h k ih => exact ih _ _
  | store b r h hp w k ih => exact ih _

theorem exec_bind' {α β : Type} (p : Cmd F α) (f : α → Cmd F β) (σ : St F) :
    (p >>= f).exec σ = (f (p.exec σ).1).exec (p.exec σ).2 := exec_bind p f σ

/-- The program stores to buffers of `S` alone. -/
def Only (S : Buf0 → Prop) {α : Type} : Cmd F α → Prop
  | .ret _ => True
  | .load _ _ _ k => ∀ v, Only S (k v)
  | .loadQ _ _ k => ∀ v, Only S (k v)
  | .store b _ _ _ _ k => S b ∧ Only S k

theorem Only.exec {S : Buf0 → Prop} {α : Type} {p : Cmd F α} (h : p.Only S) {b : Buf0} (hb : ¬ S b) (σ : St F) :
    (p.exec σ).2 b = σ b := by
  induction p generalizing σ with
  | ret a => rfl
  | load b r hr k ih => exact ih _ (h _) _
  | loadQ r hr k ih => exact ih _ (h _) _
  | store b' r hr hp w k ih =>
    refine (ih h.2 _).trans (Function.update_of_ne ?_ _ _)
    rintro rfl
    exact hb h.1

theorem Only.bind {S : Buf0 → Prop} {α β : Type} {p : Cmd F α} {f : α → Cmd F β} (h : p.Only S) (hf : ∀ a, (f a).Only S) :
    (p >>= f).Only S := by
  show (Cmd.bind p f).Only S
  induction p with
  | ret a => exact hf a
  | load b r hr k ih => exact fun v => ih v (h v)
  | loadQ r hr k ih => exact fun v => ih v (h v)
  | store b' r hr hp w k ih => exact ⟨h.1, ih h.2⟩

theorem Only.each {S : Buf0 → Prop} {ι : Type} {f : ι → Cmd F Unit} (h : ∀ a, (f a).Only S) : ∀ l, (each f l).Only S
  | [] => trivial
  | a :: l => Only.bind (h a) fun _ => Only.each h l

theorem Only.mono {S T : Buf0 → Prop} {α : Type} {p : Cmd F α} (h : p.Only S) (hST : ∀ b, S b → T b) : p.Only T := by
  induction p with
  | ret a => trivial
  | load b r hr k ih => exact fun v => ih v (h v)
  | loadQ r hr k ih => exact fun v => ih v (h v)
  | store b' r hr hp w k ih => exact ⟨hST _ h.1, ih h.2⟩

/-- What one program of a list establishes, and the others keep, holds after the list. -/
theorem each_hit {ι : Type} (f : ι → Cmd F Unit) (R Q : St F → Prop) (a : ι)
    (hR : ∀ a' σ, R σ → R ((f a').exec σ).2) (hQ : ∀ σ, R σ → Q ((f a).exec σ).2)
    (hk : ∀ a', a' ≠ a → ∀ σ, Q σ → Q ((f a').exec σ).2) :
    ∀ (l : List ι) (σ : St F), a ∈ l → R σ → Q ((each f l).exec σ).2 := by
  have keep : ∀ (l : List ι) (σ : St F), a ∉ l → Q σ → Q ((each f l).exec σ).2 := by
    intro l
    induction l with
    | nil => intro σ _ h; exact h
    | cons c l ih =>
      intro σ hn h
      show Q (((f c).bind fun _ => each f l).exec σ).2
      rw [exec_bind]
      exact ih _ (fun hc => hn (List.mem_cons_of_mem _ hc)) (hk c (fun hc => hn (hc ▸ List.mem_cons_self)) _ h)
  intro l
  induction l with
  | nil => intro σ h; exact absurd h (by simp)
  | cons c l ih =>
    intro σ hm hr
    show Q (((f c).bind fun _ => each f l).exec σ).2
    rw [exec_bind]
    by_cases hl : a ∈ l
    · exact ih _ hl (hR _ _ hr)
    · rcases List.mem_cons.1 hm with rfl | h
      · exact keep l _ hl (hQ _ hr)
      · exact absurd h hl

variable {e : EltTy}

theorem ix2_congr {d0 d1 : Nat} {a a' : Fin d0} {b b' : Fin d1} (ha : a.val = a'.val) (hb : b.val = b'.val) :
    (ix2 a b : (⟨2, ![d0, d1]⟩ : Shape).Idx) = ix2 a' b' := by rw [Fin.ext ha, Fin.ext hb]

theorem ix3_congr {d0 d1 d2 : Nat} {a a' : Fin d0} {b b' : Fin d1} {c c' : Fin d2} (ha : a.val = a'.val)
    (hb : b.val = b'.val) (hc : c.val = c'.val) :
    (ix3 a b c : (⟨3, ![d0, d1, d2]⟩ : Shape).Idx) = ix3 a' b' c' := by rw [Fin.ext ha, Fin.ext hb, Fin.ext hc]

/-- A stored rectangle of rank three, at an index. -/
theorem upd3 {d0 d1 d2 o0 o1 o2 s0 s1 s2 : Nat} (h : o0 + s0 ≤ d0 ∧ o1 + s1 ≤ d1 ∧ o2 + s2 ≤ d2)
    (w : (⟨3, ![s0, s1, s2]⟩ : Shape).Idx → Elt F e) (X : Vec F ⟨3, ![d0, d1, d2]⟩ e) (a : Fin d0) (b : Fin d1) (c : Fin d2) :
    upd (rect3 o0 o1 o2 s0 s1 s2 h) w X (ix3 a b c)
      = if h : (o0 ≤ a.val ∧ a.val < o0 + s0) ∧ (o1 ≤ b.val ∧ b.val < o1 + s1) ∧ (o2 ≤ c.val ∧ c.val < o2 + s2)
        then w (ix3 ⟨a - o0, by omega⟩ ⟨b - o1, by omega⟩ ⟨c - o2, by omega⟩) else X (ix3 a b c) := by
  by_cases hc : (o0 ≤ a.val ∧ a.val < o0 + s0) ∧ (o1 ≤ b.val ∧ b.val < o1 + s1) ∧ (o2 ≤ c.val ∧ c.val < o2 + s2)
  · rw [dif_pos hc]
    have he : (rect3 (d0 := d0) (d1 := d1) (d2 := d2) o0 o1 o2 s0 s1 s2 h).emb
        (ix3 ⟨a - o0, by omega⟩ ⟨b - o1, by omega⟩ ⟨c - o2, by omega⟩ : (⟨3, ![s0, s1, s2]⟩ : Shape).Idx) = ix3 a b c := by
      refine (eq_ix3 _).trans (ix3_congr ?_ ?_ ?_)
      · show o0 + 1 * (a.val - o0) = a.val; omega
      · show o1 + 1 * (b.val - o1) = b.val; omega
      · show o2 + 1 * (c.val - o2) = c.val; omega
    unfold upd
    rw [← he, preimage?_emb]
  · rw [dif_neg hc]
    unfold upd
    rw [preimage?_eq_none]
    intro j hj
    refine hc ?_
    have h0 : o0 + 1 * (j 0).val = a.val := congrArg (fun i : (⟨3, ![d0, d1, d2]⟩ : Shape).Idx => (i 0).val) hj
    have h1 : o1 + 1 * (j 1).val = b.val := congrArg (fun i : (⟨3, ![d0, d1, d2]⟩ : Shape).Idx => (i 1).val) hj
    have h2 : o2 + 1 * (j 2).val = c.val := congrArg (fun i : (⟨3, ![d0, d1, d2]⟩ : Shape).Idx => (i 2).val) hj
    have l0 : (j 0).val < s0 := (j 0).2
    have l1 : (j 1).val < s1 := (j 1).2
    have l2 : (j 2).val < s2 := (j 2).2
    omega

/-- A stored rectangle of rank two, at an index. -/
theorem upd2 {d0 d1 o0 o1 s0 s1 : Nat} (h : o0 + s0 ≤ d0 ∧ o1 + s1 ≤ d1)
    (w : (⟨2, ![s0, s1]⟩ : Shape).Idx → Elt F e) (X : Vec F ⟨2, ![d0, d1]⟩ e) (a : Fin d0) (b : Fin d1) :
    upd (rect2 o0 o1 s0 s1 h) w X (ix2 a b)
      = if h : (o0 ≤ a.val ∧ a.val < o0 + s0) ∧ (o1 ≤ b.val ∧ b.val < o1 + s1)
        then w (ix2 ⟨a - o0, by omega⟩ ⟨b - o1, by omega⟩) else X (ix2 a b) := by
  by_cases hc : (o0 ≤ a.val ∧ a.val < o0 + s0) ∧ (o1 ≤ b.val ∧ b.val < o1 + s1)
  · rw [dif_pos hc]
    have he : (rect2 (d0 := d0) (d1 := d1) o0 o1 s0 s1 h).emb (ix2 ⟨a - o0, by omega⟩ ⟨b - o1, by omega⟩ : (⟨2, ![s0, s1]⟩ : Shape).Idx) = ix2 a b := by
      refine (eq_ix2 _).trans (ix2_congr ?_ ?_)
      · show o0 + 1 * (a.val - o0) = a.val; omega
      · show o1 + 1 * (b.val - o1) = b.val; omega
    unfold upd
    rw [← he, preimage?_emb]
  · rw [dif_neg hc]
    unfold upd
    rw [preimage?_eq_none]
    intro j hj
    refine hc ?_
    have h0 : o0 + 1 * (j 0).val = a.val := congrArg (fun i : (⟨2, ![d0, d1]⟩ : Shape).Idx => (i 0).val) hj
    have h1 : o1 + 1 * (j 1).val = b.val := congrArg (fun i : (⟨2, ![d0, d1]⟩ : Shape).Idx => (i 1).val) hj
    have l0 : (j 0).val < s0 := (j 0).2
    have l1 : (j 1).val < s1 := (j 1).2
    omega

theorem upd3_hit {d0 d1 d2 o0 o1 o2 s0 s1 s2 : Nat} (h : o0 + s0 ≤ d0 ∧ o1 + s1 ≤ d1 ∧ o2 + s2 ≤ d2)
    (w : (⟨3, ![s0, s1, s2]⟩ : Shape).Idx → Elt F e) (X : Vec F ⟨3, ![d0, d1, d2]⟩ e) {A : Fin d0} {B : Fin d1} {C : Fin d2}
    (a : Fin s0) (b : Fin s1) (c : Fin s2) (ha : A.val = o0 + a) (hb : B.val = o1 + b) (hc : C.val = o2 + c) :
    upd (rect3 o0 o1 o2 s0 s1 s2 h) w X (ix3 A B C) = w (ix3 a b c) := by
  rw [upd3, dif_pos (by omega)]
  exact congrArg w (ix3_congr (by show A.val - o0 = a.val; omega) (by show B.val - o1 = b.val; omega) (by show C.val - o2 = c.val; omega))

theorem upd3_miss {d0 d1 d2 o0 o1 o2 s0 s1 s2 : Nat} (h : o0 + s0 ≤ d0 ∧ o1 + s1 ≤ d1 ∧ o2 + s2 ≤ d2)
    (w : (⟨3, ![s0, s1, s2]⟩ : Shape).Idx → Elt F e) (X : Vec F ⟨3, ![d0, d1, d2]⟩ e) {A : Fin d0} {B : Fin d1} {C : Fin d2}
    (hn : ¬ ((o0 ≤ A.val ∧ A.val < o0 + s0) ∧ (o1 ≤ B.val ∧ B.val < o1 + s1) ∧ (o2 ≤ C.val ∧ C.val < o2 + s2))) :
    upd (rect3 o0 o1 o2 s0 s1 s2 h) w X (ix3 A B C) = X (ix3 A B C) := by
  rw [upd3, dif_neg hn]

theorem upd2_hit {d0 d1 o0 o1 s0 s1 : Nat} (h : o0 + s0 ≤ d0 ∧ o1 + s1 ≤ d1)
    (w : (⟨2, ![s0, s1]⟩ : Shape).Idx → Elt F e) (X : Vec F ⟨2, ![d0, d1]⟩ e) {A : Fin d0} {B : Fin d1}
    (a : Fin s0) (b : Fin s1) (ha : A.val = o0 + a) (hb : B.val = o1 + b) :
    upd (rect2 o0 o1 s0 s1 h) w X (ix2 A B) = w (ix2 a b) := by
  rw [upd2, dif_pos (by omega)]
  exact congrArg w (ix2_congr (by show A.val - o0 = a.val; omega) (by show B.val - o1 = b.val; omega))

theorem upd2_miss {d0 d1 o0 o1 s0 s1 : Nat} (h : o0 + s0 ≤ d0 ∧ o1 + s1 ≤ d1)
    (w : (⟨2, ![s0, s1]⟩ : Shape).Idx → Elt F e) (X : Vec F ⟨2, ![d0, d1]⟩ e) {A : Fin d0} {B : Fin d1}
    (hn : ¬ ((o0 ≤ A.val ∧ A.val < o0 + s0) ∧ (o1 ≤ B.val ∧ B.val < o1 + s1))) :
    upd (rect2 o0 o1 s0 s1 h) w X (ix2 A B) = X (ix2 A B) := by
  rw [upd2, dif_neg hn]

theorem idx2r {d0 d1 o0 o1 s0 s1 : Nat} (h : o0 + s0 ≤ d0 ∧ o1 + s1 ≤ d1) (a : Fin s0) (b : Fin s1) :
    (rect2 (d0 := d0) (d1 := d1) o0 o1 s0 s1 h).idx (ix2 a b : (⟨2, ![s0, s1]⟩ : Shape).Idx)
      = ix2 ⟨o0 + a, by omega⟩ ⟨o1 + b, by omega⟩ := by
  refine (eq_ix2 _).trans (ix2_congr ?_ ?_)
  · show o0 + 1 * a.val = o0 + a.val; omega
  · show o1 + 1 * b.val = o1 + b.val; omega

theorem idx3r {d0 d1 d2 o0 o1 o2 s0 s1 s2 : Nat} (h : o0 + s0 ≤ d0 ∧ o1 + s1 ≤ d1 ∧ o2 + s2 ≤ d2) (a : Fin s0) (b : Fin s1)
    (c : Fin s2) :
    (rect3 (d0 := d0) (d1 := d1) (d2 := d2) o0 o1 o2 s0 s1 s2 h).idx (ix3 a b c : (⟨3, ![s0, s1, s2]⟩ : Shape).Idx)
      = ix3 ⟨o0 + a, by omega⟩ ⟨o1 + b, by omega⟩ ⟨o2 + c, by omega⟩ := by
  refine (eq_ix3 _).trans (ix3_congr ?_ ?_ ?_)
  · show o0 + 1 * a.val = o0 + a.val; omega
  · show o1 + 1 * b.val = o1 + b.val; omega
  · show o2 + 1 * c.val = o2 + c.val; omega

end Cmd

end Cert.Attn
-- ==== Proof.Scale.lean ====
module

public import Idealize.ShloMosaic.Lib.Pointwise

/-!
# The powers of two of the quantiser

The kernel finds the exponent of `y` by a binary search over the exponent bits of a float; the reference takes the
floor of a logarithm. Both give the power of two above `y`, and its reciprocal.
-/

@[expose] public section

noncomputable section

namespace Cert.Attn

open Idealize.ShloMosaic

/-- The value of the float whose exponent bits are `E` and whose other bits are zero. -/
def binade (E : ℕ) : EReal := if E = 0 then 0 else if E < 255 then (((2 : ℝ) ^ ((E : ℤ) - 127) : ℝ) : EReal) else ⊤

theorem ofBits_binade (E : ℕ) (h : E ≤ 255) : Ideal.ofBits .f32 (BitVec.ofNat 32 (E * 8388608)) = binade E := by
  have hE : ((BitVec.ofNat 32 (E * 8388608)).extractLsb' 23 8).toNat = E := by
    rw [BitVec.extractLsb'_toNat, BitVec.toNat_ofNat, Nat.shiftRight_eq_div_pow]; omega
  have hF : ((BitVec.ofNat 32 (E * 8388608)).extractLsb' 0 23).toNat = 0 := by
    rw [BitVec.extractLsb'_toNat, BitVec.toNat_ofNat, Nat.shiftRight_eq_div_pow]; omega
  have hS : ((BitVec.ofNat 32 (E * 8388608)).extractLsb' 31 1) = 0#1 := by
    apply BitVec.eq_of_toNat_eq
    rw [BitVec.extractLsb'_toNat, BitVec.toNat_ofNat, Nat.shiftRight_eq_div_pow]
    show _ = 0
    omega
  show Ideal.ieee 8 23 _ = _
  unfold Ideal.ieee
  simp only [hE, hF, show (8 + 23 : ℕ) = 31 from rfl, hS]
  unfold binade
  by_cases h0 : E = 0
  · subst h0; simp
  · by_cases h1 : E = 255
    · subst h1; simp
    · rw [if_neg (by omega : ¬ E = 2 ^ 8 - 1), if_neg h0, if_neg h0, if_pos (by omega : E < 255)]
      congr 1
      simp only [show ((0#1 : BitVec 1) == 1#1) = false from rfl]
      norm_num
      rw [show (8388608 : ℝ) = (2 : ℝ) ^ (23 : ℤ) by norm_num, ← zpow_add₀ (by norm_num : (2:ℝ) ≠ 0)]
      congr 1; omega

/-- One step of the search. -/
def stepE (y : EReal) (w e : BitVec 32) : BitVec 32 := if y < Ideal.ofBits .f32 (e + w) then e else e + w

/-- The exponent bits of `y`. -/
def bitsE (y : EReal) : BitVec 32 :=
  stepE y 8388608#32 <| stepE y 16777216#32 <| stepE y 33554432#32 <| stepE y 67108864#32 <|
  stepE y 134217728#32 <| stepE y 268435456#32 <| stepE y 536870912#32 <| stepE y 1073741824#32 0#32

/-- The scale of `y`. -/
def scaleE (y : EReal) : EReal := if bitsE y = 0#32 then 1 else Ideal.ofBits .f32 (bitsE y + 8388608#32)

/-- The reciprocal of the scale of `y`. -/
def invE (y : EReal) : EReal := if bitsE y = 0#32 then 1 else Ideal.ofBits .f32 (2122317824#32 - bitsE y)

/-- The state of the search: exponent bits `E` found to be at most `y`, and `E + d` above it. -/
def Found (y : EReal) (d : ℕ) (e : BitVec 32) : Prop :=
  ∃ E : ℕ, e = BitVec.ofNat 32 (E * 8388608) ∧ E + d ≤ 256 ∧ binade E ≤ y ∧ (E + d ≤ 255 → y < binade (E + d))

theorem found_step (y : EReal) (d : ℕ) (hd : 0 < d) (w e : BitVec 32) (hw : w = BitVec.ofNat 32 (d * 8388608))
    (h : Found y (d + d) e) : Found y d (stepE y w e) := by
  obtain ⟨E, rfl, hE, h0, h1⟩ := h
  subst hw
  have ha : BitVec.ofNat 32 (E * 8388608) + BitVec.ofNat 32 (d * 8388608) = BitVec.ofNat 32 ((E + d) * 8388608) := by
    rw [← BitVec.ofNat_add, ← Nat.add_mul]
  unfold stepE
  rw [ha, ofBits_binade _ (by omega)]
  split
  · rename_i hlt
    exact ⟨E, rfl, by omega, h0, fun _ => hlt⟩
  · rename_i hlt
    refine ⟨E + d, rfl, by omega, not_lt.1 hlt, fun h => ?_⟩
    rw [Nat.add_assoc]; exact h1 (by omega)

theorem found (y : EReal) (hy : 0 ≤ y) : Found y 1 (bitsE y) := by
  unfold bitsE
  refine found_step y 1 (by omega) _ _ (by rfl) ?_
  refine found_step y 2 (by omega) _ _ (by rfl) ?_
  refine found_step y 4 (by omega) _ _ (by rfl) ?_
  refine found_step y 8 (by omega) _ _ (by rfl) ?_
  refine found_step y 16 (by omega) _ _ (by rfl) ?_
  refine found_step y 32 (by omega) _ _ (by rfl) ?_
  refine found_step y 64 (by omega) _ _ (by rfl) ?_
  refine found_step y 128 (by omega) _ _ (by rfl) ?_
  exact ⟨0, rfl, by omega, by simpa [binade] using hy, fun h => absurd h (by omega)⟩

/-- The exponent of the scale of a real number. -/
def expo (y : ℝ) : ℤ := if y < (2 : ℝ) ^ (-126 : ℤ) then 0 else ⌊Real.log y / Real.log 2⌋ + 1

theorem scale_inv (y : ℝ) (hy : 0 ≤ y) (hy' : y < (2 : ℝ) ^ (126 : ℤ)) :
    scaleE (y : EReal) = (((2 : ℝ) ^ expo y : ℝ) : EReal) ∧ invE (y : EReal) = (((2 : ℝ) ^ (-expo y) : ℝ) : EReal) := by
  obtain ⟨E, he, hE, h0, h1⟩ := found (y : EReal) (by exact_mod_cast hy)
  have two : (1 : ℝ) < 2 := by norm_num
  by_cases hz : E = 0
  · subst hz
    have h2 : y < (2 : ℝ) ^ (-126 : ℤ) := by
      have := h1 (by omega)
      simpa [binade] using this
    have hb : bitsE (y : EReal) = 0#32 := by rw [he, Nat.zero_mul]
    unfold scaleE invE expo
    rw [if_pos hb, if_pos hb, if_pos h2]
    simp
  · have hE1 : E < 253 := by
      by_contra hc
      have hle : (((2 : ℝ) ^ (126 : ℤ) : ℝ) : EReal) ≤ binade E := by
        unfold binade
        rw [if_neg hz]
        split
        · exact EReal.coe_le_coe_iff.2 (zpow_le_zpow_right₀ two.le (by omega))
        · exact le_top
      have := lt_of_lt_of_le (EReal.coe_lt_coe_iff.2 hy') (hle.trans h0)
      exact lt_irrefl _ this
    have ha : (2 : ℝ) ^ ((E : ℤ) - 127) ≤ y := by
      have := h0
      unfold binade at this
      rw [if_neg hz, if_pos (by omega)] at this
      exact_mod_cast this
    have hb : y < (2 : ℝ) ^ ((E : ℤ) - 126) := by
      have := h1 (by omega)
      unfold binade at this
      rw [if_neg (by omega), if_pos (by omega)] at this
      have := EReal.coe_lt_coe_iff.1 this
      convert this using 2
      push_cast; ring
    have hpos : 0 < y := lt_of_lt_of_le (by positivity) ha
    have hn : ¬ y < (2 : ℝ) ^ (-126 : ℤ) := not_lt.2 ((zpow_le_zpow_right₀ two.le (by omega)).trans ha)
    have hlog : 0 < Real.log 2 := Real.log_pos two
    have hfl : ⌊Real.log y / Real.log 2⌋ = (E : ℤ) - 127 := by
      rw [Int.floor_eq_iff]
      constructor
      · rw [le_div_iff₀ hlog, ← Real.log_zpow]
        exact Real.log_le_log (by positivity) ha
      · rw [div_lt_iff₀ hlog, show (((E : ℤ) - 127 : ℤ) : ℝ) + 1 = (((E : ℤ) - 126 : ℤ) : ℝ) by push_cast; ring, ← Real.log_zpow]
        exact Real.log_lt_log hpos hb
    have hx : expo y = (E : ℤ) - 126 := by
      unfold expo; rw [if_neg hn, hfl]; ring
    have hne : bitsE (y : EReal) ≠ 0#32 := by
      rw [he]; intro h
      have := congrArg BitVec.toNat h
      rw [BitVec.toNat_ofNat] at this
      simp at this; omega
    constructor
    · unfold scaleE
      rw [if_neg hne, he, show (8388608#32 : BitVec 32) = BitVec.ofNat 32 (1 * 8388608) from rfl, ← BitVec.ofNat_add, ← Nat.add_mul,
        ofBits_binade _ (by omega), hx]
      unfold binade
      rw [if_neg (by omega), if_pos (by omega)]
      congr 2; push_cast; ring
    · unfold invE
      have hs : 2122317824#32 - BitVec.ofNat 32 (E * 8388608) = BitVec.ofNat 32 ((253 - E) * 8388608) := by
        apply BitVec.eq_of_toNat_eq
        rw [BitVec.toNat_sub]; simp only [BitVec.toNat_ofNat]; omega
      rw [if_neg hne, he, hs, ofBits_binade _ (by omega), hx]
      unfold binade
      rw [if_neg (by omega), if_pos (by omega)]
      congr 2; omega

theorem ofBits_two : Ideal.ofBits .f32 0x40000000#32 = ((2 : ℝ) : EReal) := by
  rw [show (0x40000000#32 : BitVec 32) = BitVec.ofNat 32 (128 * 8388608) from rfl, ofBits_binade _ (by omega)]
  unfold binade; norm_num

theorem ofBits_tiny : Ideal.ofBits .f32 0x00800000#32 = (((2 : ℝ) ^ (-126 : ℤ) : ℝ) : EReal) := by
  rw [show (0x00800000#32 : BitVec 32) = BitVec.ofNat 32 (1 * 8388608) from rfl, ofBits_binade _ (by omega)]
  unfold binade; norm_num

theorem ofBits_bot : Ideal.ofBits .f32 0xFF800000#32 = ⊥ := by
  simp [Ideal.ofBits, Ideal.ieee]

/-- The reference's exponent. -/
def expR (y : EReal) : EReal :=
  if y < Ideal.ofBits .f32 0x00800000#32 then 0
  else Ideal.liftRound Int.floor (Ideal.div (Ideal.log y) (Ideal.log (Ideal.ofBits .f32 0x40000000#32))) + 1

theorem expR_eq (y : ℝ) (hy : 0 ≤ y) : expR (y : EReal) = ((expo y : ℝ) : EReal) := by
  unfold expR expo
  rw [ofBits_tiny, ofBits_two]
  by_cases h : y < (2 : ℝ) ^ (-126 : ℤ)
  · rw [if_pos (EReal.coe_lt_coe_iff.2 h), if_pos h]; simp
  · rw [if_neg (fun hc => h (EReal.coe_lt_coe_iff.1 hc)), if_neg h]
    have hpos : 0 < y := lt_of_lt_of_le (by positivity) (not_lt.1 h)
    have hlog : Real.log 2 ≠ 0 := (Real.log_pos (by norm_num)).ne'
    have e1 : Ideal.log (y : EReal) = ((Real.log y : ℝ) : EReal) := by
      show (if y ≤ 0 then _ else _) = _
      rw [if_neg (not_le.2 hpos)]
    have e2 : Ideal.log ((2 : ℝ) : EReal) = ((Real.log 2 : ℝ) : EReal) := by
      show (if (2:ℝ) ≤ 0 then _ else _) = _
      rw [if_neg (by norm_num)]
    rw [e1, e2]
    unfold Ideal.div
    rw [if_neg (by exact_mod_cast hlog), ← EReal.coe_inv, ← EReal.coe_mul]
    show ((⌊Real.log y * (Real.log 2)⁻¹⌋ : ℝ) : EReal) + 1 = _
    rw [← div_eq_mul_inv]; push_cast; rfl

theorem pow_two (e : ℤ) : Ideal.pow (Ideal.ofBits .f32 0x40000000#32) ((e : ℝ) : EReal) = (((2 : ℝ) ^ e : ℝ) : EReal) := by
  rw [ofBits_two]
  show ((Real.rpow 2 e : ℝ) : EReal) = _
  congr 1
  exact Real.rpow_intCast 2 e

end Cert.Attn
-- ==== Proof.Quant.lean ====
module

public import proofs.«01_k».proof.Proof.Body
public import proofs.«01_k».proof.Proof.Scale

/-!
# The quantiser of the kernel, element by element
-/

@[expose] public section

set_option maxRecDepth 16384

noncomputable section

namespace Cert.Attn

open Idealize.ShloMosaic
open Cert.KernelIdeal (S64x128 S1x128x128 S128x128 S1x128)

/-- The largest magnitude of a row. -/
def amaxE {n : ℕ} (u : Fin n → EReal) : EReal := Finset.univ.fold max ⊥ fun d => max (u d) (-(u d))

/-- The largest magnitude of a row, divided by the largest code. -/
def yE {n : ℕ} (u : Fin n → EReal) : EReal := amaxE u * Ideal.ofBits .f32 0x3B124925#32

/-- The clip to the range of the codes. -/
def clipE (x : EReal) : EReal := min (Ideal.ofBits .f32 0x43E00000#32) (max (Ideal.ofBits .f32 0xC3E00000#32) x)

/-- The code of an element of a row. -/
def codeE {n : ℕ} (u : Fin n → EReal) (d : Fin n) : EReal := clipE (u d * invE (yE u))

/-- A row under the rotary embedding. -/
def rotE (cs sn : Fin 64 → EReal) (u : Fin 128 → EReal) (d : Fin 128) : EReal :=
  if h : d.val < 64 then u d * cs ⟨d, h⟩ - u ⟨64 + d, by omega⟩ * sn ⟨d, h⟩
  else u d * cs ⟨d - 64, by omega⟩ + u ⟨d - 64, by omega⟩ * sn ⟨d - 64, by omega⟩

theorem headT_apply (v : Vec Ideal S1x128x128 .bf16) (d i : Fin 128) : headT v (ix2 d i) = v (ix3 0 i d) := by
  pointwise [headT]

theorem rot_apply (cs sn : FVec Ideal S64x128 .f32) (xt : FVec Ideal S128x128 .f32) (d i : Fin 128) :
    rot cs sn xt (ix2 d i) = rotE (fun k => cs (ix2 k i)) (fun k => sn (ix2 k i)) (fun k => xt (ix2 k i)) d := by
  unfold rotE
  pointwise [rot]
  split
  · rfl
  · rename_i h
    rw [show (⟨64 + (d.val - 64), by omega⟩ : Fin 128) = d from Fin.ext (by show 64 + (d.val - 64) = d.val; omega)]

theorem amaxT_apply (xt : FVec Ideal S128x128 .f32) (i : Fin 128) : amaxT xt (ix2 0 i) = amaxE fun d => xt (ix2 d i) := by
  unfold amaxE
  pointwise [amaxT]
  rw [ofBits_bot]; rfl

theorem expBits_apply (y : FVec Ideal S1x128 .f32) (i : Fin 128) : expBits y (ix2 0 i) = bitsE (y (ix2 0 i)) := by
  have h : ∀ w e, expStep y w e (ix2 0 i) = stepE (y (ix2 0 i)) w (e (ix2 0 i)) := by
    intro w e
    unfold stepE
    pointwise [expStep]
    rfl
  unfold expBits bitsE
  simp only [h]
  rfl

theorem select_zero (b : BitVec 32) (x y : EReal) :
    Scalar.select (IntOp.cmpi CmpIPredicate.eq b 0#32) x y = if b = 0#32 then x else y := by
  unfold Scalar.select IntOp.cmpi
  by_cases h : b = 0#32
  · simp [h]
  · have h' : (b == 0#32) = false := by simpa using h
    simp [h, h']

theorem scaleOf_apply (y : FVec Ideal S1x128 .f32) (i : Fin 128) : scaleOf (F := Ideal) (expBits y) (ix2 0 i) = scaleE (y (ix2 0 i)) := by
  unfold scaleE
  rw [← expBits_apply]
  pointwise [scaleOf]
  exact select_zero _ _ _

theorem invOf_apply (y : FVec Ideal S1x128 .f32) (i : Fin 128) : invOf (F := Ideal) (expBits y) (ix2 0 i) = invE (y (ix2 0 i)) := by
  unfold invE
  rw [← expBits_apply]
  pointwise [invOf]
  exact select_zero _ _ _

theorem over448_apply (a : FVec Ideal S1x128 .f32) (i : Fin 128) :
    over448 a (ix2 0 i) = a (ix2 0 i) * Ideal.ofBits .f32 0x3B124925#32 := by
  pointwise [over448]

theorem scaleT_apply (xt : FVec Ideal S128x128 .f32) (i : Fin 128) :
    scaleT xt (ix2 0 i) = scaleE (yE fun d => xt (ix2 d i)) := by
  unfold scaleT yE
  rw [scaleOf_apply, over448_apply, amaxT_apply]

theorem clip_apply (v : FVec Ideal S128x128 .f32) (j) : clip v j = clipE (v j) := by
  rfl

theorem codesOut_apply (v : FVec Ideal S128x128 .f32) (i d : Fin 128) : codesOut v (ix2 i d) = v (ix2 d i) := by
  pointwise [codesOut]

theorem codesT_apply (xt : FVec Ideal S128x128 .f32) (d i : Fin 128) :
    codesT xt (ix2 d i) = codeE (fun k => xt (ix2 k i)) d := by
  unfold codesT codeE yE
  rw [clip_apply]
  congr 1
  rw [← amaxT_apply, ← over448_apply, ← invOf_apply]
  pointwise

end Cert.Attn
-- ==== Proof.KerQuant.lean ====
module

public import proofs.«01_k».proof.Proof.Exec
public import proofs.«01_k».proof.Proof.Quant

/-!
# What the quantisation of a block leaves

The body's quantising part, read on contents: each code and each scale it leaves in the results' buffers and in the
scratch, as the code or the scale of a row of the block.
-/

@[expose] public section

set_option maxRecDepth 16384

noncomputable section

namespace Cert.Attn

open Idealize.ShloMosaic
open Cert.KernelIdeal (S2x1024 S2x128 S64x128 S256x128 S1x256 S1x128x3072 S1x128x512 S1x128x24 S1x128x4 S24x128 S4x1024x128 S4x128x1024
  S24x128x128 S1x128 S1x128x128 S128x128 S128x24 S4x128 S128x4)
open Cert.KernelIdeal.Gen
open Cmd

/-- A head of a block's token. -/
def rowB {n : ℕ} (X : FVec Ideal ⟨3, ![1, 128, n * 128]⟩ .bf16) (i : Fin 128) (h : Fin n) (d : Fin 128) : EReal :=
  X (ix3 0 i ⟨h * 128 + d, by omega⟩)

/-- A head of a block's token under the rotary embedding of angles `a`. -/
def rrowB {n : ℕ} (X : FVec Ideal ⟨3, ![1, 128, n * 128]⟩ .bf16) (a : FVec Ideal S64x128 .f32) (i : Fin 128) (h : Fin n) :
    Fin 128 → EReal :=
  rotE (fun k => Ideal.cos (a (ix2 k i))) (fun k => Ideal.sin (a (ix2 k i))) (rowB X i h)

section Steps

variable {F : FTy → Type} [FloatOps F]

theorem ld_exec (b : Buf0) (r : Rect b.shape) (h : 0 < r.shape.numel) (σ : St F) :
    (ld b r h).exec σ = (fun j => σ b (r.idx j), σ) := rfl

theorem put_exec (b : Buf0) (r : Rect b.shape) (h : 0 < r.shape.numel) (hp : r.PackedRows (EltTy.packing b.elt))
    (w : r.shape.Idx → Elt F b.elt) (σ : St F) :
    (put b r h hp w).exec σ = ((), Function.update σ b (upd r w (σ b))) := rfl

theorem pure_exec {α : Type} (a : α) (σ : St F) : (pure a : Cmd F α).exec σ = (a, σ) := rfl

/-- A query head writes its codes and scales alone. -/
def QOnly (b : Buf0) : Prop := b = .qc ∨ b = .qs
/-- A key and value head writes its codes, and the caches. -/
def KOnly (b : Buf0) : Prop := b = .kco ∨ b = .vco ∨ b = .kc ∨ b = .ks ∨ b = .vt

theorem qHead_only (cs sn : FVec F S64x128 .f32) (h : Fin 24) : (qHead cs sn h).Only QOnly :=
  fun _ _ => ⟨.inl rfl, fun _ => ⟨.inr rfl, trivial⟩⟩

theorem kvHead_only (n : Fin 8) (cs sn : FVec F S64x128 .f32) (g : Fin 4) : (kvHead n cs sn g).Only KOnly :=
  fun _ _ => ⟨.inl rfl, fun _ => ⟨.inr (.inr (.inl rfl)), fun _ => ⟨.inr (.inr (.inr (.inl rfl))), fun _ _ =>
    ⟨.inr (.inl rfl), fun _ => ⟨.inr (.inr (.inr (.inr rfl))), trivial⟩⟩⟩⟩⟩

/-- The transposed query head. -/
def xtQ (cs sn : FVec F S64x128 .f32) (X : Vec F S1x128x3072 .bf16) (h : Fin 24) : FVec F S128x128 .f32 :=
  rot cs sn (headT fun j => X ((rect3 (d0 := 1) (d1 := 128) (d2 := 3072) 0 0 (h * 128) 1 128 128 (by omega)).idx j))

/-- The transposed key or value head, before any embedding. -/
def xtV (X : Vec F S1x128x512 .bf16) (g : Fin 4) : FVec F S128x128 .f32 :=
  headT fun j => X ((rect3 (d0 := 1) (d1 := 128) (d2 := 512) 0 0 (g * 128) 1 128 128 (by omega)).idx j)

/-- The contents after a store. -/
def stp (σ : St F) (b : Buf0) (r : Rect b.shape) (w : r.shape.Idx → Elt F b.elt) : St F := Function.update σ b (upd r w (σ b))

theorem stp_same (σ : St F) (b : Buf0) (r : Rect b.shape) (w : r.shape.Idx → Elt F b.elt) : stp σ b r w b = upd r w (σ b) :=
  Function.update_self ..

theorem stp_ne (σ : St F) {b b' : Buf0} (r : Rect b.shape) (w : r.shape.Idx → Elt F b.elt) (h : ¬ b' = b) : stp σ b r w b' = σ b' :=
  Function.update_of_ne h ..

theorem qHead_st (cs sn : FVec F S64x128 .f32) (h : Fin 24) (σ : St F) :
    ((qHead cs sn h).exec σ).2 = stp (stp σ .qc (rect3 0 0 (h * 128) 1 128 128 (by omega))
        (shapeCast S1x128x128 (codesOut (codesT (xtQ cs sn (σ .x) h))) shapeCasts_S128x128_S1x128x128))
      .qs (rect2 h 0 1 128 (by omega)) (shapeCast S1x128 (scaleT (xtQ cs sn (σ .x) h)) shapeCasts_S1x128_S1x128) := rfl

/-- The contents after the key's stores. -/
def kSt (n : Fin 8) (cs sn : FVec F S64x128 .f32) (g : Fin 4) (σ : St F) : St F :=
  stp (stp (stp σ .kco (rect3 0 0 (g * 128) 1 128 128 (by omega))
      (shapeCast S1x128x128 (codesOut (codesT (rot cs sn (xtV (σ .k) g)))) shapeCasts_S128x128_S1x128x128))
    .kc (rect3 g (n * 128) 0 1 128 128 (by omega))
      (shapeCast S1x128x128 (codesOut (codesT (rot cs sn (xtV (σ .k) g)))) shapeCasts_S128x128_S1x128x128))
    .ks (rect3 g (n * 128) 0 1 128 128 (by omega))
      (shapeCast S1x128x128 (transpose S128x128 [1, 0]
      (broadcastTo S128x128 (shapeCast S1x128 (scaleT (rot cs sn (xtV (σ .k) g))) shapeCasts_S1x128_S1x128) broadcasts_S1x128_S128x128)
      transposes_S128x128_p1_0_S128x128) shapeCasts_S128x128_S1x128x128)

/-- The contents after the value's stores. -/
def vSt (n : Fin 8) (g : Fin 4) (X : Vec F S1x128x512 .bf16) (σ : St F) : St F :=
  stp (stp σ .vco (rect3 0 0 (g * 128) 1 128 128 (by omega))
      (shapeCast S1x128x128 (codesOut (codesT (xtV X g))) shapeCasts_S128x128_S1x128x128))
    .vt (rect3 g 0 (n * 128) 1 128 128 (by omega))
      (shapeCast S1x128x128 (truncf .bf16 (mulf (extf .f32 (truncf .fp8e4m3 (codesT (xtV X g)) bitsLt_fp8e4m3_f32) bitsLt_fp8e4m3_f32)
      (broadcastTo S128x128 (scaleT (xtV X g)) broadcasts_S1x128_S128x128)) bitsLt_bf16_f32) shapeCasts_S128x128_S1x128x128)

theorem kvHead_ex (n : Fin 8) (cs sn : FVec F S64x128 .f32) (g : Fin 4) (σ : St F) :
    (kvHead n cs sn g).exec σ = ((scaleT (rot cs sn (xtV (σ .k) g)), scaleT (xtV (kSt n cs sn g σ .v) g)),
      vSt n g (kSt n cs sn g σ .v) (kSt n cs sn g σ)) := rfl

theorem kSt_ne (n : Fin 8) (cs sn : FVec F S64x128 .f32) (g : Fin 4) (σ : St F) {b : Buf0} (h0 : ¬ b = .kco) (h1 : ¬ b = .kc) (h2 : ¬ b = .ks) :
    kSt n cs sn g σ b = σ b := by
  unfold kSt
  rw [stp_ne _ _ _ h2, stp_ne _ _ _ h1, stp_ne _ _ _ h0]

theorem qHead_qc (cs sn : FVec F S64x128 .f32) (h : Fin 24) (σ : St F) :
    ((qHead cs sn h).exec σ).2 .qc = upd (rect3 0 0 (h * 128) 1 128 128 (by omega))
      (shapeCast S1x128x128 (codesOut (codesT (xtQ cs sn (σ .x) h))) shapeCasts_S128x128_S1x128x128) (σ .qc) := by
  rw [qHead_st]; simp only [stp_same, stp_ne, kSt_ne, ne_eq, reduceCtorEq, not_false_eq_true]

theorem qHead_qs (cs sn : FVec F S64x128 .f32) (h : Fin 24) (σ : St F) :
    ((qHead cs sn h).exec σ).2 .qs = upd (rect2 h 0 1 128 (by omega))
      (shapeCast S1x128 (scaleT (xtQ cs sn (σ .x) h)) shapeCasts_S1x128_S1x128) (σ .qs) := by
  rw [qHead_st]; simp only [stp_same, stp_ne, kSt_ne, ne_eq, reduceCtorEq, not_false_eq_true]

theorem kvHead_kco (n : Fin 8) (cs sn : FVec F S64x128 .f32) (g : Fin 4) (σ : St F) :
    ((kvHead n cs sn g).exec σ).2 .kco = upd (rect3 0 0 (g * 128) 1 128 128 (by omega))
      (shapeCast S1x128x128 (codesOut (codesT (rot cs sn (xtV (σ .k) g)))) shapeCasts_S128x128_S1x128x128) (σ .kco) := by
  rw [kvHead_ex]; unfold vSt; simp only [stp_ne, ne_eq, reduceCtorEq, not_false_eq_true]; unfold kSt
  simp only [stp_same, stp_ne, ne_eq, reduceCtorEq, not_false_eq_true]

theorem kvHead_kc (n : Fin 8) (cs sn : FVec F S64x128 .f32) (g : Fin 4) (σ : St F) :
    ((kvHead n cs sn g).exec σ).2 .kc = upd (rect3 g (n * 128) 0 1 128 128 (by omega))
      (shapeCast S1x128x128 (codesOut (codesT (rot cs sn (xtV (σ .k) g)))) shapeCasts_S128x128_S1x128x128) (σ .kc) := by
  rw [kvHead_ex]; unfold vSt; simp only [stp_ne, ne_eq, reduceCtorEq, not_false_eq_true]; unfold kSt
  simp only [stp_same, stp_ne, ne_eq, reduceCtorEq, not_false_eq_true]

theorem kvHead_ks (n : Fin 8) (cs sn : FVec F S64x128 .f32) (g : Fin 4) (σ : St F) :
    ((kvHead n cs sn g).exec σ).2 .ks = upd (rect3 g (n * 128) 0 1 128 128 (by omega))
      (shapeCast S1x128x128 (transpose S128x128 [1, 0]
      (broadcastTo S128x128 (shapeCast S1x128 (scaleT (rot cs sn (xtV (σ .k) g))) shapeCasts_S1x128_S1x128) broadcasts_S1x128_S128x128)
      transposes_S128x128_p1_0_S128x128) shapeCasts_S128x128_S1x128x128) (σ .ks) := by
  rw [kvHead_ex]; unfold vSt; simp only [stp_ne, ne_eq, reduceCtorEq, not_false_eq_true]; unfold kSt
  simp only [stp_same, stp_ne, ne_eq, reduceCtorEq, not_false_eq_true]

theorem kvHead_vco (n : Fin 8) (cs sn : FVec F S64x128 .f32) (g : Fin 4) (σ : St F) :
    ((kvHead n cs sn g).exec σ).2 .vco = upd (rect3 0 0 (g * 128) 1 128 128 (by omega))
      (shapeCast S1x128x128 (codesOut (codesT (xtV (σ .v) g))) shapeCasts_S128x128_S1x128x128) (σ .vco) := by
  rw [kvHead_ex]; unfold vSt; simp only [stp_same, stp_ne, kSt_ne, ne_eq, reduceCtorEq, not_false_eq_true]

theorem kvHead_vt (n : Fin 8) (cs sn : FVec F S64x128 .f32) (g : Fin 4) (σ : St F) :
    ((kvHead n cs sn g).exec σ).2 .vt = upd (rect3 g 0 (n * 128) 1 128 128 (by omega))
      (shapeCast S1x128x128 (truncf .bf16 (mulf (extf .f32 (truncf .fp8e4m3 (codesT (xtV (σ .v) g)) bitsLt_fp8e4m3_f32) bitsLt_fp8e4m3_f32)
      (broadcastTo S128x128 (scaleT (xtV (σ .v) g)) broadcasts_S1x128_S128x128)) bitsLt_bf16_f32) shapeCasts_S128x128_S1x128x128) (σ .vt) := by
  rw [kvHead_ex]; unfold vSt; simp only [stp_same, stp_ne, kSt_ne, ne_eq, reduceCtorEq, not_false_eq_true]

theorem kvHead_fst (n : Fin 8) (cs sn : FVec F S64x128 .f32) (g : Fin 4) (σ : St F) :
    ((kvHead n cs sn g).exec σ).1 = (scaleT (rot cs sn (xtV (σ .k) g)), scaleT (xtV (σ .v) g)) := by
  rw [kvHead_ex]; simp only [stp_same, stp_ne, kSt_ne, ne_eq, reduceCtorEq, not_false_eq_true]

end Steps

theorem xtQ_col (a : FVec Ideal S64x128 .f32) (X : Vec Ideal S1x128x3072 .bf16) (h : Fin 24) (i : Fin 128) :
    (fun k : Fin 128 => xtQ (cos a) (sin a) X h (ix2 k i)) = rrowB (n := 24) X a i h := by
  funext d
  unfold xtQ rrowB
  rw [rot_apply]
  congr 1
  funext k
  rw [headT_apply, idx3r]
  exact congrArg X (ix3_congr (by simp) (by simp) rfl)

theorem xtV_col (X : Vec Ideal S1x128x512 .bf16) (g : Fin 4) (i : Fin 128) :
    (fun k : Fin 128 => xtV X g (ix2 k i)) = rowB (n := 4) X i g := by
  funext k
  unfold xtV rowB
  rw [headT_apply, idx3r]
  exact congrArg X (ix3_congr (by simp) (by simp) rfl)

theorem xtK_col (a : FVec Ideal S64x128 .f32) (X : Vec Ideal S1x128x512 .bf16) (g : Fin 4) (i : Fin 128) :
    (fun k : Fin 128 => rot (cos a) (sin a) (xtV X g) (ix2 k i)) = rrowB (n := 4) X a i g := by
  funext d
  unfold rrowB
  rw [rot_apply, ← xtV_col]
  rfl

/-- The codes as they are stored. -/
theorem codes_stored (xt : FVec Ideal S128x128 .f32) (i d : Fin 128) (u : Fin 128 → EReal) (hu : (fun k : Fin 128 => xt (ix2 k i)) = u)
    (z : Fin 1) :
    shapeCast S1x128x128 (codesOut (codesT xt)) shapeCasts_S128x128_S1x128x128 (ix3 z i d) = codeE u d := by
  subst hu
  rw [← codesT_apply, ← codesOut_apply (codesT xt), Subsingleton.elim z 0]
  generalize codesOut (codesT xt) = C
  pointwise

/-- The scales as they are stored. -/
theorem scales_stored (xt : FVec Ideal S128x128 .f32) (i : Fin 128) (u : Fin 128 → EReal) (hu : (fun k : Fin 128 => xt (ix2 k i)) = u)
    (z : Fin 1) :
    shapeCast S1x128 (scaleT xt) shapeCasts_S1x128_S1x128 (ix2 z i) = scaleE (yE u) := by
  subst hu
  rw [← scaleT_apply, Subsingleton.elim z 0]
  generalize scaleT xt = C
  pointwise

/-! ### The whole of it -/

section Whole

variable {F : FTy → Type} [FloatOps F]

/-- The angles of a block's tokens. -/
def angV (b : Fin 2) (σ : St F) : FVec F S64x128 .f32 :=
  mulf (broadcastTo S64x128 (sitofp .f32 (fun j => σ .pos ((rect2 (d0 := 2) (d1 := 128) b 0 1 128 (by omega)).idx j) : IVec S1x128 32))
      broadcasts_S1x128_S64x128)
    (shapeCast S64x128 (fun j => σ .freq ((rect2 (d0 := 64) (d1 := 128) 0 0 64 128 (by omega)).idx j) : FVec F S64x128 .f32)
      shapeCasts_S64x128_S64x128)

/-- The contents after the query heads. -/
def st1 (a : FVec F S64x128 .f32) (σ : St F) : St F := ((each (qHead (cos a) (sin a)) (List.finRange 24)).exec σ).2

/-- The contents after the queries' scales. -/
def st2 (a : FVec F S64x128 .f32) (σ : St F) : St F :=
  stp (st1 a σ) .qso (rect3 0 0 0 1 128 24 (by omega))
    (shapeCast S1x128x24 (transpose S128x24 [1, 0]
      (fun j => st1 a σ .qs ((rect2 (d0 := 24) (d1 := 128) 0 0 24 128 (by omega)).idx j) : Vec F S24x128 .f32)
      transposes_S24x128_p1_0_S128x24) shapeCasts_S128x24_S1x128x24)

/-- The contents after a key and value head. -/
def kvSt (n : Fin 8) (a : FVec F S64x128 .f32) (g : Fin 4) (σ : St F) : St F := ((kvHead n (cos a) (sin a) g).exec σ).2

/-- The contents after the key and value heads. -/
def st3 (n : Fin 8) (a : FVec F S64x128 .f32) (σ : St F) : St F :=
  kvSt n a 3 (kvSt n a 2 (kvSt n a 1 (kvSt n a 0 (st2 a σ))))

/-- Four rows of scales as they are stored. -/
def four (s0 s1 s2 s3 : FVec F S1x128 .f32) : Vec F S1x128x4 .f32 :=
  shapeCast S1x128x4 (transpose S128x4 [1, 0]
      (concatenate S4x128 0 [⟨S1x128, s0⟩, ⟨S1x128, s1⟩, ⟨S1x128, s2⟩, ⟨S1x128, s3⟩]
        concatenates_S1x128_S1x128_S1x128_S1x128_S4x128_d0) transposes_S4x128_p1_0_S128x4) shapeCasts_S128x4_S1x128x4

theorem kvSt_keep (n : Fin 8) (a : FVec F S64x128 .f32) (g : Fin 4) (σ : St F) {b : Buf0} (h : ¬ KOnly b) : kvSt n a g σ b = σ b :=
  (kvHead_only _ _ _ _).exec h σ

theorem quant_ex (b : Fin 2) (n : Fin 8) (σ : St F) :
    ((quant b n).exec σ).2 =
      stp (stp (st3 n (angV b σ) σ) .kso (rect3 0 0 0 1 128 4 (by omega))
          (four (scaleT (rot (cos (angV b σ)) (sin (angV b σ)) (xtV (st2 (angV b σ) σ .k) 0)))
            (scaleT (rot (cos (angV b σ)) (sin (angV b σ)) (xtV (kvSt n (angV b σ) 0 (st2 (angV b σ) σ) .k) 1)))
            (scaleT (rot (cos (angV b σ)) (sin (angV b σ)) (xtV (kvSt n (angV b σ) 1 (kvSt n (angV b σ) 0 (st2 (angV b σ) σ)) .k) 2)))
            (scaleT (rot (cos (angV b σ)) (sin (angV b σ))
              (xtV (kvSt n (angV b σ) 2 (kvSt n (angV b σ) 1 (kvSt n (angV b σ) 0 (st2 (angV b σ) σ))) .k) 3)))))
        .vso (rect3 0 0 0 1 128 4 (by omega))
          (four (scaleT (xtV (st2 (angV b σ) σ .v) 0))
            (scaleT (xtV (kvSt n (angV b σ) 0 (st2 (angV b σ) σ) .v) 1))
            (scaleT (xtV (kvSt n (angV b σ) 1 (kvSt n (angV b σ) 0 (st2 (angV b σ) σ)) .v) 2))
            (scaleT (xtV (kvSt n (angV b σ) 2 (kvSt n (angV b σ) 1 (kvSt n (angV b σ) 0 (st2 (angV b σ) σ))) .v) 3))) := by
  have ha : (angles b).exec σ = (angV b σ, σ) := rfl
  simp only [quant, exec_bind', put_exec]
  rw [ha]
  generalize angV b σ = a
  simp only [kvHead_fst]
  rfl

end Whole

theorem angV_apply (b : Fin 2) (σ : St Ideal) (k : Fin 64) (i : Fin 128) :
    angV b σ (ix2 k i) = (((σ .pos (ix2 b i) : BitVec 32).toInt : ℝ) : EReal) * (σ .freq (ix2 k i) : EReal) := by
  have h1 : ∀ P : IVec S1x128 32, broadcastTo S64x128 (sitofp (F := Ideal) .f32 P) broadcasts_S1x128_S64x128 (ix2 k i)
      = (((P (ix2 0 i)).toInt : ℝ) : EReal) := by intro P; pointwise; rfl
  have h2 : ∀ P : FVec Ideal S64x128 .f32, shapeCast S64x128 P shapeCasts_S64x128_S64x128 (ix2 k i) = P (ix2 k i) := by
    intro P; pointwise
  unfold angV
  rw [mulf_apply, h1, h2, idx2r, idx2r]
  exact congrArg₂ (fun x y : EReal => x * y)
    (congrArg (fun j => (((σ .pos j : BitVec 32).toInt : ℝ) : EReal)) (ix2_congr (by simp) (by simp)))
    (congrArg (σ .freq) (ix2_congr (by simp) (by simp)))

theorem st1_qc (a : FVec Ideal S64x128 .f32) (σ : St Ideal) (i : Fin 128) (h : Fin 24) (d : Fin 128) :
    st1 a σ .qc (ix3 0 i ⟨h * 128 + d, by omega⟩) = codeE (rrowB (n := 24) (σ .x) a i h) d := by
  refine each_hit (qHead (cos a) (sin a)) (fun τ => τ .x = σ .x)
    (fun τ => τ .qc (ix3 0 i ⟨h * 128 + d, by omega⟩) = codeE (rrowB (n := 24) (σ .x) a i h) d) h ?_ ?_ ?_ _ σ (List.mem_finRange _) rfl
  · intro h' τ hτ
    exact ((qHead_only _ _ _).exec (by simp [QOnly]) τ).trans hτ
  · intro τ hτ
    show ((qHead (cos a) (sin a) h).exec τ).2 .qc _ = _
    rw [qHead_qc, hτ]
    refine (upd3_hit (d0 := 1) (d1 := 128) (d2 := 3072) _ _ _ 0 i d (by simp) (by simp) rfl).trans ?_
    exact codes_stored _ _ _ _ (xtQ_col _ _ _ _) _
  · intro h' hn τ hτ
    show ((qHead (cos a) (sin a) h').exec τ).2 .qc _ = _
    rw [qHead_qc]
    refine (upd3_miss (d0 := 1) (d1 := 128) (d2 := 3072) _ _ _ ?_).trans hτ
    have : h'.val ≠ h.val := fun h => hn (Fin.ext h)
    simp only; omega

theorem st1_qs (a : FVec Ideal S64x128 .f32) (σ : St Ideal) (i : Fin 128) (h : Fin 24) :
    st1 a σ .qs (ix2 h i) = scaleE (yE (rrowB (n := 24) (σ .x) a i h)) := by
  refine each_hit (qHead (cos a) (sin a)) (fun τ => τ .x = σ .x)
    (fun τ => τ .qs (ix2 h i) = scaleE (yE (rrowB (n := 24) (σ .x) a i h))) h ?_ ?_ ?_ _ σ (List.mem_finRange _) rfl
  · intro h' τ hτ
    exact ((qHead_only _ _ _).exec (by simp [QOnly]) τ).trans hτ
  · intro τ hτ
    show ((qHead (cos a) (sin a) h).exec τ).2 .qs _ = _
    rw [qHead_qs, hτ]
    refine (upd2_hit (d0 := 24) (d1 := 128) _ _ _ 0 i (by simp) (by simp)).trans ?_
    exact scales_stored _ _ _ (xtQ_col _ _ _ _) _
  · intro h' hn τ hτ
    show ((qHead (cos a) (sin a) h').exec τ).2 .qs _ = _
    rw [qHead_qs]
    refine (upd2_miss (d0 := 24) (d1 := 128) _ _ _ ?_).trans hτ
    have : h'.val ≠ h.val := fun h => hn (Fin.ext h)
    omega

theorem st1_keep (a : FVec Ideal S64x128 .f32) (σ : St Ideal) {b : Buf0} (h : ¬ QOnly b) : st1 a σ b = σ b :=
  (Only.each (fun _ => qHead_only _ _ _) _).exec h σ

theorem st2_keep (a : FVec Ideal S64x128 .f32) (σ : St Ideal) {b : Buf0} (h : ¬ QOnly b) (h' : ¬ b = .qso) : st2 a σ b = σ b :=
  (stp_ne _ _ _ h').trans (st1_keep a σ h)

theorem st2_qso (a : FVec Ideal S64x128 .f32) (σ : St Ideal) (i : Fin 128) (h : Fin 24) :
    st2 a σ .qso (ix3 0 i h) = scaleE (yE (rrowB (n := 24) (σ .x) a i h)) := by
  have h1 : ∀ v : Vec Ideal S24x128 .f32, shapeCast S1x128x24 (transpose S128x24 [1, 0] v transposes_S24x128_p1_0_S128x24)
      shapeCasts_S128x24_S1x128x24 (ix3 0 i h) = v (ix2 h i) := by intro v; pointwise
  unfold st2
  rw [stp_same]
  refine (upd3_hit (d0 := 1) (d1 := 128) (d2 := 24) _ _ _ 0 i h (by simp) (by simp) (by simp)).trans ?_
  refine (h1 _).trans ?_
  rw [← st1_qs, idx2r]
  exact congrArg _ (ix2_congr (by simp) (by simp))

/-- What a key and value head leaves of its own and keeps of the others. -/
theorem kvSt_kco (n : Fin 8) (a : FVec Ideal S64x128 .f32) (g : Fin 4) (τ : St Ideal) (i d : Fin 128) :
    kvSt n a g τ .kco (ix3 0 i ⟨g * 128 + d, by omega⟩) = codeE (rrowB (n := 4) (τ .k) a i g) d := by
  unfold kvSt
  rw [kvHead_kco]
  refine (upd3_hit (d0 := 1) (d1 := 128) (d2 := 512) _ _ _ 0 i d (by simp) (by simp) rfl).trans ?_
  exact codes_stored _ _ _ _ (xtK_col _ _ _ _) _

theorem kvSt_vco (n : Fin 8) (a : FVec Ideal S64x128 .f32) (g : Fin 4) (τ : St Ideal) (i d : Fin 128) :
    kvSt n a g τ .vco (ix3 0 i ⟨g * 128 + d, by omega⟩) = codeE (rowB (n := 4) (τ .v) i g) d := by
  unfold kvSt
  rw [kvHead_vco]
  refine (upd3_hit (d0 := 1) (d1 := 128) (d2 := 512) _ _ _ 0 i d (by simp) (by simp) rfl).trans ?_
  exact codes_stored _ _ _ _ (xtV_col _ _ _) _

theorem kvSt_kco_ne (n : Fin 8) (a : FVec Ideal S64x128 .f32) (g g' : Fin 4) (hg : g' ≠ g) (τ : St Ideal) (i d : Fin 128) :
    kvSt n a g' τ .kco (ix3 0 i ⟨g * 128 + d, by omega⟩) = τ .kco (ix3 0 i ⟨g * 128 + d, by omega⟩) := by
  have : g'.val ≠ g.val := fun h => hg (Fin.ext h)
  unfold kvSt
  rw [kvHead_kco]
  exact upd3_miss (d0 := 1) (d1 := 128) (d2 := 512) _ _ _ (by simp only; omega)

theorem kvSt_vco_ne (n : Fin 8) (a : FVec Ideal S64x128 .f32) (g g' : Fin 4) (hg : g' ≠ g) (τ : St Ideal) (i d : Fin 128) :
    kvSt n a g' τ .vco (ix3 0 i ⟨g * 128 + d, by omega⟩) = τ .vco (ix3 0 i ⟨g * 128 + d, by omega⟩) := by
  have : g'.val ≠ g.val := fun h => hg (Fin.ext h)
  unfold kvSt
  rw [kvHead_vco]
  exact upd3_miss (d0 := 1) (d1 := 128) (d2 := 512) _ _ _ (by simp only; omega)

/-- Four steps, of which one establishes what the others keep. -/
theorem four_hit (f : Fin 4 → St Ideal → St Ideal) (R Q : St Ideal → Prop) (g : Fin 4) (hR : ∀ g' τ, R τ → R (f g' τ))
    (hQ : ∀ τ, R τ → Q (f g τ)) (hk : ∀ g', g' ≠ g → ∀ τ, Q τ → Q (f g' τ)) (τ : St Ideal) (h : R τ) :
    Q (f 3 (f 2 (f 1 (f 0 τ)))) := by
  fin_cases g
  · exact hk 3 (by decide) _ (hk 2 (by decide) _ (hk 1 (by decide) _ (hQ _ h)))
  · exact hk 3 (by decide) _ (hk 2 (by decide) _ (hQ _ (hR _ _ h)))
  · exact hk 3 (by decide) _ (hQ _ (hR _ _ (hR _ _ h)))
  · exact hQ _ (hR _ _ (hR _ _ (hR _ _ h)))

theorem st2_k (a : FVec Ideal S64x128 .f32) (σ : St Ideal) : st2 a σ .k = σ .k := st2_keep a σ (by simp [QOnly]) (by simp)
theorem st2_v (a : FVec Ideal S64x128 .f32) (σ : St Ideal) : st2 a σ .v = σ .v := st2_keep a σ (by simp [QOnly]) (by simp)
theorem kvSt_k (n : Fin 8) (a : FVec Ideal S64x128 .f32) (g : Fin 4) (σ : St Ideal) : kvSt n a g σ .k = σ .k :=
  kvSt_keep _ _ _ _ (by simp [KOnly])
theorem kvSt_v (n : Fin 8) (a : FVec Ideal S64x128 .f32) (g : Fin 4) (σ : St Ideal) : kvSt n a g σ .v = σ .v :=
  kvSt_keep _ _ _ _ (by simp [KOnly])

theorem st3_kco (n : Fin 8) (a : FVec Ideal S64x128 .f32) (g : Fin 4) (σ : St Ideal) (i d : Fin 128) :
    st3 n a σ .kco (ix3 0 i ⟨g * 128 + d, by omega⟩) = codeE (rrowB (n := 4) (σ .k) a i g) d :=
  four_hit (kvSt n a) (fun τ => τ .k = σ .k) (fun τ => τ .kco (ix3 0 i ⟨g * 128 + d, by omega⟩) = codeE (rrowB (n := 4) (σ .k) a i g) d) g
    (fun _ _ h => (kvSt_k _ _ _ _).trans h) (fun τ h => h ▸ kvSt_kco n a g τ i d)
    (fun g' hg τ h => (kvSt_kco_ne n a g g' hg τ i d).trans h) _ (st2_k a σ)

theorem st3_vco (n : Fin 8) (a : FVec Ideal S64x128 .f32) (g : Fin 4) (σ : St Ideal) (i d : Fin 128) :
    st3 n a σ .vco (ix3 0 i ⟨g * 128 + d, by omega⟩) = codeE (rowB (n := 4) (σ .v) i g) d :=
  four_hit (kvSt n a) (fun τ => τ .v = σ .v) (fun τ => τ .vco (ix3 0 i ⟨g * 128 + d, by omega⟩) = codeE (rowB (n := 4) (σ .v) i g) d) g
    (fun _ _ h => (kvSt_v _ _ _ _).trans h) (fun τ h => h ▸ kvSt_vco n a g τ i d)
    (fun g' hg τ h => (kvSt_vco_ne n a g g' hg τ i d).trans h) _ (st2_v a σ)

theorem four_apply (s : Fin 4 → FVec Ideal S1x128 .f32) (i : Fin 128) (g : Fin 4) :
    four (s 0) (s 1) (s 2) (s 3) (ix3 0 i g) = s g (ix2 0 i) := by
  generalize h0 : s 0 = s0; generalize h1 : s 1 = s1; generalize h2 : s 2 = s2; generalize h3 : s 3 = s3
  have hs : s g = (match g with | 0 => s0 | 1 => s1 | 2 => s2 | 3 => s3) := by
    fin_cases g
    · exact h0
    · exact h1
    · exact h2
    · exact h3
  rw [hs]
  fin_cases g <;> pointwise [four]

theorem quant_kso (b : Fin 2) (n : Fin 8) (σ : St Ideal) (i : Fin 128) (g : Fin 4) :
    ((quant b n).exec σ).2 .kso (ix3 0 i g) = scaleE (yE (rrowB (n := 4) (σ .k) (angV b σ) i g)) := by
  rw [quant_ex, stp_ne _ _ _ (by simp), stp_same]
  generalize angV b σ = a
  simp only [kvSt_k, st2_k]
  refine (upd3_hit (d0 := 1) (d1 := 128) (d2 := 4) _ _ _ 0 i g (by simp) (by simp) (by simp)).trans ?_
  refine (four_apply (fun g => scaleT (rot (cos a) (sin a) (xtV (σ .k) g))) i g).trans ?_
  rw [scaleT_apply, xtK_col]

theorem quant_vso (b : Fin 2) (n : Fin 8) (σ : St Ideal) (i : Fin 128) (g : Fin 4) :
    ((quant b n).exec σ).2 .vso (ix3 0 i g) = scaleE (yE (rowB (n := 4) (σ .v) i g)) := by
  rw [quant_ex, stp_same]
  generalize angV b σ = a
  simp only [kvSt_v, st2_v]
  refine (upd3_hit (d0 := 1) (d1 := 128) (d2 := 4) _ _ _ 0 i g (by simp) (by simp) (by simp)).trans ?_
  refine (four_apply (fun g => scaleT (xtV (σ .v) g)) i g).trans ?_
  rw [scaleT_apply, xtV_col]

theorem quant_st3 (b : Fin 2) (n : Fin 8) (σ : St Ideal) {r : Buf0} (hk : ¬ r = .kso) (hv : ¬ r = .vso) :
    ((quant b n).exec σ).2 r = st3 n (angV b σ) σ r := by
  rw [quant_ex, stp_ne _ _ _ hv, stp_ne _ _ _ hk]

theorem quant_st2 (b : Fin 2) (n : Fin 8) (σ : St Ideal) {r : Buf0} (hk : ¬ r = .kso) (hv : ¬ r = .vso) (h : ¬ KOnly r) :
    ((quant b n).exec σ).2 r = st2 (angV b σ) σ r := by
  rw [quant_st3 b n σ hk hv]
  unfold st3
  simp only [kvSt_keep _ _ _ _ h]

theorem quant_keep (b : Fin 2) (n : Fin 8) (σ : St Ideal) {r : Buf0} (hk : ¬ r = .kso) (hv : ¬ r = .vso) (hs : ¬ r = .qso) (h : ¬ KOnly r)
    (hq : ¬ QOnly r) : ((quant b n).exec σ).2 r = σ r := by
  rw [quant_st2 b n σ hk hv h, st2_keep _ _ hq hs]

theorem quant_kco (b : Fin 2) (n : Fin 8) (σ : St Ideal) (g : Fin 4) (i d : Fin 128) :
    ((quant b n).exec σ).2 .kco (ix3 0 i ⟨g * 128 + d, by omega⟩) = codeE (rrowB (n := 4) (σ .k) (angV b σ) i g) d := by
  rw [quant_st3 b n σ (by simp) (by simp), st3_kco]

theorem quant_vco (b : Fin 2) (n : Fin 8) (σ : St Ideal) (g : Fin 4) (i d : Fin 128) :
    ((quant b n).exec σ).2 .vco (ix3 0 i ⟨g * 128 + d, by omega⟩) = codeE (rowB (n := 4) (σ .v) i g) d := by
  rw [quant_st3 b n σ (by simp) (by simp), st3_vco]

theorem quant_qso (b : Fin 2) (n : Fin 8) (σ : St Ideal) (i : Fin 128) (h : Fin 24) :
    ((quant b n).exec σ).2 .qso (ix3 0 i h) = scaleE (yE (rrowB (n := 24) (σ .x) (angV b σ) i h)) := by
  rw [quant_st2 b n σ (by simp) (by simp) (by simp [KOnly]), st2_qso]

theorem quant_qc (b : Fin 2) (n : Fin 8) (σ : St Ideal) (i : Fin 128) (h : Fin 24) (d : Fin 128) :
    ((quant b n).exec σ).2 .qc (ix3 0 i ⟨h * 128 + d, by omega⟩) = codeE (rrowB (n := 24) (σ .x) (angV b σ) i h) d := by
  rw [quant_st2 b n σ (by simp) (by simp) (by simp [KOnly])]
  exact (congrFun (stp_ne _ _ _ (by simp)) _).trans (st1_qc _ _ _ _ _)

theorem quant_qs (b : Fin 2) (n : Fin 8) (σ : St Ideal) (i : Fin 128) (h : Fin 24) :
    ((quant b n).exec σ).2 .qs (ix2 h i) = scaleE (yE (rrowB (n := 24) (σ .x) (angV b σ) i h)) := by
  rw [quant_st2 b n σ (by simp) (by simp) (by simp [KOnly])]
  exact (congrFun (stp_ne _ _ _ (by simp)) _).trans (st1_qs _ _ _ _)

/-! ### The rest of the body -/

/-- What the attention writes. -/
def AOnly (b : Buf0) : Prop := b = .t ∨ b = .p ∨ b = .o ∨ b = .rl ∨ b = .am
/-- What the quantisation of the output writes. -/
def OOnly (b : Buf0) : Prop := b = .os ∨ b = .oc

section Rest

variable {F : FTy → Type} [FloatOps F]

theorem scoreBlk_only (n : Fin 8) (g : Fin 4) (p : Fin 3) (q : FVec F S256x128 .fp8e4m3) (kb : Nat) (hk : kb < 8) :
    (scoreBlk n g p q kb hk).Only AOnly := fun _ _ _ => ⟨.inl rfl, trivial⟩

theorem scoreLoop_only (n : Fin 8) (g : Fin 4) (p : Fin 3) (q : FVec F S256x128 .fp8e4m3) :
    ∀ (kb : Nat) (hk : kb < 8), (scoreLoop n g p q kb hk).Only AOnly
  | 0, h => scoreBlk_only n g p q 0 h
  | kb + 1, h => (scoreLoop_only n g p q kb (by omega)).bind fun _ => (scoreBlk_only n g p q (kb + 1) h).bind fun _ => trivial

theorem expBlk_only (g : Fin 4) (p : Fin 3) (qs m : FVec F S1x256 .f32) (kb : Nat) (hk : kb < 8) :
    (expBlk g p qs m kb hk).Only AOnly := fun _ _ => ⟨.inr (.inl rfl), trivial⟩

theorem expLoop_only (g : Fin 4) (p : Fin 3) (qs m : FVec F S1x256 .f32) : ∀ (kb : Nat) (hk : kb < 8), (expLoop g p qs m kb hk).Only AOnly
  | 0, h => expBlk_only g p qs m 0 h
  | kb + 1, h => (expLoop_only g p qs m kb (by omega)).bind fun _ => (expBlk_only g p qs m (kb + 1) h).bind fun _ => trivial

theorem outHead_only (h : Nat) (hh : h < 24) (o : FVec F S128x128 .f32) (rl : FVec F S1x128 .f32) : (outHead h hh o rl).Only AOnly :=
  fun _ => ⟨.inr (.inr (.inl rfl)), fun _ => ⟨.inr (.inr (.inr (.inl rfl))), trivial⟩⟩

theorem pair_only (c : F .f32) (n : Fin 8) (g : Fin 4) (p : Fin 3) (amax : Option (FVec F S1x128 .f32)) : (pair c n g p amax).Only AOnly :=
  fun _ _ _ _ => (scoreLoop_only _ _ _ _ _ _).bind fun _ => (expLoop_only _ _ _ _ _ _).bind fun _ _ _ =>
    (outHead_only _ (by omega) _ _).bind fun _ => (outHead_only _ (by omega) _ _).bind fun _ => trivial

theorem group_only (c : F .f32) (n : Fin 8) (g : Fin 4) : (group c n g).Only AOnly :=
  (pair_only _ _ _ _ _).bind fun _ => (pair_only _ _ _ _ _).bind fun _ => pair_only _ _ _ _ _

theorem attend_only (c : F .f32) (n : Fin 8) : (attend c n).Only AOnly :=
  (group_only _ _ _).bind fun _ => (group_only _ _ _).bind fun _ => (group_only _ _ _).bind fun _ => (group_only _ _ _).bind fun _ _ =>
    ⟨.inr (.inr (.inr (.inr rfl))), trivial⟩

theorem oHead_only (inv : FVec F S1x128 .f32) (h : Fin 24) : (oHead inv h).Only OOnly := fun _ _ _ => ⟨.inr rfl, trivial⟩

theorem finish_only (b : Fin 2) (n : Fin 8) : (finish (F := F) b n).Only OOnly :=
  fun _ _ => ⟨.inl rfl, Only.each (fun _ => oHead_only _ _) _⟩

theorem body_keep (c : F .f32) (b : Fin 2) (n : Fin 8) (σ : St F) {r : Buf0} (ha : ¬ AOnly r) (ho : ¬ OOnly r) :
    ((body c b n).exec σ).2 r = ((quant b n).exec σ).2 r := by
  unfold body
  rw [exec_bind', exec_bind']
  exact ((finish_only _ _).exec ho _).trans ((attend_only _ _).exec ha _)

end Rest

end Cert.Attn
-- ==== Proof.KerBlk.lean ====
module

public import proofs.«01_k».proof.Proof.KerQuant

/-!
# The blocks of the attention, element by element
-/

@[expose] public section

set_option maxRecDepth 16384

noncomputable section

namespace Cert.Attn

open Idealize.ShloMosaic
open Cert.KernelIdeal (S2x1024 S2x128 S64x128 S256x128 S1x256 S1x128x3072 S1x128x512 S1x128x24 S1x128x4 S24x128 S4x1024x128 S4x128x1024
  S24x128x128 S1x128 S1x128x128 S128x128 S128x24 S4x128 S128x4 S128x256 S8x256 S256 S16x8x256)
open Cert.KernelIdeal.Gen
open Cmd

section Blocks

variable {F : FTy → Type} [FloatOps F]

/-- The products of a key block with a pair of query heads, scaled by the keys' scales. -/
def prodBlk (q : FVec F S256x128 .fp8e4m3) (kc : FVec F S1x128x128 .fp8e4m3) (ks : FVec F S1x128x128 .f32) : FVec F S128x256 .f32 :=
  mulf (matmul Cert.KernelIdeal.dot_S128x128_S256x128_S128x256_1_1_0_0_n_n none
      (shapeCast S128x128 kc shapeCasts_S1x128x128_S128x128 : FVec F S128x128 .fp8e4m3) q (constant S128x256 .f32 0x00000000#32))
    (concatenate S128x256 1 [⟨S128x128, (shapeCast S128x128 ks shapeCasts_S1x128x128_S128x128 : FVec F S128x128 .f32)⟩,
      ⟨S128x128, (shapeCast S128x128 ks shapeCasts_S1x128x128_S128x128 : FVec F S128x128 .f32)⟩] concatenates_S128x128_S128x128_S128x256_d1)

/-- The masked scores. -/
def maskBlk (d : Prop) [Decidable d] (t : FVec F S128x256 .f32) : FVec F S128x256 .f32 :=
  if d then select causal t (broadcast S128x256 (Scalar.ofBits .f32 0xFF800000#32)) else t

/-- The weights of a block of scores. -/
def wBlk (qs m : FVec F S1x256 .f32) (t : FVec F S128x256 .f32) : FVec F S128x256 .f32 :=
  exp2 (subf (mulf t (broadcastTo S128x256 qs broadcasts_S1x256_S128x256)) (broadcastTo S128x256 m broadcasts_S1x256_S128x256))

end Blocks

/-- The token of a column of a pair of heads. -/
def col (j : Fin 256) : Fin 128 := ⟨j.val % 128, Nat.mod_lt _ (by decide)⟩

theorem prodBlk_apply (q : FVec Ideal S256x128 .fp8e4m3) (kc : FVec Ideal S1x128x128 .fp8e4m3) (ks : FVec Ideal S1x128x128 .f32)
    (r : Fin 128) (j : Fin 256) :
    prodBlk q kc ks (ix2 r j) = (∑ d : Fin 128, (kc (ix3 0 r d) : EReal) * q (ix2 j d)) * ks (ix3 0 r (col j)) := by
  unfold col
  pointwise [prodBlk]
  congr 1
  split
  · exact congrArg ks (ix3_congr rfl rfl (by show j.val = j.val % 128; omega))
  · exact congrArg ks (ix3_congr rfl rfl (by show j.val - 128 = j.val % 128; omega))

theorem sle_small (a b : ℕ) (ha : a < 2 ^ 31) (hb : b < 2 ^ 31) :
    IntOp.cmpi CmpIPredicate.sle (BitVec.ofNat 32 a) (BitVec.ofNat 32 b) = if a ≤ b then 1#1 else 0#1 := by
  have h : ∀ c : ℕ, c < 2 ^ 31 → (BitVec.ofNat 32 c).toInt = (c : ℤ) := fun c hc => by
    rw [BitVec.toInt_eq_toNat_of_lt (by rw [BitVec.toNat_ofNat]; omega), BitVec.toNat_ofNat]; omega
  have e : (BitVec.ofNat 32 a).sle (BitVec.ofNat 32 b) = decide (a ≤ b) := by
    rw [BitVec.sle, h a ha, h b hb]
    exact decide_eq_decide.2 (by omega)
  unfold IntOp.cmpi
  simp only [e]
  by_cases hab : a ≤ b <;> simp [hab]

theorem causal_apply (r : Fin 128) (j : Fin 256) : causal (ix2 r j) = if r.val ≤ j.val % 128 then 1#1 else 0#1 := by
  pointwise [causal]
  split
  · rw [sle_small _ _ (by omega) (by omega), Nat.mod_eq_of_lt (by assumption)]
  · rw [sle_small _ _ (by omega) (by omega), show j.val - 128 = j.val % 128 by omega]

theorem wBlk_apply (qs m : FVec Ideal S1x256 .f32) (t : FVec Ideal S128x256 .f32) (r : Fin 128) (j : Fin 256) :
    wBlk qs m t (ix2 r j) = Ideal.exp2 (t (ix2 r j) * qs (ix2 0 j) - m (ix2 0 j)) := by
  pointwise [wBlk]
  rfl

theorem max16_apply (t : FVec Ideal S128x256 .f32) (r : Fin 8) (j : Fin 256) :
    max16 t (ix2 r j) = Finset.univ.fold max ⊥ fun k : Fin 16 => (t (ix2 ⟨k * 8 + r, by omega⟩ j) : EReal) := by
  pointwise [max16]
  rw [ofBits_bot]

theorem sum16_apply (t : FVec Ideal S128x256 .f32) (r : Fin 8) (j : Fin 256) :
    sum16 t (ix2 r j) = ∑ k : Fin 16, (t (ix2 ⟨k * 8 + r, by omega⟩ j) : EReal) := by
  pointwise [sum16]

theorem max8_apply (t : FVec Ideal S8x256 .f32) (j : Fin 256) :
    max8 t (ix2 0 j) = Finset.univ.fold max ⊥ fun r : Fin 8 => (t (ix2 r j) : EReal) := by
  pointwise [max8]
  rw [ofBits_bot]

theorem sum8_apply (t : FVec Ideal S8x256 .f32) (j : Fin 256) :
    sum8 t (ix2 0 j) = ∑ r : Fin 8, (t (ix2 r j) : EReal) := by
  pointwise [sum8]

theorem max16_le (t : FVec Ideal S128x256 .f32) (j : Fin 256) (B : EReal) :
    (∀ r : Fin 8, (max16 t (ix2 r j) : EReal) ≤ B) ↔ ∀ x : Fin 128, (t (ix2 x j) : EReal) ≤ B := by
  simp only [max16_apply, Finset.fold_max_le, bot_le, true_and, Finset.mem_univ, forall_const]
  refine ⟨fun h x => ?_, fun h r k => h _⟩
  have := h ⟨x.val % 8, by omega⟩ ⟨x.val / 8, by omega⟩
  refine le_of_eq_of_le (congrArg t (ix2_congr ?_ rfl)) this
  show x.val = x.val / 8 * 8 + x.val % 8
  omega

theorem sum16_sum (t : FVec Ideal S128x256 .f32) (j : Fin 256) :
    ∑ r : Fin 8, (sum16 t (ix2 r j) : EReal) = ∑ x : Fin 128, (t (ix2 x j) : EReal) := by
  simp only [sum16_apply]
  rw [Finset.sum_comm, ← Fintype.sum_prod_type', ← Equiv.sum_comp (finProdFinEquiv (m := 16) (n := 8))]
  refine Finset.sum_congr rfl fun x _ => congrArg t (ix2_congr ?_ rfl)
  show x.1.val * 8 + x.2.val = x.2.val + 8 * x.1.val
  omega

theorem max8_le (t : FVec Ideal S8x256 .f32) (j : Fin 256) (B : EReal) :
    (max8 t (ix2 0 j) : EReal) ≤ B ↔ ∀ r : Fin 8, (t (ix2 r j) : EReal) ≤ B := by
  simp only [max8_apply, Finset.fold_max_le, bot_le, true_and, Finset.mem_univ, forall_const]

end Cert.Attn
-- ==== Proof.KerLoop.lean ====
module

public import proofs.«01_k».proof.Proof.KerBlk

/-!
# The attention of a block, element by element

The scores, their largest, the weights, the weights' sum and the weighted sums of the values, as the attention of a
pair of heads computes them from the caches.
-/

@[expose] public section

set_option maxRecDepth 16384

noncomputable section

namespace Cert.Attn

open Idealize.ShloMosaic
open Cert.KernelIdeal (S2x1024 S2x128 S64x128 S256x128 S1x256 S1x128x3072 S1x128x512 S1x128x24 S1x128x4 S24x128 S4x1024x128 S4x128x1024
  S24x128x128 S1x128 S1x128x128 S128x128 S128x24 S4x128 S128x4 S128x256 S8x256 S256 S16x8x256 S1024x512)
open Cert.KernelIdeal.Gen
open Cmd

/-- A token, from a natural number. -/
def tk (s : ℕ) : Fin 1024 := ⟨s % 1024, Nat.mod_lt _ (by decide)⟩

theorem tk_val (s : Fin 1024) : tk s.val = s := Fin.ext (Nat.mod_eq_of_lt s.2)

/-- A column of the scratch buffers of a pair of heads. -/
def lc (g : Fin 4) (p : Fin 3) (j : Fin 256) : Fin 512 := ⟨lane g p + j, by have := lane_le g p; omega⟩

section Ex

variable {F : FTy → Type} [FloatOps F]

/-- A block of scores. -/
def tBlk (n : Fin 8) (g : Fin 4) (q : FVec F S256x128 .fp8e4m3) (kb : ℕ) (hk : kb < 8) (σ : St F) : FVec F S128x256 .f32 :=
  maskBlk (kb = n) (prodBlk q (fun j => σ .kc ((rect3 (d0 := 4) (d1 := 1024) (d2 := 128) g (kb * 128) 0 1 128 128 (by omega)).idx j))
    (fun j => σ .ks ((rect3 (d0 := 4) (d1 := 1024) (d2 := 128) g (kb * 128) 0 1 128 128 (by omega)).idx j)))

theorem scoreBlk_ex (n : Fin 8) (g : Fin 4) (p : Fin 3) (q : FVec F S256x128 .fp8e4m3) (kb : ℕ) (hk : kb < 8) (σ : St F) :
    (scoreBlk n g p q kb hk).exec σ = (max16 (tBlk n g q kb hk σ),
      stp σ .t (rect2 (kb * 128) (lane g p) 128 256 ⟨by omega, lane_le g p⟩)
        (shapeCast S128x256 (tBlk n g q kb hk σ) shapeCasts_S128x256_S128x256)) := rfl

/-- A block of weights. -/
def eBlk (g : Fin 4) (p : Fin 3) (qs m : FVec F S1x256 .f32) (kb : ℕ) (hk : kb < 8) (σ : St F) : FVec F S128x256 .f32 :=
  wBlk qs m (fun j => σ .t ((rect2 (d0 := 1024) (d1 := 512) (kb * 128) (lane g p) 128 256 ⟨by omega, lane_le g p⟩).idx j))

theorem expBlk_ex (g : Fin 4) (p : Fin 3) (qs m : FVec F S1x256 .f32) (kb : ℕ) (hk : kb < 8) (σ : St F) :
    (expBlk g p qs m kb hk).exec σ = (sum16 (eBlk g p qs m kb hk σ),
      stp σ .p (rect2 (kb * 128) (lane g p) 128 256 ⟨by omega, lane_le g p⟩)
        (shapeCast S128x256 (truncf .bf16 (eBlk g p qs m kb hk σ) bitsLt_bf16_f32) shapeCasts_S128x256_S128x256)) := rfl

theorem outHead_ex (h : Nat) (hh : h < 24) (o : FVec F S128x128 .f32) (rl : FVec F S1x128 .f32) (σ : St F) :
    (outHead h hh o rl).exec σ = ((), stp (stp σ .o (rect3 h 0 0 1 128 128 (by omega)) (shapeCast S1x128x128 o shapeCasts_S128x128_S1x128x128))
      .rl (rect2 h 0 1 128 (by omega)) (shapeCast S1x128 rl shapeCasts_S1x128_S1x128)) := rfl

end Ex

/-! ### The scores -/

/-- A score, from the caches and the codes of a pair of heads. -/
def tC (n : Fin 8) (g : Fin 4) (q : FVec Ideal S256x128 .fp8e4m3) (kc : Vec Ideal S4x1024x128 .fp8e4m3) (ks : Vec Ideal S4x1024x128 .f32)
    (s : Fin 1024) (j : Fin 256) : EReal :=
  if s.val ≤ n * 128 + j.val % 128 then (∑ d : Fin 128, (kc (ix3 g s d) : EReal) * q (ix2 j d)) * ks (ix3 g s (col j)) else ⊥

theorem sel_ap (c : IVec S128x256 1) (a b : FVec Ideal S128x256 .f32) (j) : select c a b j = Scalar.select (c j) (a j) (b j) := rfl

theorem max_ap (a b : FVec Ideal S8x256 .f32) (j) : (maximumf a b j : EReal) = max (a j : EReal) (b j) := rfl

theorem add_ap (a b : FVec Ideal S8x256 .f32) (j) : (addf a b j : EReal) = (a j : EReal) + b j := rfl

theorem tBlk_apply (n : Fin 8) (g : Fin 4) (q : FVec Ideal S256x128 .fp8e4m3) (kb : ℕ) (hk : kb < 8) (hn : kb ≤ n.val) (σ : St Ideal)
    (r : Fin 128) (j : Fin 256) :
    tBlk n g q kb hk σ (ix2 r j) = tC n g q (σ .kc) (σ .ks) ⟨kb * 128 + r, by omega⟩ j := by
  have hp : prodBlk q (fun j => σ .kc ((rect3 (d0 := 4) (d1 := 1024) (d2 := 128) g (kb * 128) 0 1 128 128 (by omega)).idx j))
      (fun j => σ .ks ((rect3 (d0 := 4) (d1 := 1024) (d2 := 128) g (kb * 128) 0 1 128 128 (by omega)).idx j)) (ix2 r j)
      = (∑ d : Fin 128, (σ .kc (ix3 g ⟨kb * 128 + r, by omega⟩ d) : EReal) * q (ix2 j d)) * σ .ks (ix3 g ⟨kb * 128 + r, by omega⟩ (col j)) := by
    rw [prodBlk_apply]
    simp only [idx3r]
    refine congrArg₂ (fun x y : EReal => x * y) (Finset.sum_congr rfl fun d _ => ?_) ?_
    · exact congrArg (fun x : EReal => x * q (ix2 j d)) (congrArg (σ .kc) (ix3_congr (by simp) rfl (by simp)))
    · exact congrArg (σ .ks) (ix3_congr (by simp) rfl (by simp))
  unfold tBlk maskBlk tC
  by_cases h : kb = n.val
  · rw [if_pos h, sel_ap, hp, causal_apply]
    by_cases hc : r.val ≤ j.val % 128
    · rw [if_pos hc, if_pos (by first | omega | (simp only; omega))]; rfl
    · rw [if_neg hc, if_neg (by first | omega | (simp only; omega))]
      exact ofBits_bot
  · rw [if_neg h, hp, if_pos (by first | omega | (simp only; omega))]

theorem cast_id (t : FVec Ideal S128x256 .f32) (j) : shapeCast S128x256 t shapeCasts_S128x256_S128x256 j = t j := by
  rw [eq_ix2 j]; pointwise

/-- A property of the tokens of the blocks up to one more. -/
theorem split_block (P : Fin 1024 → Prop) (kb : ℕ) (hk : kb < 8) :
    (∀ s : Fin 1024, s.val < (kb + 1) * 128 → P s) ↔ (∀ s : Fin 1024, s.val < kb * 128 → P s) ∧ ∀ x : Fin 128, P ⟨kb * 128 + x, by omega⟩ := by
  constructor
  · intro h
    exact ⟨fun s hs => h s (by omega), fun x => h _ (by simp only; omega)⟩
  · rintro ⟨ha, hx⟩ s hs
    by_cases hs' : s.val < kb * 128
    · exact ha s hs'
    · have h0 := hx ⟨s.val - kb * 128, by omega⟩
      rwa [show (⟨kb * 128 + (s.val - kb * 128), by omega⟩ : Fin 1024) = s from Fin.ext (by simp only; omega)] at h0

theorem scoreLoop_spec (n : Fin 8) (g : Fin 4) (p : Fin 3) (q : FVec Ideal S256x128 .fp8e4m3) : ∀ (kb : ℕ) (hk : kb < 8) (_ : kb ≤ n.val)
    (σ : St Ideal),
    (∀ (j : Fin 256) (B : EReal), (∀ r : Fin 8, (((scoreLoop n g p q kb hk).exec σ).1 (ix2 r j) : EReal) ≤ B)
      ↔ ∀ s : Fin 1024, s.val < (kb + 1) * 128 → tC n g q (σ .kc) (σ .ks) s j ≤ B)
    ∧ ∀ (s : Fin 1024) (j : Fin 256), s.val < (kb + 1) * 128 →
      ((scoreLoop n g p q kb hk).exec σ).2 .t (ix2 s (lc g p j)) = tC n g q (σ .kc) (σ .ks) s j
  | 0, hk, hn, σ => by
    unfold scoreLoop
    rw [scoreBlk_ex]
    refine ⟨fun j B => ?_, fun s j hs => ?_⟩
    · simp only [max16_le, tBlk_apply n g q 0 hk hn]
      refine ⟨fun h s hs => ?_, fun h x => h _ (by first | omega | (simp only; omega))⟩
      exact le_of_eq_of_le (congrArg (fun s => tC n g q (σ .kc) (σ .ks) s j) (Fin.ext (by simp))) (h ⟨s, by omega⟩)
    · dsimp only
      rw [stp_same]
      refine (upd2_hit (d0 := 1024) (d1 := 512) _ _ _ ⟨s, by omega⟩ j (by simp) rfl).trans ?_
      rw [cast_id, tBlk_apply n g q 0 hk hn]
      exact congrArg (fun s => tC n g q (σ .kc) (σ .ks) s j) (Fin.ext (by simp))
  | kb + 1, hk, hn, σ => by
    obtain ⟨h1, h2⟩ := scoreLoop_spec n g p q kb (by omega) (by omega) σ
    have hkc : ((scoreLoop n g p q kb (by omega)).exec σ).2 .kc = σ .kc := (scoreLoop_only n g p q kb (by omega)).exec (by simp [AOnly]) σ
    have hks : ((scoreLoop n g p q kb (by omega)).exec σ).2 .ks = σ .ks := (scoreLoop_only n g p q kb (by omega)).exec (by simp [AOnly]) σ
    unfold scoreLoop
    rw [exec_bind', exec_bind', pure_exec]
    generalize (scoreLoop n g p q kb (by omega)).exec σ = R at h1 h2 hkc hks
    rw [scoreBlk_ex]
    have hb := tBlk_apply n g q (kb + 1) hk hn R.2
    rw [hkc, hks] at hb
    refine ⟨fun j B => ?_, fun s j hs => ?_⟩
    · dsimp only
      have key : (∀ r : Fin 8, (maximumf R.1 (max16 (tBlk n g q (kb + 1) hk R.2)) (ix2 r j) : EReal) ≤ B)
          ↔ (∀ r : Fin 8, (R.1 (ix2 r j) : EReal) ≤ B) ∧ ∀ r : Fin 8, (max16 (tBlk n g q (kb + 1) hk R.2) (ix2 r j) : EReal) ≤ B := by
        rw [← forall_and]
        exact forall_congr' fun r => by rw [max_ap, max_le_iff]
      rw [key, h1, max16_le]
      generalize tBlk n g q (kb + 1) hk R.2 = X at hb
      refine Iff.trans ?_ (split_block (fun s => tC n g q (σ .kc) (σ .ks) s j ≤ B) (kb + 1) hk).symm
      exact and_congr Iff.rfl (forall_congr' fun x => by rw [hb])
    · dsimp only
      rw [stp_same]
      by_cases hs' : s.val < (kb + 1) * 128
      · refine (upd2_miss (d0 := 1024) (d1 := 512) _ _ _ (by omega)).trans (h2 s j hs')
      · refine (upd2_hit (d0 := 1024) (d1 := 512) _ _ _ ⟨s - (kb + 1) * 128, by omega⟩ j (by first | omega | (simp only; omega)) rfl).trans ?_
        rw [cast_id, hb]
        exact congrArg (fun s => tC n g q (σ .kc) (σ .ks) s j) (Fin.ext (by first | omega | (simp only; omega)))

/-! ### The weights -/

/-- A weight, from the scores. -/
def eC (g : Fin 4) (p : Fin 3) (qs m : FVec Ideal S1x256 .f32) (t : Vec Ideal S1024x512 .f32) (s : Fin 1024) (j : Fin 256) : EReal :=
  Ideal.exp2 ((t (ix2 s (lc g p j)) : EReal) * qs (ix2 0 j) - m (ix2 0 j))

theorem eBlk_apply (g : Fin 4) (p : Fin 3) (qs m : FVec Ideal S1x256 .f32) (kb : ℕ) (hk : kb < 8) (σ : St Ideal) (r : Fin 128) (j : Fin 256) :
    eBlk g p qs m kb hk σ (ix2 r j) = eC g p qs m (σ .t) ⟨kb * 128 + r, by omega⟩ j := by
  unfold eBlk eC
  rw [wBlk_apply, idx2r]
  rfl

theorem cast_id' (t : FVec Ideal S128x256 .f32) (j) :
    shapeCast S128x256 (truncf .bf16 t bitsLt_bf16_f32) shapeCasts_S128x256_S128x256 j = t j := by
  rw [eq_ix2 j]; pointwise

theorem sum_block (f : ℕ → EReal) (a : ℕ) : ∑ s ∈ Finset.range (a + 128), f s = ∑ s ∈ Finset.range a, f s + ∑ x : Fin 128, f (a + x.val) := by
  rw [Finset.sum_range_add, Finset.sum_range (fun x => f (a + x))]

theorem expLoop_spec (g : Fin 4) (p : Fin 3) (qs m : FVec Ideal S1x256 .f32) : ∀ (kb : ℕ) (hk : kb < 8) (σ : St Ideal),
    (∀ j : Fin 256, ∑ r : Fin 8, (((expLoop g p qs m kb hk).exec σ).1 (ix2 r j) : EReal)
      = ∑ s ∈ Finset.range ((kb + 1) * 128), eC g p qs m (σ .t) (tk s) j)
    ∧ (∀ (s : Fin 1024) (j : Fin 256), s.val < (kb + 1) * 128 →
      ((expLoop g p qs m kb hk).exec σ).2 .p (ix2 s (lc g p j)) = eC g p qs m (σ .t) s j)
    ∧ ((expLoop g p qs m kb hk).exec σ).2 .t = σ .t
  | 0, hk, σ => by
    unfold expLoop
    rw [expBlk_ex]
    refine ⟨fun j => ?_, fun s j hs => ?_, by dsimp only; rw [stp_ne _ _ _ (by simp)]⟩
    · simp only [sum16_sum, eBlk_apply]
      rw [show (0 + 1) * 128 = 128 from rfl, Finset.sum_range (fun s => eC g p qs m (σ .t) (tk s) j)]
      refine Finset.sum_congr rfl fun x _ => congrArg (fun s => eC g p qs m (σ .t) s j) (Fin.ext ?_)
      show 0 * 128 + x.val = x.val % 1024
      omega
    · dsimp only
      rw [stp_same]
      refine (upd2_hit (d0 := 1024) (d1 := 512) _ _ _ ⟨s, by omega⟩ j (by simp) rfl).trans ?_
      rw [cast_id', eBlk_apply]
      exact congrArg (fun s => eC g p qs m (σ .t) s j) (Fin.ext (by simp))
  | kb + 1, hk, σ => by
    obtain ⟨h1, h2, h3⟩ := expLoop_spec g p qs m kb (by omega) σ
    unfold expLoop
    rw [exec_bind', exec_bind', pure_exec]
    generalize (expLoop g p qs m kb (by omega)).exec σ = R at h1 h2 h3
    rw [expBlk_ex]
    have hb := eBlk_apply g p qs m (kb + 1) hk R.2
    rw [h3] at hb
    refine ⟨fun j => ?_, fun s j hs => ?_, by dsimp only; rw [stp_ne _ _ _ (by simp)]; exact h3⟩
    · dsimp only
      simp only [add_ap, Finset.sum_add_distrib, h1, sum16_sum, hb]
      rw [show (kb + 1 + 1) * 128 = (kb + 1) * 128 + 128 by ring, sum_block]
      congr 1
      refine Finset.sum_congr rfl fun x _ => congrArg (fun s => eC g p qs m (σ .t) s j) (Fin.ext ?_)
      show (kb + 1) * 128 + x.val = ((kb + 1) * 128 + x.val) % 1024
      omega
    · dsimp only
      rw [stp_same]
      by_cases hs' : s.val < (kb + 1) * 128
      · refine (upd2_miss (d0 := 1024) (d1 := 512) _ _ _ (by omega)).trans (h2 s j hs')
      · refine (upd2_hit (d0 := 1024) (d1 := 512) _ _ _ ⟨s - (kb + 1) * 128, by omega⟩ j (by first | omega | (simp only; omega)) rfl).trans ?_
        rw [cast_id', hb]
        exact congrArg (fun s => eC g p qs m (σ .t) s j) (Fin.ext (by first | omega | (simp only; omega)))

end Cert.Attn
-- ==== Proof.KerPair.lean ====
module

public import proofs.«01_k».proof.Proof.KerBlk
public import Idealize.ShloMosaic.Lib.MatmulPlain

/-!
# The pieces of a pair of heads, element by element
-/

@[expose] public section

set_option maxRecDepth 16384

noncomputable section

namespace Cert.Attn

open Idealize.ShloMosaic
open Cert.KernelIdeal (S2x1024 S2x128 S64x128 S256x128 S1x256 S1x128x3072 S1x128x512 S1x128x24 S1x128x4 S24x128 S4x1024x128 S4x128x1024
  S24x128x128 S1x128 S1x128x128 S128x128 S128x24 S4x128 S128x4 S128x256 S8x256 S256 S16x8x256 S1024x512 S128x3072)
open Cert.KernelIdeal.Gen
open Cmd

section Pieces

variable {F : FTy → Type} [FloatOps F]

/-- The codes of a pair of heads, one head's tokens after the other's. -/
def qTwo (q0 q1 : FVec F S128x128 .fp8e4m3) : FVec F S256x128 .fp8e4m3 :=
  concatenate S256x128 0 [⟨S128x128, (shapeCast S128x128 q0 shapeCasts_S128x128_S128x128 : FVec F S128x128 .fp8e4m3)⟩,
    ⟨S128x128, (shapeCast S128x128 q1 shapeCasts_S128x128_S128x128 : FVec F S128x128 .fp8e4m3)⟩] concatenates_S128x128_S128x128_S256x128_d0

/-- The scales of a pair of heads, multiplied by the scores' constant. -/
def sTwo (c : F .f32) (s0 s1 : FVec F S1x128 .f32) : FVec F S1x256 .f32 :=
  mulf (concatenate S1x256 1 [⟨S1x128, s0⟩, ⟨S1x128, s1⟩] concatenates_S1x128_S1x128_S1x256_d1) (broadcast S1x256 c)

/-- The reciprocals of the weights' sums. -/
def rlBlk (den : FVec F S8x256 .f32) : FVec F S1x256 .f32 := divf (broadcast S1x256 (Scalar.ofBits .f32 0x3F800000#32)) (sum8 den)

/-- The weighted sums of the values. -/
def otBlk (n : Fin 8) (vt : Vec F ⟨3, ![1, 128, (n + 1) * 128]⟩ .bf16) (pm : Vec F ⟨2, ![(n + 1) * 128, 256]⟩ .bf16) : FVec F S128x256 .f32 :=
  matmul (DotDims.plain 128 ((n + 1) * 128) 256) none
    (shapeCast ⟨2, ![128, (n + 1) * 128]⟩ vt (vtCast n) : FVec F ⟨2, ![128, (n + 1) * 128]⟩ .bf16)
    (pm : FVec F ⟨2, ![(n + 1) * 128, 256]⟩ .bf16) (constant S128x256 .f32 0x00000000#32)

/-- The largest magnitudes of the outputs. -/
def amBlk (ot : FVec F S128x256 .f32) (rl : FVec F S1x256 .f32) : FVec F S1x256 .f32 :=
  mulf (shapeCast S1x256 (multiReduction .maximumf [0] S256 (absf ot) 0xFF800000#32 reduces_S128x256_S256 (.inl rfl) rfl)
    shapeCasts_S256_S1x256) rl

/-- The first and the second head's columns. -/
def lo1 (v : FVec F S1x256 .f32) : FVec F S1x128 .f32 := extractStridedSlice S1x128 ![0, 0] v slices_S1x256_o0_0_S1x128
def hi1 (v : FVec F S1x256 .f32) : FVec F S1x128 .f32 := extractStridedSlice S1x128 ![0, 128] v slices_S1x256_o0_128_S1x128
def lo2 (v : FVec F S128x256 .f32) : FVec F S128x128 .f32 := extractStridedSlice S128x128 ![0, 0] v slices_S128x256_o0_0_S128x128
def hi2 (v : FVec F S128x256 .f32) : FVec F S128x128 .f32 := extractStridedSlice S128x128 ![0, 128] v slices_S128x256_o0_128_S128x128

end Pieces

theorem flatQ_apply (X : Vec Ideal S1x128x3072 .fp8e4m3) (i : Fin 128) (d : Fin 3072) : flatQ X (ix2 i d) = X (ix3 0 i d) := by
  have h : flatQ X (ix2 i d) = shapeCast S128x3072 (X : FVec Ideal S1x128x3072 .fp8e4m3)
    (Cert.KernelIdeal.Gen.squeezes_S1x128x3072_S128x3072).numel_eq (ix2 i d) := rfl
  rw [h]
  pointwise

theorem qTwo_apply (q0 q1 : FVec Ideal S128x128 .fp8e4m3) (j : Fin 256) (d : Fin 128) :
    qTwo q0 q1 (ix2 j d) = if j.val < 128 then q0 (ix2 (col j) d) else q1 (ix2 (col j) d) := by
  unfold col
  pointwise [qTwo]
  split
  · exact congrArg q0 (ix2_congr (by show j.val = j.val % 128; omega) rfl)
  · exact congrArg q1 (ix2_congr (by show j.val - 128 = j.val % 128; omega) rfl)

theorem sTwo_apply (c : EReal) (s0 s1 : FVec Ideal S1x128 .f32) (j : Fin 256) :
    sTwo (F := Ideal) c s0 s1 (ix2 0 j) = (if j.val < 128 then (s0 (ix2 0 (col j)) : EReal) else s1 (ix2 0 (col j))) * c := by
  unfold col
  pointwise [sTwo]
  congr 1
  split
  · exact congrArg s0 (ix2_congr rfl (by show j.val = j.val % 128; omega))
  · exact congrArg s1 (ix2_congr rfl (by show j.val - 128 = j.val % 128; omega))

theorem rlBlk_apply (den : FVec Ideal S8x256 .f32) (j : Fin 256) :
    rlBlk den (ix2 0 j) = Ideal.div 1 (∑ r : Fin 8, (den (ix2 r j) : EReal)) := by
  rw [← sum8_apply]
  unfold rlBlk
  generalize sum8 den = A
  pointwise
  try rfl

theorem otBlk_apply (n : Fin 8) (vt : Vec Ideal ⟨3, ![1, 128, (n + 1) * 128]⟩ .bf16) (pm : Vec Ideal ⟨2, ![(n + 1) * 128, 256]⟩ .bf16)
    (d : Fin 128) (j : Fin 256) :
    otBlk n vt pm (ix2 d j) = ∑ s : Fin ((n + 1) * 128), (vt (ix3 0 d s) : EReal) * pm (ix2 s j) := by
  unfold otBlk
  fin_cases n <;> pointwise

theorem amBlk_apply (ot : FVec Ideal S128x256 .f32) (rl : FVec Ideal S1x256 .f32) (j : Fin 256) :
    amBlk ot rl (ix2 0 j) = amaxE (fun d => ot (ix2 d j)) * rl (ix2 0 j) := by
  unfold amaxE
  pointwise [amBlk]
  rw [ofBits_bot]; rfl

theorem lo1_apply (v : FVec Ideal S1x256 .f32) (i : Fin 128) : lo1 v (ix2 0 i) = v (ix2 0 ⟨i, by omega⟩) := by pointwise [lo1]
theorem hi1_apply (v : FVec Ideal S1x256 .f32) (i : Fin 128) : hi1 v (ix2 0 i) = v (ix2 0 ⟨128 + i, by omega⟩) := by pointwise [hi1]
theorem lo2_apply (v : FVec Ideal S128x256 .f32) (d i : Fin 128) : lo2 v (ix2 d i) = v (ix2 d ⟨i, by omega⟩) := by pointwise [lo2]
theorem hi2_apply (v : FVec Ideal S128x256 .f32) (d i : Fin 128) : hi2 v (ix2 d i) = v (ix2 d ⟨128 + i, by omega⟩) := by pointwise [hi2]

theorem o_stored (v : FVec Ideal S128x128 .f32) (z : Fin 1) (d i : Fin 128) :
    shapeCast S1x128x128 v shapeCasts_S128x128_S1x128x128 (ix3 z d i) = v (ix2 d i) := by
  rw [Subsingleton.elim z 0]; pointwise

theorem rl_stored (v : FVec Ideal S1x128 .f32) (z : Fin 1) (i : Fin 128) :
    shapeCast S1x128 v shapeCasts_S1x128_S1x128 (ix2 z i) = v (ix2 0 i) := by
  rw [Subsingleton.elim z 0]; pointwise

end Cert.Attn
-- ==== Proof.KerAttn.lean ====
module

public import proofs.«01_k».proof.Proof.KerLoop
public import proofs.«01_k».proof.Proof.KerPair

/-!
# What the attention of a block leaves
-/

@[expose] public section

set_option maxRecDepth 16384

noncomputable section

namespace Cert.Attn

open Idealize.ShloMosaic
open Cert.KernelIdeal (S2x1024 S2x128 S64x128 S256x128 S1x256 S1x128x3072 S1x128x512 S1x128x24 S1x128x4 S24x128 S4x1024x128 S4x128x1024
  S24x128x128 S1x128 S1x128x128 S128x128 S128x24 S4x128 S128x4 S128x256 S8x256 S256 S16x8x256 S1024x512 S128x3072)
open Cert.KernelIdeal.Gen
open Cmd

/-- What the attention of a block is computed from: the queries' codes and scales, the keys' codes and scales, and the
    values. -/
structure Dat where
  Q : Fin 24 → Fin 128 → Fin 128 → EReal
  qs : Fin 24 → Fin 128 → EReal
  K : Fin 4 → Fin 1024 → Fin 128 → EReal
  ks : Fin 4 → Fin 1024 → EReal
  V : Fin 4 → Fin 1024 → Fin 128 → EReal

/-- The key and value head of a query head. -/
def grp (h : Fin 24) : Fin 4 := ⟨h.val / 6, by omega⟩

variable (D : Dat) (c : EReal) (n : Fin 8)

/-- A masked score of query `i` of the block. -/
def tE (h : Fin 24) (i : Fin 128) (s : Fin 1024) : EReal :=
  if s.val ≤ n * 128 + i then (∑ d : Fin 128, D.K (grp h) s d * D.Q h i d) * D.ks (grp h) s else ⊥

/-- The largest score of query `i`. -/
def mE (h : Fin 24) (i : Fin 128) : EReal := (Finset.range ((n + 1) * 128)).sup fun s => tE D n h i (tk s)

/-- A weight of query `i`. -/
def eE (h : Fin 24) (i : Fin 128) (s : Fin 1024) : EReal :=
  Ideal.exp2 (tE D n h i s * (D.qs h i * c) - mE D n h i * (D.qs h i * c))

/-- A weighted sum of the values. -/
def otE (h : Fin 24) (i d : Fin 128) : EReal := ∑ s ∈ Finset.range ((n + 1) * 128), D.V (grp h) (tk s) d * eE D c n h i (tk s)

/-- The reciprocal of the weights' sum. -/
def rlE (h : Fin 24) (i : Fin 128) : EReal := Ideal.div 1 (∑ s ∈ Finset.range ((n + 1) * 128), eE D c n h i (tk s))

/-- The largest magnitude of a head's output. -/
def amE (h : Fin 24) (i : Fin 128) : EReal := amaxE (otE D c n h i) * rlE D c n h i

/-- The buffers hold what the attention is computed from. -/
structure Base (σ : St Ideal) : Prop where
  qc : ∀ (i : Fin 128) (h : Fin 24) (d : Fin 128), σ .qc (ix3 0 i ⟨h * 128 + d, by omega⟩) = D.Q h i d
  qs : ∀ (h : Fin 24) (i : Fin 128), σ .qs (ix2 h i) = D.qs h i
  kc : ∀ (g : Fin 4) (s : Fin 1024) (d : Fin 128), s.val < (n + 1) * 128 → σ .kc (ix3 g s d) = D.K g s d
  ks : ∀ (g : Fin 4) (s : Fin 1024) (d : Fin 128), s.val < (n + 1) * 128 → σ .ks (ix3 g s d) = D.ks g s
  vt : ∀ (g : Fin 4) (s : Fin 1024) (d : Fin 128), s.val < (n + 1) * 128 → σ .vt (ix3 g d s) = D.V g s d

variable {D n} in
theorem Base.congr {σ σ' : St Ideal} (h : Base D n σ) (he : ∀ b : Buf0, ¬ AOnly b → σ' b = σ b) : Base D n σ' where
  qc := by rw [he .qc (by simp [AOnly])]; exact h.qc
  qs := by rw [he .qs (by simp [AOnly])]; exact h.qs
  kc := by rw [he .kc (by simp [AOnly])]; exact h.kc
  ks := by rw [he .ks (by simp [AOnly])]; exact h.ks
  vt := by rw [he .vt (by simp [AOnly])]; exact h.vt

/-- The head of a column of a pair. -/
def hd (g : Fin 4) (p : Fin 3) (j : Fin 256) : Fin 24 := ⟨g * 6 + p * 2 + j.val / 128, by omega⟩

theorem grp_hd (g : Fin 4) (p : Fin 3) (j : Fin 256) : grp (hd g p j) = g := Fin.ext (by
  show (g.val * 6 + p.val * 2 + j.val / 128) / 6 = g.val
  omega)

section Ex

variable {F : FTy → Type} [FloatOps F]

/-- The codes of the pair's heads. -/
def qP (g : Fin 4) (p : Fin 3) (σ : St F) : FVec F S256x128 .fp8e4m3 :=
  qTwo (fun j => flatQ (σ .qc) ((rect2 (d0 := 128) (d1 := 3072) 0 ((g * 6 + p * 2) * 128) 128 128 (by omega)).idx j))
    (fun j => flatQ (σ .qc) ((rect2 (d0 := 128) (d1 := 3072) 0 ((g * 6 + p * 2 + 1) * 128) 128 128 (by omega)).idx j))

/-- The scales of the pair's heads. -/
def sP (c : F .f32) (g : Fin 4) (p : Fin 3) (σ : St F) : FVec F S1x256 .f32 :=
  sTwo c (fun j => σ .qs ((rect2 (d0 := 24) (d1 := 128) (g * 6 + p * 2) 0 1 128 (by omega)).idx j))
    (fun j => σ .qs ((rect2 (d0 := 24) (d1 := 128) (g * 6 + p * 2 + 1) 0 1 128 (by omega)).idx j))

/-- The weighted sums of the values, from the buffers. -/
def oP (n : Fin 8) (g : Fin 4) (p : Fin 3) (σ : St F) : FVec F S128x256 .f32 :=
  otBlk n (fun j => σ .vt ((rect3 (d0 := 4) (d1 := 128) (d2 := 1024) g 0 0 1 128 ((n + 1) * 128) (by omega)).idx j))
    (fun j => σ .p ((rect2 (d0 := 1024) (d1 := 512) 0 (lane g p) ((n + 1) * 128) 256 ⟨by omega, lane_le g p⟩).idx j))

/-- The contents after a head's stores. -/
def oSt (h : ℕ) (hh : h < 24) (o : FVec F S128x128 .f32) (rl : FVec F S1x128 .f32) (σ : St F) : St F :=
  stp (stp σ .o (rect3 h 0 0 1 128 128 (by omega)) (shapeCast S1x128x128 o shapeCasts_S128x128_S1x128x128))
      .rl (rect2 h 0 1 128 (by omega)) (shapeCast S1x128 rl shapeCasts_S1x128_S1x128)

/-- The last part of a pair: the outputs, from the weights' sums. -/
def pairTail (n : Fin 8) (g : Fin 4) (p : Fin 3) (a : Option (FVec F S1x128 .f32)) (den : FVec F S8x256 .f32) : Cmd F (FVec F S1x128 .f32) := do
  let vt : Vec F ⟨3, ![1, 128, (n + 1) * 128]⟩ .bf16 ←
    ld .vt (rect3 g 0 0 1 128 ((n + 1) * 128) (by omega)) (numel3 _ (by omega) (by omega) (by omega))
  let pm : Vec F ⟨2, ![(n + 1) * 128, 256]⟩ .bf16 ←
    ld .p (rect2 0 (lane g p) ((n + 1) * 128) 256 ⟨by omega, lane_le g p⟩) (numel2 _ (by omega) (by omega))
  outHead (g * 6 + p * 2) (by omega) (lo2 (otBlk n vt pm)) (lo1 (rlBlk den))
  outHead (g * 6 + p * 2 + 1) (by omega) (hi2 (otBlk n vt pm)) (hi1 (rlBlk den))
  pure (maximumf (maxOpt a (lo1 (amBlk (otBlk n vt pm) (rlBlk den)))) (hi1 (amBlk (otBlk n vt pm) (rlBlk den))))

/-- A pair, from its codes and scales. -/
def pairMid (n : Fin 8) (g : Fin 4) (p : Fin 3) (a : Option (FVec F S1x128 .f32)) (q : FVec F S256x128 .fp8e4m3) (qs : FVec F S1x256 .f32) :
    Cmd F (FVec F S1x128 .f32) := do
  let mx ← scoreLoop n g p q n n.2
  let den ← expLoop g p qs (mulf (max8 mx) qs) n n.2
  pairTail n g p a den

theorem pair_eq (c : F .f32) (n : Fin 8) (g : Fin 4) (p : Fin 3) (a : Option (FVec F S1x128 .f32)) :
    pair c n g p a = (do
      let q0 : Vec F S128x128 .fp8e4m3 ← ldQ (rect2 0 ((g * 6 + p * 2) * 128) 128 128 (by omega)) (numel2 _ (by omega) (by omega))
      let q1 : Vec F S128x128 .fp8e4m3 ← ldQ (rect2 0 ((g * 6 + p * 2 + 1) * 128) 128 128 (by omega)) (numel2 _ (by omega) (by omega))
      let s0 : Vec F S1x128 .f32 ← ld .qs (rect2 (g * 6 + p * 2) 0 1 128 (by omega)) (numel2 _ (by omega) (by omega))
      let s1 : Vec F S1x128 .f32 ← ld .qs (rect2 (g * 6 + p * 2 + 1) 0 1 128 (by omega)) (numel2 _ (by omega) (by omega))
      pairMid n g p a (qTwo q0 q1) (sTwo c s0 s1)) := rfl

theorem ld_ex (b : Buf0) (r : Rect b.shape) (h : 0 < r.shape.numel) (σ : St F) :
    (ld b r h : Cmd F _).exec σ = (fun j => σ b (r.idx j), σ) := rfl
theorem ldQ_ex (r : Rect S128x3072) (h : 0 < r.shape.numel) (σ : St F) :
    (ldQ r h : Cmd F _).exec σ = (fun j => flatQ (σ .qc) (r.idx j), σ) := rfl

theorem pair_mid (c : F .f32) (n : Fin 8) (g : Fin 4) (p : Fin 3) (a : Option (FVec F S1x128 .f32)) (σ : St F) :
    (pair c n g p a).exec σ = (pairMid n g p a (qP g p σ) (sP c g p σ)).exec σ := by
  rw [pair_eq]
  simp only [exec_bind', ld_ex, ldQ_ex]
  rfl

theorem oSt_ex (h : ℕ) (hh : h < 24) (o : FVec F S128x128 .f32) (rl : FVec F S1x128 .f32) (σ : St F) :
    (outHead h hh o rl).exec σ = ((), oSt h hh o rl σ) := outHead_ex h hh o rl σ

theorem pairTail_ex (n : Fin 8) (g : Fin 4) (p : Fin 3) (a : Option (FVec F S1x128 .f32)) (den : FVec F S8x256 .f32) (σ : St F) :
    (pairTail n g p a den).exec σ = (maximumf (maxOpt a (lo1 (amBlk (oP n g p σ) (rlBlk den)))) (hi1 (amBlk (oP n g p σ) (rlBlk den))),
      oSt (g * 6 + p * 2 + 1) (by omega) (hi2 (oP n g p σ)) (hi1 (rlBlk den))
        (oSt (g * 6 + p * 2) (by omega) (lo2 (oP n g p σ)) (lo1 (rlBlk den)) σ)) := by
  unfold pairTail oP
  simp only [exec_bind', ld_ex, oSt_ex, pure_exec]
  rfl

theorem pair_ex (c : F .f32) (n : Fin 8) (g : Fin 4) (p : Fin 3) (a : Option (FVec F S1x128 .f32)) (σ : St F)
    (R1 : FVec F S8x256 .f32 × St F) (h1 : (scoreLoop n g p (qP g p σ) n n.2).exec σ = R1)
    (R2 : FVec F S8x256 .f32 × St F) (h2 : (expLoop g p (sP c g p σ) (mulf (max8 R1.1) (sP c g p σ)) n n.2).exec R1.2 = R2) :
    (pair c n g p a).exec σ = (maximumf (maxOpt a (lo1 (amBlk (oP n g p R2.2) (rlBlk R2.1)))) (hi1 (amBlk (oP n g p R2.2) (rlBlk R2.1))),
      oSt (g * 6 + p * 2 + 1) (by omega) (hi2 (oP n g p R2.2)) (hi1 (rlBlk R2.1))
        (oSt (g * 6 + p * 2) (by omega) (lo2 (oP n g p R2.2)) (lo1 (rlBlk R2.1)) R2.2)) := by
  rw [pair_mid]
  unfold pairMid
  rw [exec_bind', h1, exec_bind', h2, pairTail_ex]

theorem scoreLoop_t (n : Fin 8) (g : Fin 4) (p : Fin 3) (q : FVec F S256x128 .fp8e4m3) :
    ∀ (kb : Nat) (hk : kb < 8), (scoreLoop n g p q kb hk).Only fun b => b = .t
  | 0, h => show (scoreBlk n g p q 0 h).Only _ from fun _ _ _ => ⟨rfl, trivial⟩
  | kb + 1, h => (scoreLoop_t n g p q kb (by omega)).bind fun _ =>
    (show (scoreBlk n g p q (kb + 1) h).Only (fun b => b = .t) from fun _ _ _ => ⟨rfl, trivial⟩).bind fun _ => trivial

theorem expLoop_p (g : Fin 4) (p : Fin 3) (qs m : FVec F S1x256 .f32) : ∀ (kb : Nat) (hk : kb < 8), (expLoop g p qs m kb hk).Only fun b => b = .p
  | 0, h => show (expBlk g p qs m 0 h).Only _ from fun _ _ => ⟨rfl, trivial⟩
  | kb + 1, h => (expLoop_p g p qs m kb (by omega)).bind fun _ =>
    (show (expBlk g p qs m (kb + 1) h).Only (fun b => b = .p) from fun _ _ => ⟨rfl, trivial⟩).bind fun _ => trivial

end Ex

variable {D c n}

theorem qP_apply {σ : St Ideal} (hB : Base D n σ) (g : Fin 4) (p : Fin 3) (j : Fin 256) (d : Fin 128) :
    qP g p σ (ix2 j d) = D.Q (hd g p j) (col j) d := by
  unfold qP
  rw [qTwo_apply, idx2r, idx2r, flatQ_apply, flatQ_apply, ← hB.qc]
  split
  · exact congrArg (σ .qc) (ix3_congr rfl (by simp) (by show (g.val * 6 + p.val * 2) * 128 + d.val = (g.val * 6 + p.val * 2 + j.val / 128) * 128 + d.val; omega))
  · exact congrArg (σ .qc) (ix3_congr rfl (by simp) (by show (g.val * 6 + p.val * 2 + 1) * 128 + d.val = (g.val * 6 + p.val * 2 + j.val / 128) * 128 + d.val; omega))

theorem sP_apply {σ : St Ideal} (hB : Base D n σ) (g : Fin 4) (p : Fin 3) (j : Fin 256) :
    sP (F := Ideal) c g p σ (ix2 0 j) = D.qs (hd g p j) (col j) * c := by
  unfold sP
  rw [sTwo_apply, idx2r, idx2r, ← hB.qs]
  congr 1
  split
  · exact congrArg (σ .qs) (ix2_congr (by show g.val * 6 + p.val * 2 + 0 = g.val * 6 + p.val * 2 + j.val / 128; omega) (by simp))
  · exact congrArg (σ .qs) (ix2_congr (by show g.val * 6 + p.val * 2 + 1 + 0 = g.val * 6 + p.val * 2 + j.val / 128; omega) (by simp))

theorem tC_eq {σ : St Ideal} (hB : Base D n σ) (g : Fin 4) (p : Fin 3) (s : Fin 1024) (hs : s.val < (n + 1) * 128) (j : Fin 256) :
    tC n g (qP g p σ) (σ .kc) (σ .ks) s j = tE D n (hd g p j) (col j) s := by
  unfold tC tE
  rw [grp_hd, hB.ks g s _ hs]
  simp only [hB.kc g s _ hs, qP_apply hB]
  rfl

theorem oP_apply {σ : St Ideal} (g : Fin 4) (p : Fin 3) (d : Fin 128) (j : Fin 256) :
    oP n g p σ (ix2 d j) = ∑ s ∈ Finset.range ((n + 1) * 128), (σ .vt (ix3 g d (tk s)) : EReal) * σ .p (ix2 (tk s) (lc g p j)) := by
  unfold oP
  rw [otBlk_apply, Finset.sum_range (fun s => (σ .vt (ix3 g d (tk s)) : EReal) * σ .p (ix2 (tk s) (lc g p j)))]
  refine Finset.sum_congr rfl fun s _ => ?_
  have hs : s.val < (n.val + 1) * 128 := s.2
  rw [idx3r, idx2r]
  refine congrArg₂ (fun x y : EReal => x * y) (congrArg (σ .vt) (ix3_congr ?_ ?_ ?_)) (congrArg (σ .p) (ix2_congr ?_ rfl))
  · simp
  · simp
  · show 0 + s.val = s.val % 1024; omega
  · show 0 + s.val = s.val % 1024; omega

/-- The state after some heads: what the attention is computed from, and those heads' outputs. -/
def Inv (D : Dat) (c : EReal) (n : Fin 8) (H : ℕ) (σ : St Ideal) : Prop :=
  Base D n σ ∧ ∀ h : Fin 24, h.val < H → (∀ d i : Fin 128, σ .o (ix3 h d i) = otE D c n h i d) ∧ ∀ i : Fin 128, σ .rl (ix2 h i) = rlE D c n h i

/-- A row of running maxima covers the heads from `a` to `b`. -/
def Cov (D : Dat) (c : EReal) (n : Fin 8) (a b : ℕ) (v : FVec Ideal S1x128 .f32) : Prop :=
  ∀ (i : Fin 128) (B : EReal), (v (ix2 0 i) : EReal) ≤ B ↔ ∀ h : Fin 24, a ≤ h.val → h.val < b → amE D c n h i ≤ B

theorem oSt_o (h : ℕ) (hh : h < 24) (o : FVec Ideal S128x128 .f32) (rl : FVec Ideal S1x128 .f32) (σ : St Ideal) (h' : Fin 24) (d i : Fin 128) :
    oSt h hh o rl σ .o (ix3 h' d i) = if h'.val = h then o (ix2 d i) else σ .o (ix3 h' d i) := by
  unfold oSt
  rw [stp_ne _ _ _ (by simp), stp_same]
  split
  · refine (upd3_hit (d0 := 24) (d1 := 128) (d2 := 128) _ _ _ 0 d i (by simpa) (by simp) (by simp)).trans (o_stored _ _ _ _)
  · exact upd3_miss (d0 := 24) (d1 := 128) (d2 := 128) _ _ _ (by omega)

theorem oSt_rl (h : ℕ) (hh : h < 24) (o : FVec Ideal S128x128 .f32) (rl : FVec Ideal S1x128 .f32) (σ : St Ideal) (h' : Fin 24) (i : Fin 128) :
    oSt h hh o rl σ .rl (ix2 h' i) = if h'.val = h then rl (ix2 0 i) else σ .rl (ix2 h' i) := by
  unfold oSt
  rw [stp_same]
  split
  · refine (upd2_hit (d0 := 24) (d1 := 128) _ _ _ 0 i (by simpa) (by simp)).trans (rl_stored _ _ _)
  · refine (upd2_miss (d0 := 24) (d1 := 128) _ _ _ (by omega)).trans ?_
    rw [stp_ne _ _ _ (by simp)]

theorem hd_lo (g : Fin 4) (p : Fin 3) (i : Fin 128) : hd g p ⟨i, by omega⟩ = ⟨g * 6 + p * 2, by omega⟩ ∧ col ⟨i, by omega⟩ = i :=
  ⟨Fin.ext (by show g.val * 6 + p.val * 2 + i.val / 128 = g.val * 6 + p.val * 2; omega), Fin.ext (Nat.mod_eq_of_lt i.2)⟩

theorem hd_hi (g : Fin 4) (p : Fin 3) (i : Fin 128) : hd g p ⟨128 + i, by omega⟩ = ⟨g * 6 + p * 2 + 1, by omega⟩ ∧ col ⟨128 + i, by omega⟩ = i :=
  ⟨Fin.ext (by show g.val * 6 + p.val * 2 + (128 + i.val) / 128 = g.val * 6 + p.val * 2 + 1; omega),
    Fin.ext (by show (128 + i.val) % 128 = i.val; omega)⟩

theorem max1_ap (a b : FVec Ideal S1x128 .f32) (j) : (maximumf a b j : EReal) = max (a j : EReal) (b j) := rfl

theorem pair_spec (g : Fin 4) (p : Fin 3) (a : Option (FVec Ideal S1x128 .f32)) (σ : St Ideal) (hI : Inv D c n (g * 6 + p * 2) σ) :
    Inv D c n (g * 6 + p * 2 + 2) ((pair (F := Ideal) c n g p a).exec σ).2
      ∧ ∀ (i : Fin 128) (B : EReal), (((pair (F := Ideal) c n g p a).exec σ).1 (ix2 0 i) : EReal) ≤ B
        ↔ (∀ v ∈ a, (v (ix2 0 i) : EReal) ≤ B) ∧ ∀ h : Fin 24, g.val * 6 + p.val * 2 ≤ h.val → h.val < g.val * 6 + p.val * 2 + 2 → amE D c n h i ≤ B := by
  obtain ⟨hB, hO⟩ := hI
  obtain ⟨s1, s2⟩ := scoreLoop_spec n g p (qP g p σ) n n.2 le_rfl σ
  have k1 : ∀ b : Buf0, ¬ b = .t → ((scoreLoop n g p (qP g p σ) n n.2).exec σ).2 b = σ b := fun b hb =>
    (scoreLoop_t n g p (qP g p σ) n n.2).exec hb σ
  have hx := pair_ex (F := Ideal) c n g p a σ _ rfl _ rfl
  generalize (scoreLoop n g p (qP g p σ) n n.2).exec σ = R1 at s1 s2 k1 hx
  obtain ⟨e1, e2, e3⟩ := expLoop_spec g p (sP (F := Ideal) c g p σ) (mulf (max8 R1.1) (sP (F := Ideal) c g p σ)) n n.2 R1.2
  have k2 : ∀ b : Buf0, ¬ b = .p → ((expLoop g p (sP (F := Ideal) c g p σ) (mulf (max8 R1.1) (sP (F := Ideal) c g p σ)) n n.2).exec R1.2).2 b = R1.2 b := fun b hb =>
    (expLoop_p g p (sP (F := Ideal) c g p σ) (mulf (max8 R1.1) (sP (F := Ideal) c g p σ)) n n.2).exec hb R1.2
  have hm : ∀ j : Fin 256, (max8 R1.1 (ix2 0 j) : EReal) = mE D n (hd g p j) (col j) := fun j => by
    refine eq_of_forall_ge_iff fun B => ?_
    rw [max8_le, s1]
    unfold mE
    rw [Finset.sup_le_iff]
    constructor
    · intro h s hs
      rw [Finset.mem_range] at hs
      have hv : (tk s).val < (n.val + 1) * 128 := by show s % 1024 < _; omega
      rw [← tC_eq hB g p _ hv]
      exact h _ hv
    · intro h s hs
      rw [tC_eq hB g p s hs, ← tk_val s]
      exact h s.val (Finset.mem_range.2 hs)
  have he : ∀ (s : Fin 1024) (j : Fin 256), s.val < (n.val + 1) * 128 →
      eC g p (sP (F := Ideal) c g p σ) (mulf (max8 R1.1) (sP (F := Ideal) c g p σ)) (R1.2 .t) s j = eE D c n (hd g p j) (col j) s := fun s j hs => by
    unfold eC eE
    rw [s2 s j hs, tC_eq hB g p s hs, mulf_apply, hm, sP_apply hB]
    rfl
  generalize (expLoop g p (sP (F := Ideal) c g p σ) (mulf (max8 R1.1) (sP (F := Ideal) c g p σ)) n n.2).exec R1.2 = R2 at e1 e2 e3 k2 hx
  have hrl : ∀ j : Fin 256, rlBlk R2.1 (ix2 0 j) = rlE D c n (hd g p j) (col j) := fun j => by
    rw [rlBlk_apply, e1]
    unfold rlE
    refine congrArg (Ideal.div 1) (Finset.sum_congr rfl fun s hs => ?_)
    rw [Finset.mem_range] at hs
    exact he _ _ (by show s % 1024 < _; omega)
  have hot : ∀ (d : Fin 128) (j : Fin 256), oP n g p R2.2 (ix2 d j) = otE D c n (hd g p j) (col j) d := fun d j => by
    rw [oP_apply]
    unfold otE
    refine Finset.sum_congr rfl fun s hs => ?_
    rw [Finset.mem_range] at hs
    have hv : (tk s).val < (n.val + 1) * 128 := by show s % 1024 < _; omega
    rw [e2 _ _ hv, he _ _ hv, k2 _ (by simp), k1 _ (by simp), hB.vt _ _ _ hv, grp_hd]
  have ham : ∀ j : Fin 256, amBlk (oP n g p R2.2) (rlBlk R2.1) (ix2 0 j) = amE D c n (hd g p j) (col j) := fun j => by
    rw [amBlk_apply, hrl]
    simp only [hot]
    rfl
  rw [hx]
  have hor : R2.2 .o = σ .o ∧ R2.2 .rl = σ .rl := ⟨(k2 _ (by simp)).trans (k1 _ (by simp)), (k2 _ (by simp)).trans (k1 _ (by simp))⟩
  refine ⟨⟨hB.congr fun b hb => ?_, fun h hh => ⟨fun d i => ?_, fun i => ?_⟩⟩, fun i B => ?_⟩
  · dsimp only
    unfold oSt
    have h0 : ¬ b = .t ∧ ¬ b = .p ∧ ¬ b = .o ∧ ¬ b = .rl := by
      simp only [AOnly, not_or] at hb
      exact ⟨hb.1, hb.2.1, hb.2.2.1, hb.2.2.2.1⟩
    rw [stp_ne _ _ _ h0.2.2.2, stp_ne _ _ _ h0.2.2.1, stp_ne _ _ _ h0.2.2.2, stp_ne _ _ _ h0.2.2.1, k2 _ h0.2.1, k1 _ h0.1]
  · dsimp only
    rw [oSt_o, oSt_o, hi2_apply, lo2_apply, hot, hot, (hd_lo g p i).1, (hd_lo g p i).2, (hd_hi g p i).1, (hd_hi g p i).2, hor.1]
    split
    · rename_i h'; rw [show h = ⟨g * 6 + p * 2 + 1, by omega⟩ from Fin.ext h']
    · split
      · rename_i h'; rw [show h = ⟨g * 6 + p * 2, by omega⟩ from Fin.ext h']
      · exact (hO h (by omega)).1 d i
  · dsimp only
    rw [oSt_rl, oSt_rl, hi1_apply, lo1_apply, hrl, hrl, (hd_lo g p i).1, (hd_lo g p i).2, (hd_hi g p i).1, (hd_hi g p i).2, hor.2]
    split
    · rename_i h'; rw [show h = ⟨g * 6 + p * 2 + 1, by omega⟩ from Fin.ext h']
    · split
      · rename_i h'; rw [show h = ⟨g * 6 + p * 2, by omega⟩ from Fin.ext h']
      · exact (hO h (by omega)).2 i
  · dsimp only
    have hl : (lo1 (amBlk (oP n g p R2.2) (rlBlk R2.1)) (ix2 0 i) : EReal) = amE D c n ⟨g * 6 + p * 2, by omega⟩ i := by
      rw [lo1_apply, ham, (hd_lo g p i).1, (hd_lo g p i).2]
    have hh : (hi1 (amBlk (oP n g p R2.2) (rlBlk R2.1)) (ix2 0 i) : EReal) = amE D c n ⟨g * 6 + p * 2 + 1, by omega⟩ i := by
      rw [hi1_apply, ham, (hd_hi g p i).1, (hd_hi g p i).2]
    have two : (∀ h : Fin 24, g.val * 6 + p.val * 2 ≤ h.val → h.val < g.val * 6 + p.val * 2 + 2 → amE D c n h i ≤ B)
        ↔ amE D c n ⟨g * 6 + p * 2, by omega⟩ i ≤ B ∧ amE D c n ⟨g * 6 + p * 2 + 1, by omega⟩ i ≤ B := by
      constructor
      · intro h
        exact ⟨h _ (by simp) (by simp), h _ (by simp) (by simp)⟩
      · rintro ⟨ha, hb⟩ h h1 h2
        rcases Nat.lt_or_ge h.val (g * 6 + p * 2 + 1) with h3 | h3
        · rwa [show h = ⟨g * 6 + p * 2, by omega⟩ from Fin.ext (by simp only; omega)]
        · rwa [show h = ⟨g * 6 + p * 2 + 1, by omega⟩ from Fin.ext (by simp only; omega)]
    rw [max1_ap, max_le_iff, hh, two]
    cases a with
    | none =>
      rw [show (maxOpt none (lo1 (amBlk (oP n g p R2.2) (rlBlk R2.1)))) = lo1 (amBlk (oP n g p R2.2) (rlBlk R2.1)) from rfl, hl]
      simp
    | some v =>
      rw [show (maxOpt (some v) (lo1 (amBlk (oP n g p R2.2) (rlBlk R2.1)))) = maximumf v (lo1 (amBlk (oP n g p R2.2) (rlBlk R2.1))) from rfl,
        max1_ap, max_le_iff, hl]
      simp [and_assoc]

end Cert.Attn
-- ==== Proof.KerFin.lean ====
module

public import proofs.«01_k».proof.Proof.KerAttn

/-!
# What a block's attention and the quantisation of its output leave
-/

@[expose] public section

set_option maxRecDepth 16384

noncomputable section

namespace Cert.Attn

open Idealize.ShloMosaic
open Cert.KernelIdeal (S2x1024 S2x128 S64x128 S256x128 S1x256 S1x128x3072 S1x128x512 S1x128x24 S1x128x4 S24x128 S4x1024x128 S4x128x1024
  S24x128x128 S1x128 S1x128x128 S128x128 S128x24 S4x128 S128x4 S128x256 S8x256 S256 S16x8x256 S1024x512 S128x3072)
open Cert.KernelIdeal.Gen
open Cmd

variable {D : Dat} {c : EReal} {n : Fin 8}

theorem group_spec (g : Fin 4) (σ : St Ideal) (hI : Inv D c n (g.val * 6) σ) :
    Inv D c n (g.val * 6 + 6) ((group (F := Ideal) c n g).exec σ).2
      ∧ ∀ (i : Fin 128) (B : EReal), (((group (F := Ideal) c n g).exec σ).1 (ix2 0 i) : EReal) ≤ B
        ↔ ∀ h : Fin 24, g.val * 6 ≤ h.val → h.val < g.val * 6 + 6 → amE D c n h i ≤ B := by
  unfold group
  rw [exec_bind', exec_bind']
  obtain ⟨i0, b0⟩ := pair_spec (c := c) g 0 none σ hI
  generalize (pair (F := Ideal) c n g 0 none).exec σ = R0 at i0 b0 ⊢
  obtain ⟨i1, b1⟩ := pair_spec (c := c) g 1 (some R0.1) R0.2 i0
  generalize (pair (F := Ideal) c n g 1 (some R0.1)).exec R0.2 = R1 at i1 b1 ⊢
  obtain ⟨i2, b2⟩ := pair_spec (c := c) g 2 (some R1.1) R1.2 i1
  generalize (pair (F := Ideal) c n g 2 (some R1.1)).exec R1.2 = R2 at i2 b2 ⊢
  refine ⟨i2, fun i B => ?_⟩
  rw [b2]
  simp only [Option.mem_def, Option.some.injEq, forall_eq'] at *
  rw [b1, b0]
  simp only [reduceCtorEq, false_implies, implies_true, true_and]
  have v0 : ((0 : Fin 3) : ℕ) = 0 := rfl
  have v1 : ((1 : Fin 3) : ℕ) = 1 := rfl
  have v2 : ((2 : Fin 3) : ℕ) = 2 := rfl
  rw [v0, v1, v2]
  constructor
  · rintro ⟨⟨h0, h1⟩, h2⟩ h ha hb
    rcases Nat.lt_or_ge h.val (g.val * 6 + 2) with h3 | h3
    · exact h0 h (by omega) (by omega)
    · rcases Nat.lt_or_ge h.val (g.val * 6 + 4) with h4 | h4
      · exact h1 h (by omega) (by omega)
      · exact h2 h (by omega) (by omega)
  · intro H
    exact ⟨⟨fun h ha hb => H h (by omega) (by omega), fun h ha hb => H h (by omega) (by omega)⟩, fun h ha hb => H h (by omega) (by omega)⟩

/-- The largest magnitude of a token's output. -/
def amAll (D : Dat) (c : EReal) (n : Fin 8) (i : Fin 128) : EReal := Finset.univ.sup fun h => amE D c n h i

theorem attend_spec (σ : St Ideal) (hI : Inv D c n 0 σ) :
    Inv D c n 24 ((attend (F := Ideal) c n).exec σ).2
      ∧ ∀ i : Fin 128, ((attend (F := Ideal) c n).exec σ).2 .am (ix2 0 i) = amAll D c n i := by
  unfold attend
  rw [exec_bind', exec_bind', exec_bind', exec_bind']
  obtain ⟨i0, b0⟩ := group_spec (c := c) 0 σ hI
  generalize (group (F := Ideal) c n 0).exec σ = R0 at i0 b0 ⊢
  obtain ⟨i1, b1⟩ := group_spec (c := c) 1 R0.2 i0
  generalize (group (F := Ideal) c n 1).exec R0.2 = R1 at i1 b1 ⊢
  obtain ⟨i2, b2⟩ := group_spec (c := c) 2 R1.2 i1
  generalize (group (F := Ideal) c n 2).exec R1.2 = R2 at i2 b2 ⊢
  obtain ⟨i3, b3⟩ := group_spec (c := c) 3 R2.2 i2
  generalize (group (F := Ideal) c n 3).exec R2.2 = R3 at i3 b3 ⊢
  have hx := put_exec (F := Ideal) .am (rect2 (d0 := 8) (d1 := 128) 0 0 1 128 (by omega)) (numel2 _ (by omega) (by omega)) (packed2 _ (one_dvd _) (one_dvd _))
    (shapeCast S1x128 (maximumf (maximumf (maximumf R0.1 R1.1) R2.1) R3.1) shapeCasts_S1x128_S1x128) R3.2
  rw [hx]
  refine ⟨⟨i3.1.congr fun b hb => ?_, fun h hh => ?_⟩, fun i => ?_⟩
  · refine Function.update_of_ne ?_ _ _
    simp only [AOnly, not_or] at hb
    exact hb.2.2.2.2
  · exact i3.2 h hh
  · dsimp only
    refine (congrFun (Function.update_self ..) _).trans ?_
    refine (upd2_hit (d0 := 8) (d1 := 128) _ _ _ 0 i rfl (by simp)).trans ?_
    rw [rl_stored]
    refine eq_of_forall_ge_iff fun B => ?_
    rw [max1_ap, max_le_iff, max1_ap, max_le_iff, max1_ap, max_le_iff, b0, b1, b2, b3]
    have v0 : ((0 : Fin 4) : ℕ) = 0 := rfl
    have v1 : ((1 : Fin 4) : ℕ) = 1 := rfl
    have v2 : ((2 : Fin 4) : ℕ) = 2 := rfl
    have v3 : ((3 : Fin 4) : ℕ) = 3 := rfl
    rw [v0, v1, v2, v3]
    unfold amAll
    rw [Finset.sup_le_iff]
    constructor
    · rintro ⟨⟨⟨h0, h1⟩, h2⟩, h3⟩ h -
      rcases Nat.lt_or_ge h.val 6 with h4 | h4
      · exact h0 h (by omega) (by omega)
      · rcases Nat.lt_or_ge h.val 12 with h5 | h5
        · exact h1 h (by omega) (by omega)
        · rcases Nat.lt_or_ge h.val 18 with h6 | h6
          · exact h2 h (by omega) (by omega)
          · exact h3 h (by omega) (by omega)
    · intro H
      exact ⟨⟨⟨fun h _ _ => H h (Finset.mem_univ _), fun h _ _ => H h (Finset.mem_univ _)⟩, fun h _ _ => H h (Finset.mem_univ _)⟩,
        fun h _ _ => H h (Finset.mem_univ _)⟩

section Fin

variable {F : FTy → Type} [FloatOps F]

theorem oHead_oc (inv : FVec F S1x128 .f32) (h : Fin 24) : (oHead inv h).Only fun b => b = .oc := fun _ _ _ => ⟨rfl, trivial⟩

/-- An output head's codes, as they are stored. -/
def ocBlk (inv : FVec F S1x128 .f32) (o : FVec F S1x128x128 .f32) (rl : FVec F S1x128 .f32) : FVec F S1x128x128 .fp8e4m3 :=
  shapeCast S1x128x128 (codesOut (clip (mulf (shapeCast S128x128 o shapeCasts_S1x128x128_S128x128 : FVec F S128x128 .f32)
      (broadcastTo S128x128 (mulf inv rl) broadcasts_S1x128_S128x128)))) shapeCasts_S128x128_S1x128x128

theorem oHead_ex (inv : FVec F S1x128 .f32) (h : Fin 24) (σ : St F) :
    ((oHead inv h).exec σ).2 = stp σ .oc (rect3 0 0 (h * 128) 1 128 128 (by omega))
      (ocBlk inv (fun j => σ .o ((rect3 (d0 := 24) (d1 := 128) (d2 := 128) h 0 0 1 128 128 (by omega)).idx j))
        (fun j => σ .rl ((rect2 (d0 := 24) (d1 := 128) h 0 1 128 (by omega)).idx j))) := rfl

/-- The exponents' bits of the block's output. -/
def eP (σ : St F) : IVec S1x128 32 :=
  expBits (over448 (fun j => σ .am ((rect2 (d0 := 8) (d1 := 128) 0 0 1 128 (by omega)).idx j) : FVec F S1x128 .f32))

theorem finish_ex (b : Fin 2) (n : Fin 8) (σ : St F) :
    ((finish b n).exec σ).2 = ((each (oHead (invOf (eP σ))) (List.finRange 24)).exec
      (stp σ .os (rect2 b (n * 128) 1 128 (by omega)) (scaleOf (eP σ)))).2 := rfl

end Fin

theorem ocBlk_apply (inv : FVec Ideal S1x128 .f32) (o : FVec Ideal S1x128x128 .f32) (rl : FVec Ideal S1x128 .f32) (z : Fin 1) (i d : Fin 128) :
    ocBlk inv o rl (ix3 z i d) = clipE ((o (ix3 0 d i) : EReal) * (inv (ix2 0 i) * rl (ix2 0 i))) := by
  have h1 : ∀ X : FVec Ideal S128x128 .fp8e4m3, shapeCast S1x128x128 X shapeCasts_S128x128_S1x128x128 (ix3 z i d) = X (ix2 i d) := by
    intro X; rw [Subsingleton.elim z 0]; pointwise
  have h2 : shapeCast S128x128 o shapeCasts_S1x128x128_S128x128 (ix2 d i) = o (ix3 0 d i) := by pointwise
  have h3 : ∀ X : FVec Ideal S1x128 .f32, broadcastTo S128x128 X broadcasts_S1x128_S128x128 (ix2 d i) = X (ix2 0 i) := by intro X; pointwise
  unfold ocBlk
  rw [h1, codesOut_apply, clip_apply, mulf_apply, h2, h3, mulf_apply]
  rfl

theorem oHead_hit (v : FVec Ideal S1x128 .f32) (h : Fin 24) (τ : St Ideal) (i d : Fin 128) :
    ((oHead v h).exec τ).2 .oc (ix3 0 i ⟨h * 128 + d, by omega⟩)
      = clipE ((τ .o (ix3 h d i) : EReal) * (v (ix2 0 i) * τ .rl (ix2 h i))) := by
  rw [oHead_ex, stp_same]
  refine (upd3_hit (d0 := 1) (d1 := 128) (d2 := 3072) _ _ _ 0 i d (by simp) (by simp) rfl).trans ?_
  refine (ocBlk_apply v _ _ 0 i d).trans ?_
  refine congrArg₂ (fun x y : EReal => clipE (x * (v (ix2 0 i) * y))) ?_ ?_
  · rw [idx3r]; exact congrArg (τ .o) (ix3_congr (by simp) (by simp) (by simp))
  · rw [idx2r]; exact congrArg (τ .rl) (ix2_congr (by simp) (by simp))

theorem oHead_miss (v : FVec Ideal S1x128 .f32) (h h' : Fin 24) (hn : h' ≠ h) (τ : St Ideal) (i d : Fin 128) :
    ((oHead v h').exec τ).2 .oc (ix3 0 i ⟨h * 128 + d, by omega⟩) = τ .oc (ix3 0 i ⟨h * 128 + d, by omega⟩) := by
  have : h'.val ≠ h.val := fun e => hn (Fin.ext e)
  rw [oHead_ex, stp_same]
  exact upd3_miss (d0 := 1) (d1 := 128) (d2 := 3072) _ _ _ (by simp only; omega)

theorem oc_each (v : FVec Ideal S1x128 .f32) (ρ : St Ideal) (i : Fin 128) (h : Fin 24) (d : Fin 128) (l : List (Fin 24)) (hl : h ∈ l) :
    ((each (oHead v) l).exec ρ).2 .oc (ix3 0 i ⟨h * 128 + d, by omega⟩)
      = clipE ((ρ .o (ix3 h d i) : EReal) * (v (ix2 0 i) * ρ .rl (ix2 h i))) := by
  have k1 : ∀ (h' : Fin 24) (τ : St Ideal), ((oHead v h').exec τ).2 .o = τ .o := fun h' τ => (oHead_oc v h').exec (by simp) τ
  have k2 : ∀ (h' : Fin 24) (τ : St Ideal), ((oHead v h').exec τ).2 .rl = τ .rl := fun h' τ => (oHead_oc v h').exec (by simp) τ
  have k3 := fun (τ : St Ideal) => oHead_hit v h τ i d
  have k4 := fun (h' : Fin 24) (hn : h' ≠ h) (τ : St Ideal) => oHead_miss v h h' hn τ i d
  generalize oHead v = f at k1 k2 k3 k4 ⊢
  refine each_hit f (fun τ => τ .o = ρ .o ∧ τ .rl = ρ .rl)
    (fun τ => τ .oc (ix3 0 i ⟨h * 128 + d, by omega⟩) = clipE ((ρ .o (ix3 h d i) : EReal) * (v (ix2 0 i) * ρ .rl (ix2 h i)))) h ?_ ?_ ?_ l ρ
    hl ⟨rfl, rfl⟩
  · intro h' τ hτ
    rw [k1, k2]; exact hτ
  · intro τ hτ
    rw [k3, hτ.1, hτ.2]
  · intro h' hn τ hτ
    rw [k4 h' hn]; exact hτ

theorem inv_eP (σ : St Ideal) (i : Fin 128) :
    invOf (F := Ideal) (eP σ) (ix2 0 i) = invE ((σ .am (ix2 0 i) : EReal) * Ideal.ofBits .f32 0x3B124925#32) := by
  unfold eP
  rw [invOf_apply, over448_apply, idx2r]
  exact congrArg (fun x : EReal => invE (x * _)) (congrArg (σ .am) (ix2_congr (by simp) (by simp)))

theorem finish_oc (b : Fin 2) (n : Fin 8) (σ : St Ideal) (i : Fin 128) (h : Fin 24) (d : Fin 128) :
    ((finish b n).exec σ).2 .oc (ix3 0 i ⟨h * 128 + d, by omega⟩)
      = clipE ((σ .o (ix3 h d i) : EReal) * (invE ((σ .am (ix2 0 i) : EReal) * Ideal.ofBits .f32 0x3B124925#32) * σ .rl (ix2 h i))) := by
  rw [finish_ex, oc_each _ _ _ _ _ _ (List.mem_finRange h), inv_eP, stp_ne _ _ _ (by simp), stp_ne _ _ _ (by simp)]

theorem finish_os (b : Fin 2) (n : Fin 8) (σ : St Ideal) (b' : Fin 2) (s : Fin 1024) :
    ((finish b n).exec σ).2 .os (ix2 b' s)
      = if b' = b ∧ s.val / 128 = n.val then
          scaleE ((σ .am (ix2 0 ⟨s.val % 128, by omega⟩) : EReal) * Ideal.ofBits .f32 0x3B124925#32)
        else σ .os (ix2 b' s) := by
  rw [finish_ex]
  refine (congrFun ((Only.each (fun h => oHead_oc (invOf (eP σ)) h) _).exec (by simp) _) _).trans ?_
  rw [stp_same]
  split
  · rename_i hc
    refine (upd2_hit (d0 := 2) (d1 := 1024) _ _ _ 0 (⟨s.val % 128, by omega⟩ : Fin 128) (by simp [hc.1]) (by simp only; omega)).trans ?_
    unfold eP
    rw [scaleOf_apply, over448_apply, idx2r]
    refine congrArg (fun x : EReal => scaleE (x * _)) (congrArg (σ .am) (ix2_congr (by simp) (by simp)))
  · rename_i hc
    refine upd2_miss (d0 := 2) (d1 := 1024) _ _ _ ?_
    rw [Fin.ext_iff] at hc
    omega

end Cert.Attn
-- ==== Proof.KerCache.lean ====
module

public import proofs.«01_k».proof.Proof.KerFin

/-!
# The cached keys and values, and what the body leaves
-/

@[expose] public section

set_option maxRecDepth 16384

noncomputable section

namespace Cert.Attn

open Idealize.ShloMosaic
open Cert.KernelIdeal (S2x1024 S2x128 S64x128 S256x128 S1x256 S1x128x3072 S1x128x512 S1x128x24 S1x128x4 S24x128 S4x1024x128 S4x128x1024
  S24x128x128 S1x128 S1x128x128 S128x128 S128x24 S4x128 S128x4 S128x256 S8x256 S256 S16x8x256 S1024x512 S128x3072)
open Cert.KernelIdeal.Gen
open Cmd

/-- The attention's data, from the rows before their quantisation. -/
def datOf (qr : Fin 24 → Fin 128 → Fin 128 → EReal) (kr vr : Fin 4 → Fin 1024 → Fin 128 → EReal) : Dat where
  Q h i := codeE (qr h i)
  qs h i := scaleE (yE (qr h i))
  K g s := codeE (kr g s)
  ks g s := scaleE (yE (kr g s))
  V g s d := codeE (vr g s) d * scaleE (yE (vr g s))

/-- The caches hold the first `N` keys and values. -/
structure Cache (kr vr : Fin 4 → Fin 1024 → Fin 128 → EReal) (N : ℕ) (σ : St Ideal) : Prop where
  kc : ∀ (g : Fin 4) (s : Fin 1024) (d : Fin 128), s.val < N → σ .kc (ix3 g s d) = codeE (kr g s) d
  ks : ∀ (g : Fin 4) (s : Fin 1024) (d : Fin 128), s.val < N → σ .ks (ix3 g s d) = scaleE (yE (kr g s))
  vt : ∀ (g : Fin 4) (s : Fin 1024) (d : Fin 128), s.val < N → σ .vt (ix3 g d s) = codeE (vr g s) d * scaleE (yE (vr g s))

theorem ks_stored (xt : FVec Ideal S128x128 .f32) (i d : Fin 128) (u : Fin 128 → EReal) (hu : (fun k : Fin 128 => xt (ix2 k i)) = u)
    (z : Fin 1) :
    shapeCast S1x128x128 (transpose S128x128 [1, 0]
      (broadcastTo S128x128 (shapeCast S1x128 (scaleT xt) shapeCasts_S1x128_S1x128) broadcasts_S1x128_S128x128)
      transposes_S128x128_p1_0_S128x128) shapeCasts_S128x128_S1x128x128 (ix3 z i d) = scaleE (yE u) := by
  subst hu
  rw [← scaleT_apply, Subsingleton.elim z 0]
  generalize scaleT xt = C
  pointwise

theorem vt_stored (xt : FVec Ideal S128x128 .f32) (i d : Fin 128) (u : Fin 128 → EReal) (hu : (fun k : Fin 128 => xt (ix2 k i)) = u)
    (z : Fin 1) :
    shapeCast S1x128x128 (truncf .bf16 (mulf (extf .f32 (truncf .fp8e4m3 (codesT xt) bitsLt_fp8e4m3_f32) bitsLt_fp8e4m3_f32)
      (broadcastTo S128x128 (scaleT xt) broadcasts_S1x128_S128x128)) bitsLt_bf16_f32) shapeCasts_S128x128_S1x128x128 (ix3 z d i)
      = codeE u d * scaleE (yE u) := by
  subst hu
  rw [← codesT_apply, ← scaleT_apply, Subsingleton.elim z 0]
  generalize scaleT xt = C
  generalize codesT xt = E
  pointwise
  try rfl

/-- The position of a token in its block. -/
def col' (s : Fin 1024) : Fin 128 := ⟨s.val % 128, Nat.mod_lt _ (by norm_num)⟩

/-- A step of the caches. -/
theorem kvSt_cached (n : Fin 8) (a : FVec Ideal S64x128 .f32) (g' : Fin 4) (τ : St Ideal) (g : Fin 4) (s : Fin 1024) (d : Fin 128)
    (hs : s.val < (n + 1) * 128) :
    (kvSt n a g' τ .kc (ix3 g s d) = if g' = g ∧ n.val * 128 ≤ s.val then codeE (rrowB (n := 4) (τ .k) a (col' s) g) d else τ .kc (ix3 g s d))
    ∧ (kvSt n a g' τ .ks (ix3 g s d) = if g' = g ∧ n.val * 128 ≤ s.val then scaleE (yE (rrowB (n := 4) (τ .k) a (col' s) g)) else τ .ks (ix3 g s d))
    ∧ (kvSt n a g' τ .vt (ix3 g d s) = if g' = g ∧ n.val * 128 ≤ s.val then
        codeE (rowB (n := 4) (τ .v) (col' s) g) d * scaleE (yE (rowB (n := 4) (τ .v) (col' s) g)) else τ .vt (ix3 g d s)) := by
  have hc : (col' s).val = s.val % 128 := rfl
  unfold kvSt
  rw [kvHead_kc, kvHead_ks, kvHead_vt]
  by_cases h : g' = g ∧ n.val * 128 ≤ s.val
  · obtain ⟨rfl, h⟩ := h
    simp only [h, and_self, if_true]
    refine ⟨?_, ?_, ?_⟩
    · refine (upd3_hit (d0 := 4) (d1 := 1024) (d2 := 128) _ _ _ 0 (col' s) d (by simp) (by omega) (by simp)).trans ?_
      exact codes_stored _ _ _ _ (xtK_col _ _ _ _) _
    · refine (upd3_hit (d0 := 4) (d1 := 1024) (d2 := 128) _ _ _ 0 (col' s) d (by simp) (by omega) (by simp)).trans ?_
      exact ks_stored _ _ _ _ (xtK_col _ _ _ _) _
    · refine (upd3_hit (d0 := 4) (d1 := 128) (d2 := 1024) _ _ _ 0 d (col' s) (by simp) (by simp) (by omega)).trans ?_
      exact vt_stored _ _ _ _ (xtV_col _ _ _) _
  · simp only [h, if_false]
    rw [Fin.ext_iff] at h
    refine ⟨?_, ?_, ?_⟩
    · exact upd3_miss (d0 := 4) (d1 := 1024) (d2 := 128) _ _ _ (by omega)
    · exact upd3_miss (d0 := 4) (d1 := 1024) (d2 := 128) _ _ _ (by omega)
    · exact upd3_miss (d0 := 4) (d1 := 128) (d2 := 1024) _ _ _ (by omega)

section Step

variable {qr : Fin 24 → Fin 128 → Fin 128 → EReal} {kr vr : Fin 4 → Fin 1024 → Fin 128 → EReal} {b : Fin 2} {n : Fin 8}

theorem quant_cache (σ : St Ideal) (hC : Cache kr vr (n * 128) σ)
    (hk : ∀ g s, s.val / 128 = n.val → kr g s = rrowB (n := 4) (σ .k) (angV b σ) (col' s) g)
    (hv : ∀ g s, s.val / 128 = n.val → vr g s = rowB (n := 4) (σ .v) (col' s) g) :
    Cache kr vr ((n + 1) * 128) ((quant b n).exec σ).2 := by
  have key : ∀ (g : Fin 4) (s : Fin 1024) (d : Fin 128), s.val < (n + 1) * 128 →
      st3 n (angV b σ) σ .kc (ix3 g s d) = codeE (kr g s) d ∧ st3 n (angV b σ) σ .ks (ix3 g s d) = scaleE (yE (kr g s))
        ∧ st3 n (angV b σ) σ .vt (ix3 g d s) = codeE (vr g s) d * scaleE (yE (vr g s)) := by
    intro g s d hs
    generalize angV b σ = a at hk
    have h0 : ∀ r : Buf0, ¬ QOnly r → ¬ r = .qso → st2 a σ r = σ r := fun r h h' => st2_keep a σ h h'
    unfold st3
    by_cases hn : n.val * 128 ≤ s.val
    · have hd : s.val / 128 = n.val := by omega
      refine four_hit (kvSt n a) (fun τ => τ .k = σ .k ∧ τ .v = σ .v)
        (fun τ => τ .kc (ix3 g s d) = codeE (kr g s) d ∧ τ .ks (ix3 g s d) = scaleE (yE (kr g s))
          ∧ τ .vt (ix3 g d s) = codeE (vr g s) d * scaleE (yE (vr g s))) g ?_ ?_ ?_ _ ⟨st2_k a σ, st2_v a σ⟩
      · exact fun g' τ h => ⟨(kvSt_k _ _ _ _).trans h.1, (kvSt_v _ _ _ _).trans h.2⟩
      · intro τ h
        obtain ⟨h1, h2, h3⟩ := kvSt_cached n a g τ g s d hs
        rw [h1, h2, h3, h.1, h.2, hk g s hd, hv g s hd]
        simp [hn]
      · intro g' hg τ h
        obtain ⟨h1, h2, h3⟩ := kvSt_cached n a g' τ g s d hs
        rw [h1, h2, h3]
        simpa [hg] using h
    · have keep : ∀ g' τ, kvSt n a g' τ .kc (ix3 g s d) = τ .kc (ix3 g s d) ∧ kvSt n a g' τ .ks (ix3 g s d) = τ .ks (ix3 g s d)
          ∧ kvSt n a g' τ .vt (ix3 g d s) = τ .vt (ix3 g d s) := fun g' τ => by
        obtain ⟨h1, h2, h3⟩ := kvSt_cached n a g' τ g s d hs
        rw [h1, h2, h3]
        simp [hn]
      rw [(keep 3 _).1, (keep 2 _).1, (keep 1 _).1, (keep 0 _).1, (keep 3 _).2.1, (keep 2 _).2.1, (keep 1 _).2.1, (keep 0 _).2.1,
        (keep 3 _).2.2, (keep 2 _).2.2, (keep 1 _).2.2, (keep 0 _).2.2, h0 .kc (by simp [QOnly]) (by simp), h0 .ks (by simp [QOnly]) (by simp),
        h0 .vt (by simp [QOnly]) (by simp)]
      have hl : s.val < n.val * 128 := by omega
      exact ⟨hC.kc g s d hl, hC.ks g s d hl, hC.vt g s d hl⟩
  constructor
  · intro g s d hs; rw [quant_st3 b n σ (by simp) (by simp)]; exact (key g s d hs).1
  · intro g s d hs; rw [quant_st3 b n σ (by simp) (by simp)]; exact (key g s d hs).2.1
  · intro g s d hs; rw [quant_st3 b n σ (by simp) (by simp)]; exact (key g s d hs).2.2

theorem base_of_cache {σ : St Ideal} (hC : Cache kr vr ((n + 1) * 128) σ)
    (h1 : ∀ (i : Fin 128) (h : Fin 24) (d : Fin 128), σ .qc (ix3 0 i ⟨h * 128 + d, by omega⟩) = codeE (qr h i) d)
    (h2 : ∀ (h : Fin 24) (i : Fin 128), σ .qs (ix2 h i) = scaleE (yE (qr h i))) : Base (datOf qr kr vr) n σ :=
  ⟨h1, h2, hC.kc, hC.ks, hC.vt⟩

theorem quant_base (σ : St Ideal) (hC : Cache kr vr (n * 128) σ)
    (hq : ∀ h i, qr h i = rrowB (n := 24) (σ .x) (angV b σ) i h)
    (hk : ∀ g s, s.val / 128 = n.val → kr g s = rrowB (n := 4) (σ .k) (angV b σ) (col' s) g)
    (hv : ∀ g s, s.val / 128 = n.val → vr g s = rowB (n := 4) (σ .v) (col' s) g) (c : EReal) :
    Inv (datOf qr kr vr) c n 0 ((quant b n).exec σ).2 :=
  ⟨base_of_cache (quant_cache (b := b) σ hC hk hv) (fun i h d => (quant_qc b n σ i h d).trans (by rw [hq]))
    fun h i => (quant_qs b n σ i h).trans (by rw [hq]), fun h hh => absurd hh (Nat.not_lt_zero _)⟩

theorem Cache.congr {N : ℕ} {σ σ' : St Ideal} (hC : Cache kr vr N σ) (h1 : σ' .kc = σ .kc) (h2 : σ' .ks = σ .ks) (h3 : σ' .vt = σ .vt) :
    Cache kr vr N σ' :=
  ⟨by rw [h1]; exact hC.kc, by rw [h2]; exact hC.ks, by rw [h3]; exact hC.vt⟩

/-- What the body leaves of the caches. -/
theorem body_cache (c : EReal) (σ : St Ideal) (hC : Cache kr vr (n * 128) σ)
    (hk : ∀ g s, s.val / 128 = n.val → kr g s = rrowB (n := 4) (σ .k) (angV b σ) (col' s) g)
    (hv : ∀ g s, s.val / 128 = n.val → vr g s = rowB (n := 4) (σ .v) (col' s) g) :
    Cache kr vr ((n + 1) * 128) ((body (F := Ideal) c b n).exec σ).2 :=
  (quant_cache (b := b) σ hC hk hv).congr (body_keep (F := Ideal) c b n σ (by simp [AOnly]) (by simp [OOnly]))
    (body_keep (F := Ideal) c b n σ (by simp [AOnly]) (by simp [OOnly])) (body_keep (F := Ideal) c b n σ (by simp [AOnly]) (by simp [OOnly]))

/-- The contents after the attention. -/
def atSt (c : EReal) (b : Fin 2) (n : Fin 8) (σ : St Ideal) : St Ideal := ((attend (F := Ideal) c n).exec ((quant b n).exec σ).2).2

theorem body_fin (c : EReal) (b : Fin 2) (n : Fin 8) (σ : St Ideal) :
    ((body (F := Ideal) c b n).exec σ).2 = ((finish (F := Ideal) b n).exec (atSt c b n σ)).2 := by
  unfold body atSt
  rw [exec_bind', exec_bind']

/-- The codes of the body's output. -/
theorem body_oc (c : EReal) (σ : St Ideal) (hI : Inv (datOf qr kr vr) c n 0 ((quant b n).exec σ).2) (i : Fin 128) (h : Fin 24) (d : Fin 128) :
    ((body (F := Ideal) c b n).exec σ).2 .oc (ix3 0 i ⟨h * 128 + d, by omega⟩)
      = clipE (otE (datOf qr kr vr) c n h i d
          * (invE (amAll (datOf qr kr vr) c n i * Ideal.ofBits .f32 0x3B124925#32) * rlE (datOf qr kr vr) c n h i)) := by
  have hA : Inv (datOf qr kr vr) c n 24 (atSt c b n σ) ∧ ∀ i : Fin 128, atSt c b n σ .am (ix2 0 i) = amAll (datOf qr kr vr) c n i :=
    attend_spec (D := datOf qr kr vr) (c := c) (n := n) ((quant b n).exec σ).2 hI
  generalize datOf qr kr vr = D at hA ⊢
  rw [body_fin]
  generalize atSt c b n σ = τ at hA ⊢
  rw [finish_oc, hA.2, (hA.1.2 h h.2).1, (hA.1.2 h h.2).2]

/-- The scales of the body's output. -/
theorem body_os (c : EReal) (σ : St Ideal) (hI : Inv (datOf qr kr vr) c n 0 ((quant b n).exec σ).2) (b' : Fin 2) (s : Fin 1024) :
    ((body (F := Ideal) c b n).exec σ).2 .os (ix2 b' s)
      = if b' = b ∧ s.val / 128 = n.val then scaleE (amAll (datOf qr kr vr) c n (col' s) * Ideal.ofBits .f32 0x3B124925#32)
        else σ .os (ix2 b' s) := by
  have hA : Inv (datOf qr kr vr) c n 24 (atSt c b n σ) ∧ ∀ i : Fin 128, atSt c b n σ .am (ix2 0 i) = amAll (datOf qr kr vr) c n i :=
    attend_spec (D := datOf qr kr vr) (c := c) (n := n) ((quant b n).exec σ).2 hI
  generalize datOf qr kr vr = D at hA ⊢
  have hk : atSt c b n σ .os = σ .os := by
    unfold atSt
    rw [(attend_only (F := Ideal) c n).exec (b := .os) (by simp [AOnly]), quant_keep b n σ (by simp) (by simp) (by simp) (by simp [KOnly]) (by simp [QOnly])]
  rw [body_fin]
  generalize atSt c b n σ = τ at hA hk ⊢
  rw [finish_os, hk]
  refine if_congr Iff.rfl ?_ rfl
  exact congrArg (fun x : EReal => scaleE (x * _)) (hA.2 (col' s))

end Step

end Cert.Attn
-- ==== Proof.Bounds.lean ====
module

public import proofs.«01_k».proof.Proof.Quant

/-!
# The two quantisers agree on rows of real numbers
-/

@[expose] public section

noncomputable section

namespace Cert.Attn

open Idealize.ShloMosaic

/-- The reference's scale of a row. -/
def scaleR {n : ℕ} (u : Fin n → EReal) : EReal := Ideal.pow (Ideal.ofBits .f32 0x40000000#32) (expR (yE u))

/-- The reference's code of an element of a row. -/
def codeR {n : ℕ} (u : Fin n → EReal) (d : Fin n) : EReal :=
  clipE (u d * Ideal.pow (Ideal.ofBits .f32 0x40000000#32) (-(expR (yE u))))

theorem coe_max (a b : ℝ) : ((max a b : ℝ) : EReal) = max (a : EReal) b := EReal.coe_strictMono.monotone.map_max

theorem coe_min (a b : ℝ) : ((min a b : ℝ) : EReal) = min (a : EReal) b := EReal.coe_strictMono.monotone.map_min

/-- A real number of magnitude at most `B`. -/
def Bdd (B : ℝ) (x : EReal) : Prop := ∃ r : ℝ, x = (r : EReal) ∧ |r| ≤ B

theorem amaxE_real {n : ℕ} (hn : 0 < n) (B : ℝ) (u : Fin n → EReal) (h : ∀ d, Bdd B (u d)) :
    ∃ a : ℝ, amaxE u = (a : EReal) ∧ 0 ≤ a ∧ a ≤ B := by
  have hab : ∀ d, ∃ r : ℝ, max (u d) (-(u d)) = ((|r| : ℝ) : EReal) ∧ |r| ≤ B := fun d => by
    obtain ⟨r, hr, hB⟩ := h d
    refine ⟨r, ?_, hB⟩
    rw [hr, ← EReal.coe_neg]
    exact (coe_max r (-r)).symm
  have hle : amaxE u ≤ (B : EReal) := by
    refine (Finset.fold_max_le _).2 ⟨bot_le, fun d _ => ?_⟩
    obtain ⟨r, hr, hB⟩ := hab d
    rw [hr]; exact_mod_cast hB
  have hge : (0 : EReal) ≤ amaxE u := by
    refine (Finset.le_fold_max _).2 (.inr ⟨⟨0, hn⟩, Finset.mem_univ _, ?_⟩)
    obtain ⟨r, hr, -⟩ := hab ⟨0, hn⟩
    rw [hr]; exact_mod_cast abs_nonneg r
  have h1 : amaxE u ≠ ⊤ := fun hc => by rw [hc] at hle; exact absurd hle (not_le.2 (EReal.coe_lt_top B))
  have h2 : amaxE u ≠ ⊥ := fun hc => by rw [hc] at hge; exact absurd hge (not_le.2 (EReal.bot_lt_coe 0))
  refine ⟨(amaxE u).toReal, (EReal.coe_toReal h1 h2).symm, ?_, ?_⟩
  · rw [← EReal.coe_le_coe_iff, EReal.coe_toReal h1 h2]; exact hge
  · rw [← EReal.coe_le_coe_iff, EReal.coe_toReal h1 h2]; exact hle

theorem c448_real : ∃ c : ℝ, Ideal.ofBits .f32 0x3B124925#32 = (c : EReal) ∧ 0 < c ∧ c ≤ (2 : ℝ) ^ (-8 : ℤ) := by
  refine ⟨(9586981 : ℝ) * (2 : ℝ) ^ (-32 : ℤ), ?_, by positivity, ?_⟩
  · simp [Ideal.ofBits, Ideal.ieee]
  · norm_num

theorem clip448 : Ideal.ofBits .f32 0x43E00000#32 = ((448 : ℝ) : EReal) ∧ Ideal.ofBits .f32 0xC3E00000#32 = ((-448 : ℝ) : EReal) := by
  constructor
  · simp [Ideal.ofBits, Ideal.ieee]
    norm_num
    rw [← EReal.coe_mul]; norm_num
  · simp [Ideal.ofBits, Ideal.ieee]
    norm_num
    rw [← EReal.coe_mul]; norm_num

/-- The values of the quantiser on a row of real numbers. -/
theorem quant_real {n : ℕ} (hn : 0 < n) (u : Fin n → EReal) (h : ∀ d, Bdd ((2 : ℝ) ^ (130 : ℤ)) (u d)) :
    ∃ e : ℤ, scaleE (yE u) = (((2 : ℝ) ^ e : ℝ) : EReal) ∧ invE (yE u) = (((2 : ℝ) ^ (-e) : ℝ) : EReal)
      ∧ scaleR u = (((2 : ℝ) ^ e : ℝ) : EReal) ∧ ∀ d, codeR u d = codeE u d := by
  obtain ⟨a, ha, h0, hB⟩ := amaxE_real hn _ u h
  obtain ⟨c, hc, hc0, hc1⟩ := c448_real
  have hy : yE u = ((a * c : ℝ) : EReal) := by unfold yE; rw [ha, hc, EReal.coe_mul]
  have hy0 : 0 ≤ a * c := mul_nonneg h0 hc0.le
  have hy1 : a * c < (2 : ℝ) ^ (126 : ℤ) := by
    refine lt_of_le_of_lt (mul_le_mul hB hc1 hc0.le (by positivity)) ?_
    rw [← zpow_add₀ (by norm_num)]
    exact zpow_lt_zpow_right₀ (by norm_num) (by norm_num)
  obtain ⟨hs, hi⟩ := scale_inv _ hy0 hy1
  refine ⟨expo (a * c), by rw [hy, hs], by rw [hy, hi], ?_, fun d => ?_⟩
  · unfold scaleR; rw [hy, expR_eq _ hy0, pow_two]
  · unfold codeR codeE
    rw [hy, expR_eq _ hy0, hi, ← EReal.coe_neg, ← Int.cast_neg, pow_two]

theorem clipE_real (x : ℝ) : Bdd 448 (clipE (x : EReal)) := by
  refine ⟨min 448 (max (-448) x), ?_, ?_⟩
  · unfold clipE; rw [clip448.1, clip448.2, ← coe_max, ← coe_min]
  · rw [abs_le]
    exact ⟨le_min (by norm_num) (le_max_left _ _), min_le_left _ _⟩

theorem codeE_real {n : ℕ} (hn : 0 < n) (u : Fin n → EReal) (h : ∀ d, Bdd ((2 : ℝ) ^ (130 : ℤ)) (u d)) (d : Fin n) :
    Bdd 448 (codeE u d) := by
  obtain ⟨e, -, hi, -⟩ := quant_real hn u h
  obtain ⟨r, hr, -⟩ := h d
  unfold codeE
  rw [hi, hr, ← EReal.coe_mul]
  exact clipE_real _

theorem cos_bdd (x : ℝ) : Bdd 1 (Ideal.cos (x : EReal)) := ⟨Real.cos x, rfl, Real.abs_cos_le_one x⟩

theorem sin_bdd (x : ℝ) : Bdd 1 (Ideal.sin (x : EReal)) := ⟨Real.sin x, rfl, Real.abs_sin_le_one x⟩

theorem Bdd.mul {A B : ℝ} {x y : EReal} (hx : Bdd A x) (hy : Bdd B y) : Bdd (A * B) (x * y) := by
  obtain ⟨r, rfl, hr⟩ := hx
  obtain ⟨s, rfl, hs⟩ := hy
  exact ⟨r * s, (EReal.coe_mul r s).symm, by rw [abs_mul]; exact mul_le_mul hr hs (abs_nonneg _) ((abs_nonneg _).trans hr)⟩

theorem Bdd.add {A B : ℝ} {x y : EReal} (hx : Bdd A x) (hy : Bdd B y) : Bdd (A + B) (x + y) := by
  obtain ⟨r, rfl, hr⟩ := hx
  obtain ⟨s, rfl, hs⟩ := hy
  exact ⟨r + s, (EReal.coe_add r s).symm, (abs_add_le r s).trans (add_le_add hr hs)⟩

theorem Bdd.sub {A B : ℝ} {x y : EReal} (hx : Bdd A x) (hy : Bdd B y) : Bdd (A + B) (x - y) := by
  obtain ⟨r, rfl, hr⟩ := hx
  obtain ⟨s, rfl, hs⟩ := hy
  exact ⟨r - s, (EReal.coe_sub r s).symm, (abs_sub r s).trans (add_le_add hr hs)⟩

theorem Bdd.mono {A B : ℝ} {x : EReal} (h : Bdd A x) (hAB : A ≤ B) : Bdd B x := by
  obtain ⟨r, hr, h⟩ := h
  exact ⟨r, hr, h.trans hAB⟩

/-- The rotary embedding of a bounded row is bounded. -/
theorem rotE_bdd (an : Fin 64 → EReal) (han : ∀ k, ∃ r : ℝ, an k = (r : EReal)) (u : Fin 128 → EReal)
    (hu : ∀ d, Bdd ((2 : ℝ) ^ (128 : ℤ)) (u d)) (d : Fin 128) :
    Bdd ((2 : ℝ) ^ (130 : ℤ)) (rotE (fun k => Ideal.cos (an k)) (fun k => Ideal.sin (an k)) u d) := by
  have hc : ∀ k, Bdd 1 (Ideal.cos (an k)) := fun k => by obtain ⟨r, hr⟩ := han k; rw [hr]; exact cos_bdd r
  have hs : ∀ k, Bdd 1 (Ideal.sin (an k)) := fun k => by obtain ⟨r, hr⟩ := han k; rw [hr]; exact sin_bdd r
  have hle : (2 : ℝ) ^ (128 : ℤ) * 1 + (2 : ℝ) ^ (128 : ℤ) * 1 ≤ (2 : ℝ) ^ (130 : ℤ) := by norm_num
  unfold rotE
  split
  · exact (((hu _).mul (hc _)).sub ((hu _).mul (hs _))).mono hle
  · exact (((hu _).mul (hc _)).add ((hu _).mul (hs _))).mono hle

end Cert.Attn
-- ==== Proof.Softmax.lean ====
module

public import proofs.«01_k».proof.Proof.Bounds

/-!
# The two softmaxes agree

Over real codes and positive scales the kernel's weights, powers of two of scores scaled once more, and the
reference's, exponentials of scores divided by the square root of the head size, are the same real numbers; so are the
normalised outputs, whether the sum is divided after the weighted sum of the values or before it.
-/

@[expose] public section

noncomputable section

namespace Cert.Attn

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight of a score: what it would be with the largest visible score `M`, or zero where it is masked. -/
def wR (I : ℕ) (t : ℕ → ℝ) (q M : ℝ) (s : ℕ) : ℝ := if s ≤ I then Real.exp ((t s - M) * q / Real.sqrt 128) else 0

/-- The largest of the scores up to `I`. -/
def topR (I : ℕ) (t : ℕ → ℝ) : ℝ := (Finset.range (I + 1)).sup' (Finset.nonempty_range_iff.2 (Nat.succ_ne_zero I)) t

theorem wR_pos (I : ℕ) (t : ℕ → ℝ) (q M : ℝ) (N : ℕ) (hN : I < N) : 0 < ∑ s ∈ Finset.range N, wR I t q M s := by
  refine Finset.sum_pos' (fun s _ => ?_) ⟨I, Finset.mem_range.2 hN, ?_⟩
  · unfold wR; split
    · exact (Real.exp_pos _).le
    · exact le_refl _
  · unfold wR; rw [if_pos le_rfl]; exact Real.exp_pos _

theorem wR_sum (I : ℕ) (t : ℕ → ℝ) (q M : ℝ) (f : ℕ → ℝ) (N : ℕ) (hN : I < N) :
    ∑ s ∈ Finset.range N, wR I t q M s * f s = ∑ s ∈ Finset.range (I + 1), wR I t q M s * f s := by
  refine (Finset.sum_subset (fun s hs => ?_) fun s _ hs => ?_).symm
  · rw [Finset.mem_range] at *; omega
  · rw [Finset.mem_range] at hs
    unfold wR; rw [if_neg (by omega), zero_mul]

/-- The largest of masked scores, each multiplied by the same positive number. -/
theorem top_eq (I : ℕ) (t : ℕ → ℝ) (N : ℕ) (hN : I < N) (T : ℕ → EReal) (hT : ∀ s < N, T s = if s ≤ I then (t s : EReal) else ⊥)
    (m : EReal) (hm : ∀ B, m ≤ B ↔ ∀ s < N, T s ≤ B) : m = (topR I t : EReal) := by
  refine eq_of_forall_ge_iff fun B => ?_
  rw [hm]
  have key : ((topR I t : ℝ) : EReal) ≤ B ↔ ∀ s ≤ I, (t s : EReal) ≤ B := by
    induction B with
    | bot =>
      refine ⟨fun h => absurd h (by simp), fun h => absurd (h 0 (Nat.zero_le _)) (by simp)⟩
    | top => simp
    | coe B =>
      rw [EReal.coe_le_coe_iff]
      unfold topR
      rw [Finset.sup'_le_iff]
      simp only [Finset.mem_range, EReal.coe_le_coe_iff]
      exact ⟨fun h s hs => h s (by omega), fun h s hs => h s (by omega)⟩
  rw [key]
  constructor
  · intro h s hs
    have := h s (by omega)
    rwa [hT s (by omega), if_pos hs] at this
  · intro h s hs
    rw [hT s hs]
    split
    · exact h s (by assumption)
    · exact bot_le

/-- The kernel's weight. -/
theorem ker_weight (I : ℕ) (t : ℕ → ℝ) (q : ℝ) (hq : 0 < q) (M : ℝ) (s : ℕ) (c : ℝ) (hc : c = (Real.sqrt 128)⁻¹ * (Real.log 2)⁻¹) :
    Ideal.exp2 ((if s ≤ I then (t s : EReal) else ⊥) * ((q : EReal) * (c : EReal)) - (M : EReal) * ((q : EReal) * (c : EReal)))
      = (wR I t q M s : EReal) := by
  have hl : 0 < Real.log 2 := Real.log_pos (by norm_num)
  have hs : 0 < Real.sqrt 128 := Real.sqrt_pos.2 (by norm_num)
  have hqc : 0 < q * c := by rw [hc]; positivity
  rw [← EReal.coe_mul, ← EReal.coe_mul]
  unfold wR
  split
  · rw [← EReal.coe_mul, ← EReal.coe_sub]
    show ((Real.rpow 2 _ : ℝ) : EReal) = _
    congr 1
    rw [Real.rpow_eq_pow, Real.rpow_def_of_pos (by norm_num), hc]
    congr 1
    field_simp
  · rw [EReal.bot_mul_coe_of_pos hqc, EReal.bot_sub]
    rfl

/-- The reference's weight. -/
theorem ref_weight (I : ℕ) (t : ℕ → ℝ) (q : ℝ) (M : ℝ) (s : ℕ) :
    Ideal.exp ((if s ≤ I then ((t s * q / Real.sqrt 128 : ℝ) : EReal) else ⊥) - ((M * q / Real.sqrt 128 : ℝ) : EReal))
      = (wR I t q M s : EReal) := by
  unfold wR
  split
  · rw [← EReal.coe_sub]
    show ((Real.exp _ : ℝ) : EReal) = _
    congr 2
    ring
  · rw [EReal.bot_sub]
    rfl

theorem topR_mul (I : ℕ) (t : ℕ → ℝ) (q : ℝ) (hq : 0 < q) :
    topR I (fun s => t s * q / Real.sqrt 128) = topR I t * q / Real.sqrt 128 := by
  have hs : 0 < Real.sqrt 128 := Real.sqrt_pos.2 (by norm_num)
  have hm : Monotone fun x : ℝ => x * q / Real.sqrt 128 := fun a b h => by
    show a * q / Real.sqrt 128 ≤ b * q / Real.sqrt 128
    gcongr
  unfold topR
  exact (Finset.comp_sup'_eq_sup'_comp (g := fun x : ℝ => x * q / Real.sqrt 128) _ (fun a b => hm.map_max)).symm

/-- The weighted mean of bounded values is bounded. -/
theorem mean_bdd (I : ℕ) (t : ℕ → ℝ) (q M : ℝ) (f : ℕ → ℝ) (B : ℝ) (hf : ∀ s, |f s| ≤ B) (N : ℕ) (hN : I < N) :
    |(∑ s ∈ Finset.range N, wR I t q M s * f s) * (∑ s ∈ Finset.range N, wR I t q M s)⁻¹| ≤ B := by
  have h0 := wR_pos I t q M N hN
  have hw : ∀ s, 0 ≤ wR I t q M s := fun s => by
    unfold wR; split
    · exact (Real.exp_pos _).le
    · exact le_refl _
  rw [abs_mul, abs_of_pos (inv_pos.2 h0), ← div_eq_mul_inv, div_le_iff₀ h0]
  refine (Finset.abs_sum_le_sum_abs _ _).trans ?_
  rw [Finset.mul_sum]
  refine Finset.sum_le_sum fun s _ => ?_
  rw [abs_mul, abs_of_nonneg (hw s), mul_comm]
  exact mul_le_mul_of_nonneg_right (hf s) (hw s)

end Cert.Attn
-- ==== Proof.AttnRow.lean ====
module

public import proofs.«01_k».proof.Proof.KerCache
public import proofs.«01_k».proof.Proof.Softmax

/-!
# A row of the attention's output

`refOut` is the attention as the reference computes it; the kernel's is shown to be equal to it, and bounded.
-/

@[expose] public section

set_option maxRecDepth 16384

noncomputable section

namespace Cert.Attn

open Idealize.ShloMosaic

/-- The reference's masked score of a key. -/
def refT (qr : Fin 128 → EReal) (kr : Fin 1024 → Fin 128 → EReal) (I : ℕ) (k : Fin 1024) : EReal :=
  if k.val ≤ I then
    Ideal.div ((∑ d : Fin 128, codeE qr d * codeE (kr k) d) * scaleE (yE qr) * scaleE (yE (kr k))) (Ideal.sqrt (Ideal.ofBits .f32 0x43000000#32))
  else ⊥

/-- The reference's weight of a score. -/
def refW (T : Fin 1024 → EReal) (k : Fin 1024) : EReal := Ideal.exp (T k - max ⊥ (Finset.univ.fold max ⊥ T))

/-- The reference's output, from the scores. -/
def refO (T : Fin 1024 → EReal) (vr : Fin 1024 → Fin 128 → EReal) (d : Fin 128) : EReal :=
  ∑ k : Fin 1024, Ideal.div (refW T k) (∑ k : Fin 1024, refW T k) * scaleE (yE (vr k)) * codeE (vr k) d

/-- The reference's output. -/
def refOut (qr : Fin 128 → EReal) (kr vr : Fin 1024 → Fin 128 → EReal) (I : ℕ) : Fin 128 → EReal := refO (refT qr kr I) vr

/-- The scores, weights, and outputs over the real numbers. -/
def tR (qc : Fin 128 → ℝ) (kc : ℕ → Fin 128 → ℝ) (ks : ℕ → ℝ) (s : ℕ) : ℝ := (∑ d : Fin 128, kc s d * qc d) * ks s
def numR (I : ℕ) (t : ℕ → ℝ) (q : ℝ) (f : ℕ → ℝ) : ℝ := ∑ s ∈ Finset.range (I + 1), wR I t q (topR I t) s * f s
def denR (I : ℕ) (t : ℕ → ℝ) (q : ℝ) : ℝ := ∑ s ∈ Finset.range (I + 1), wR I t q (topR I t) s

theorem denR_pos (I : ℕ) (t : ℕ → ℝ) (q : ℝ) : 0 < denR I t q := wR_pos I t q _ _ (Nat.lt_succ_self I)

theorem den_range (I : ℕ) (t : ℕ → ℝ) (q : ℝ) (N : ℕ) (hN : I < N) : ∑ s ∈ Finset.range N, wR I t q (topR I t) s = denR I t q := by
  have h := wR_sum I t q (topR I t) (fun _ => 1) N hN
  simp only [mul_one] at h
  exact h

theorem div_re (x y : ℝ) (hy : y ≠ 0) : Ideal.div (x : EReal) (y : EReal) = ((x * y⁻¹ : ℝ) : EReal) := by
  unfold Ideal.div
  rw [if_neg (by exact_mod_cast hy), ← EReal.coe_inv, ← EReal.coe_mul]

/-- The kernel's sums over the real numbers. -/
theorem ker_row (D : Dat) (c : ℝ) (hc : c = (Real.sqrt 128)⁻¹ * (Real.log 2)⁻¹) (n : Fin 8) (h : Fin 24) (i : Fin 128)
    (qc : Fin 128 → ℝ) (q : ℝ) (hq0 : 0 < q) (kc : ℕ → Fin 128 → ℝ) (ks : ℕ → ℝ) (vv : ℕ → Fin 128 → ℝ)
    (hQ : ∀ d, D.Q h i d = qc d) (hq : D.qs h i = q) (hK : ∀ s d, D.K (grp h) (tk s) d = kc s d) (hk : ∀ s, D.ks (grp h) (tk s) = ks s)
    (hV : ∀ s d, D.V (grp h) (tk s) d = vv s d) :
    (∀ d, otE D c n h i d = ((numR (n * 128 + i) (tR qc kc ks) q (fun s => vv s d) : ℝ) : EReal))
      ∧ rlE D c n h i = (((denR (n * 128 + i) (tR qc kc ks) q)⁻¹ : ℝ) : EReal) := by
  have hN : n.val * 128 + i.val < (n.val + 1) * 128 := by omega
  have hT : ∀ s < (n.val + 1) * 128, tE D n h i (tk s) = if s ≤ n.val * 128 + i.val then ((tR qc kc ks s : ℝ) : EReal) else ⊥ := fun s hs => by
    have hv : (tk s).val = s := Nat.mod_eq_of_lt (by omega)
    unfold tE tR
    rw [hv, hk]
    simp only [hK, hQ]
    rw [EReal.coe_mul, coe_sum]
    simp only [EReal.coe_mul]
  have hm : mE D n h i = ((topR (n.val * 128 + i.val) (tR qc kc ks) : ℝ) : EReal) := by
    refine top_eq _ _ ((n.val + 1) * 128) hN (fun s => tE D n h i (tk s)) hT _ fun B => ?_
    unfold mE
    rw [Finset.sup_le_iff]
    simp only [Finset.mem_range]
  have he : ∀ s < (n.val + 1) * 128, eE D c n h i (tk s)
      = ((wR (n.val * 128 + i.val) (tR qc kc ks) q (topR (n.val * 128 + i.val) (tR qc kc ks)) s : ℝ) : EReal) := fun s hs => by
    unfold eE
    rw [hm, hT s hs, hq]
    exact ker_weight _ _ q hq0 _ s c hc
  constructor
  · intro d
    unfold otE numR
    rw [← wR_sum _ _ _ _ _ _ hN, coe_sum]
    refine Finset.sum_congr rfl fun s hs => ?_
    rw [hV, he s (Finset.mem_range.1 hs), EReal.coe_mul, mul_comm]
  · have hs : ∑ s ∈ Finset.range ((n.val + 1) * 128), eE D c n h i (tk s) = ((denR (n.val * 128 + i.val) (tR qc kc ks) q : ℝ) : EReal) := by
      rw [← den_range _ _ _ _ hN, coe_sum]
      exact Finset.sum_congr rfl fun s hs => he s (Finset.mem_range.1 hs)
    unfold rlE
    rw [hs]
    have := div_re 1 _ (denR_pos (n.val * 128 + i.val) (tR qc kc ks) q).ne'
    rw [one_mul] at this
    exact this

theorem sqrt_128 : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee]
    norm_num
    rw [← EReal.coe_mul]; norm_num
  rw [h]
  show (if (128 : ℝ) < 0 then (⊥ : EReal) else ((Real.sqrt 128 : ℝ) : EReal)) = _
  rw [if_neg (by norm_num)]

/-- The reference's output over the real numbers. -/
theorem ref_row (qr : Fin 128 → EReal) (kr vr : Fin 1024 → Fin 128 → EReal) (I : ℕ) (hI : I < 1024)
    (qc : Fin 128 → ℝ) (q : ℝ) (hq0 : 0 < q) (kc : ℕ → Fin 128 → ℝ) (ks : ℕ → ℝ) (vc : ℕ → Fin 128 → ℝ) (vs : ℕ → ℝ)
    (hQ : ∀ d, codeE qr d = qc d) (hq : scaleE (yE qr) = q) (hK : ∀ s d, codeE (kr (tk s)) d = kc s d) (hk : ∀ s, scaleE (yE (kr (tk s))) = ks s)
    (hV : ∀ s d, codeE (vr (tk s)) d = vc s d) (hv : ∀ s, scaleE (yE (vr (tk s))) = vs s) (d : Fin 128) :
    refOut qr kr vr I d = ((numR I (tR qc kc ks) q (fun s => vc s d * vs s) * (denR I (tR qc kc ks) q)⁻¹ : ℝ) : EReal) := by
  have hs0 : Real.sqrt 128 ≠ 0 := (Real.sqrt_pos.2 (by norm_num)).ne'
  have hT : ∀ s < 1024, refT qr kr I (tk s) = if s ≤ I then ((tR qc kc ks s * q / Real.sqrt 128 : ℝ) : EReal) else ⊥ := fun s hs => by
    have hv' : (tk s).val = s := Nat.mod_eq_of_lt hs
    unfold refT
    rw [hv', hk, hq, sqrt_128]
    simp only [hK, hQ]
    refine if_congr Iff.rfl ?_ rfl
    have e : (∑ d : Fin 128, (qc d : EReal) * (kc s d : EReal)) * (q : EReal) * (ks s : EReal) = ((tR qc kc ks s * q : ℝ) : EReal) := by
      have : tR qc kc ks s * q = (∑ d : Fin 128, qc d * kc s d) * q * ks s := by
        unfold tR
        simp only [mul_comm (kc s _)]
        ring
      rw [this, EReal.coe_mul, EReal.coe_mul, coe_sum]
      simp only [EReal.coe_mul]
    rw [e, div_re _ _ hs0, div_eq_mul_inv]
  have hm : max ⊥ (Finset.univ.fold max ⊥ (refT qr kr I)) = ((topR I (tR qc kc ks) * q / Real.sqrt 128 : ℝ) : EReal) := by
    rw [← topR_mul _ _ _ hq0]
    refine top_eq _ _ 1024 hI (fun s => refT qr kr I (tk s)) hT _ fun B => ?_
    rw [max_le_iff, Finset.fold_max_le]
    constructor
    · intro h s _
      exact h.2.2 _ (Finset.mem_univ _)
    · intro h
      exact ⟨bot_le, bot_le, fun k _ => by rw [← tk_val k]; exact h k.val k.2⟩
  have hW : ∀ s < 1024, refW (refT qr kr I) (tk s) = ((wR I (tR qc kc ks) q (topR I (tR qc kc ks)) s : ℝ) : EReal) := fun s hs => by
    unfold refW
    rw [hm, hT s hs]
    exact ref_weight _ _ _ _ _
  have hS : ∑ k : Fin 1024, refW (refT qr kr I) k = ((denR I (tR qc kc ks) q : ℝ) : EReal) := by
    rw [← den_range _ _ _ _ hI, coe_sum, Finset.sum_range]
    refine Finset.sum_congr rfl fun k _ => ?_
    rw [← hW k.val k.2, tk_val]
  unfold refOut refO
  rw [hS]
  unfold numR
  rw [← wR_sum _ _ _ _ _ _ hI, Finset.sum_mul, coe_sum, Finset.sum_range]
  refine Finset.sum_congr rfl fun k _ => ?_
  have h1 := hW k.val k.2
  have h2 := hv k.val
  have h3 := hV k.val d
  rw [tk_val] at h1 h2 h3
  rw [h1, h2, h3, div_re _ _ (denR_pos I (tR qc kc ks) q).ne', ← EReal.coe_mul, ← EReal.coe_mul]
  congr 1
  ring

/-- A clipped number is no larger than the number. -/
theorem clip_le (z : ℝ) : ∃ w : ℝ, clipE (z : EReal) = (w : EReal) ∧ |w| ≤ |z| := by
  refine ⟨min 448 (max (-448) z), ?_, ?_⟩
  · unfold clipE; rw [clip448.1, clip448.2, ← coe_max, ← coe_min]
  · rcases le_total 0 z with h | h
    · rw [abs_of_nonneg h, max_eq_right (by linarith), abs_of_nonneg (le_min (by norm_num) h)]
      exact min_le_right _ _
    · have h1 : max (-448) z ≤ 0 := max_le (by norm_num) h
      rw [min_eq_right (by linarith), abs_of_nonpos h, abs_of_nonpos h1]
      exact neg_le_neg (le_max_right _ _)

/-- A row's codes and scale, as real numbers: the scale is positive, and a code times the scale is no larger than the element. -/
theorem quant_coe {n : ℕ} (hn : 0 < n) (u : Fin n → EReal) (h : ∀ d, Bdd ((2 : ℝ) ^ (130 : ℤ)) (u d)) :
    ∃ (e : ℝ) (w : Fin n → ℝ), 0 < e ∧ scaleE (yE u) = (e : EReal) ∧ (∀ d, codeE u d = (w d : EReal)) ∧ ∀ d, |w d * e| ≤ (2 : ℝ) ^ (130 : ℤ) := by
  obtain ⟨e, hs, hi, -⟩ := quant_real hn u h
  have hw : ∀ d, ∃ w : ℝ, codeE u d = (w : EReal) ∧ |w * (2 : ℝ) ^ e| ≤ (2 : ℝ) ^ (130 : ℤ) := fun d => by
    obtain ⟨r, hr, hb⟩ := h d
    obtain ⟨w, hw, hl⟩ := clip_le (r * (2 : ℝ) ^ (-e))
    refine ⟨w, ?_, ?_⟩
    · unfold codeE; rw [hi, hr, ← EReal.coe_mul, hw]
    · have hp : (0 : ℝ) < 2 ^ e := by positivity
      rw [abs_mul, abs_of_pos hp]
      refine (mul_le_mul_of_nonneg_right hl hp.le).trans ?_
      rw [abs_mul, abs_of_pos (by positivity : (0 : ℝ) < 2 ^ (-e)), mul_assoc, ← zpow_add₀ (by norm_num), neg_add_cancel, zpow_zero, mul_one]
      exact hb
  choose w h1 h2 using hw
  exact ⟨_, w, by positivity, hs, h1, h2⟩

/-- The kernel's output is the reference's, and bounded. -/
theorem attn_row (qr : Fin 24 → Fin 128 → Fin 128 → EReal) (kr vr : Fin 4 → Fin 1024 → Fin 128 → EReal)
    (bq : ∀ h i d, Bdd ((2 : ℝ) ^ (130 : ℤ)) (qr h i d)) (bk : ∀ g s d, Bdd ((2 : ℝ) ^ (130 : ℤ)) (kr g s d))
    (bv : ∀ g s d, Bdd ((2 : ℝ) ^ (130 : ℤ)) (vr g s d)) (c : ℝ) (hc : c = (Real.sqrt 128)⁻¹ * (Real.log 2)⁻¹) (n : Fin 8) (h : Fin 24)
    (i : Fin 128) :
    (∃ ρ : ℝ, 0 < ρ ∧ rlE (datOf qr kr vr) c n h i = (ρ : EReal))
      ∧ ∀ d, otE (datOf qr kr vr) c n h i d * rlE (datOf qr kr vr) c n h i = refOut (qr h i) (kr (grp h)) (vr (grp h)) (n * 128 + i) d
        ∧ Bdd ((2 : ℝ) ^ (130 : ℤ)) (refOut (qr h i) (kr (grp h)) (vr (grp h)) (n * 128 + i) d) := by
  obtain ⟨q, qc, hq0, hq, hQ, -⟩ := quant_coe (by decide) (qr h i) (bq h i)
  choose ks kc hk0 hk hK hKb using fun s : ℕ => quant_coe (by decide) (kr (grp h) (tk s)) (bk (grp h) (tk s))
  choose vs vc hv0 hv hV hVb using fun s : ℕ => quant_coe (by decide) (vr (grp h) (tk s)) (bv (grp h) (tk s))
  have hI : n.val * 128 + i.val < 1024 := by omega
  obtain ⟨k1, k2⟩ := ker_row (datOf qr kr vr) c hc n h i qc q hq0 kc ks (fun s d => vc s d * vs s) hQ hq hK hk
    (fun s d => by
      show codeE (vr (grp h) (tk s)) d * scaleE (yE (vr (grp h) (tk s))) = _
      rw [hV, hv, EReal.coe_mul])
  have r := ref_row (qr h i) (kr (grp h)) (vr (grp h)) (n.val * 128 + i.val) hI qc q hq0 kc ks vc vs hQ hq hK hk hV hv
  refine ⟨⟨_, inv_pos.2 (denR_pos _ _ _), k2⟩, fun d => ⟨?_, ?_⟩⟩
  · rw [k1, k2, r d, EReal.coe_mul]
  · exact ⟨_, r d, mean_bdd _ _ _ _ _ _ (fun s => hVb s d) _ (Nat.lt_succ_self _)⟩

/-! ### The quantisation of the row -/

theorem amaxE_mul {n : ℕ} (u : Fin n → EReal) (ρ : ℝ) (hρ : 0 < ρ) : amaxE u * (ρ : EReal) = amaxE fun d => u d * (ρ : EReal) := by
  have hm : Monotone fun x : EReal => x * (ρ : EReal) := fun a b h => mul_le_mul_of_nonneg_right h (by exact_mod_cast hρ.le)
  have hb : (⊥ : EReal) * (ρ : EReal) = ⊥ := EReal.bot_mul_coe_of_pos hρ
  unfold amaxE
  have := Finset.fold_hom (op := max) (op' := max) (s := (Finset.univ : Finset (Fin n))) (b := (⊥ : EReal)) (f := fun d => max (u d) (-(u d)))
    (m := fun x : EReal => x * (ρ : EReal)) (fun a b => hm.map_max)
  rw [hb] at this
  rw [← this]
  refine Finset.fold_congr fun d _ => ?_
  show max (u d) (-(u d)) * (ρ : EReal) = _
  rw [hm.map_max, EReal.neg_mul]

/-- A row of the kernel's output. -/
def oRowK (D : Dat) (c : EReal) (n : Fin 8) (i : Fin 128) (e : Fin 3072) : EReal :=
  otE D c n ⟨e / 128, by omega⟩ i ⟨e % 128, by omega⟩ * rlE D c n ⟨e / 128, by omega⟩ i

theorem amAll_eq (D : Dat) (c : EReal) (n : Fin 8) (i : Fin 128) (hr : ∀ h, ∃ ρ : ℝ, 0 < ρ ∧ rlE D c n h i = (ρ : EReal)) :
    amAll D c n i = amaxE (oRowK D c n i) := by
  have ha : ∀ h, amE D c n h i = amaxE fun d => otE D c n h i d * rlE D c n h i := fun h => by
    obtain ⟨ρ, h0, h1⟩ := hr h
    unfold amE
    rw [h1, amaxE_mul _ ρ h0]
  refine eq_of_forall_ge_iff fun B => ?_
  unfold amAll
  rw [Finset.sup_le_iff]
  simp only [ha]
  unfold amaxE
  simp only [Finset.fold_max_le, bot_le, true_and, Finset.mem_univ, true_implies]
  constructor
  · intro H e
    exact H ⟨e / 128, by omega⟩ ⟨e % 128, by omega⟩
  · intro H h d
    have := H ⟨h * 128 + d, by omega⟩
    unfold oRowK at this
    rwa [show (⟨(h.val * 128 + d.val) / 128, by omega⟩ : Fin 24) = h from Fin.ext (by show (h.val * 128 + d.val) / 128 = h.val; omega),
      show (⟨(h.val * 128 + d.val) % 128, by omega⟩ : Fin 128) = d from Fin.ext (by show (h.val * 128 + d.val) % 128 = d.val; omega)] at this

/-- A row of the output, from the rows of the queries, keys, and values. -/
def outRow (qr : Fin 24 → Fin 128 → EReal) (kr vr : Fin 1024 → Fin 4 → Fin 128 → EReal) (s : ℕ) (e : Fin 3072) : EReal :=
  refOut (qr ⟨e / 128, by omega⟩) (fun k => kr k (grp ⟨e / 128, by omega⟩)) (fun k => vr k (grp ⟨e / 128, by omega⟩)) s ⟨e % 128, by omega⟩

section Row

variable (qr : Fin 24 → Fin 128 → Fin 128 → EReal) (kr vr : Fin 4 → Fin 1024 → Fin 128 → EReal)
  (bq : ∀ h i d, Bdd ((2 : ℝ) ^ (130 : ℤ)) (qr h i d)) (bk : ∀ g s d, Bdd ((2 : ℝ) ^ (130 : ℤ)) (kr g s d))
  (bv : ∀ g s d, Bdd ((2 : ℝ) ^ (130 : ℤ)) (vr g s d)) (c : ℝ) (hc : c = (Real.sqrt 128)⁻¹ * (Real.log 2)⁻¹) (n : Fin 8) (i : Fin 128)

include bq bk bv hc

theorem oRowK_eq : oRowK (datOf qr kr vr) c n i = outRow (fun h => qr h i) (fun k g => kr g k) (fun k g => vr g k) (n * 128 + i) :=
  funext fun _ => ((attn_row qr kr vr bq bk bv c hc n _ i).2 _).1

theorem amAll_row : amAll (datOf qr kr vr) c n i = amaxE (outRow (fun h => qr h i) (fun k g => kr g k) (fun k g => vr g k) (n * 128 + i)) := by
  rw [amAll_eq _ _ _ _ fun h => (attn_row qr kr vr bq bk bv c hc n h i).1, oRowK_eq qr kr vr bq bk bv c hc n i]

theorem os_row : scaleE (amAll (datOf qr kr vr) c n i * Ideal.ofBits .f32 0x3B124925#32)
    = scaleE (yE (outRow (fun h => qr h i) (fun k g => kr g k) (fun k g => vr g k) (n * 128 + i))) := by
  rw [amAll_row qr kr vr bq bk bv c hc n i]
  rfl

theorem oc_row (h : Fin 24) (d : Fin 128) :
    clipE (otE (datOf qr kr vr) c n h i d * (invE (amAll (datOf qr kr vr) c n i * Ideal.ofBits .f32 0x3B124925#32) * rlE (datOf qr kr vr) c n h i))
      = codeE (outRow (fun h => qr h i) (fun k g => kr g k) (fun k g => vr g k) (n * 128 + i)) ⟨h * 128 + d, by omega⟩ := by
  rw [amAll_row qr kr vr bq bk bv c hc n i, mul_comm (invE _), ← mul_assoc]
  unfold codeE
  refine congrArg clipE (congrArg₂ (fun x y : EReal => x * y) ?_ rfl)
  rw [← oRowK_eq qr kr vr bq bk bv c hc n i]
  unfold oRowK
  rw [show (⟨(h.val * 128 + d.val) / 128, by omega⟩ : Fin 24) = h from Fin.ext (by show (h.val * 128 + d.val) / 128 = h.val; omega),
    show (⟨(h.val * 128 + d.val) % 128, by omega⟩ : Fin 128) = d from Fin.ext (by show (h.val * 128 + d.val) % 128 = d.val; omega)]

theorem outRow_bdd (e : Fin 3072) :
    Bdd ((2 : ℝ) ^ (130 : ℤ)) (outRow (fun h => qr h i) (fun k g => kr g k) (fun k g => vr g k) (n * 128 + i) e) :=
  ((attn_row qr kr vr bq bk bv c hc n _ i).2 _).2

end Row

end Cert.Attn
-- ==== Proof.RefQuant.lean ====
module

public import proofs.«01_k».proof.Proof.Bounds
public import proofs.«01_k».proof.Proof.Gen.ReferenceIdeal.Run
public import Idealize.ShloMosaic.Lib.Tactic.CleanTypes

/-!
# The quantised results of the reference, element by element
-/

@[expose] public section

set_option maxRecDepth 16384

noncomputable section

namespace Cert.Attn

open Idealize.ShloMosaic Cert.ReferenceIdeal Cert.ReferenceIdeal.Gen Cert.ReferenceIdeal.Value

/-- The frequency of a rotary pair. -/
def freqE (k : Fin 64) : EReal :=
  Ideal.div 1 (Ideal.pow (Ideal.ofBits .f32 0x48F42400#32)
    (Ideal.div (Ideal.ofBits .f32 0x40000000#32 * (((BitVec.ofNat 32 k.val).toInt : ℝ) : EReal)) (Ideal.ofBits .f32 0x43000000#32)))

/-- The rotary angle of a token. -/
def angE (P : IVec S2x1024 32) (b : Fin 2) (s : Fin 1024) (k : Fin 64) : EReal :=
  (((P (ix2 b s)).toInt : ℝ) : EReal) * freqE k

/-- A head of a token. -/
def rowE {n : ℕ} (X : FVec Ideal ⟨3, ![2, 1024, n * 128]⟩ .bf16) (b : Fin 2) (s : Fin 1024) (h : Fin n) (d : Fin 128) : EReal :=
  X (ix3 b s ⟨h * 128 + d, by omega⟩)

/-- A head of a token under the rotary embedding. -/
def rrowE {n : ℕ} (X : FVec Ideal ⟨3, ![2, 1024, n * 128]⟩ .bf16) (P : IVec S2x1024 32) (b : Fin 2) (s : Fin 1024) (h : Fin n) :
    Fin 128 → EReal :=
  rotE (fun k => Ideal.cos (angE P b s k)) (fun k => Ideal.sin (angE P b s k)) (rowE X b s h)

theorem rot24_apply (A B : FVec Ideal S2x1024x24x64 .f32) (C D : FVec Ideal S2x1024x1x64 .f32) (b : Fin 2) (s : Fin 1024) (h : Fin 24)
    (d : Fin 128) :
    concatenate S2x1024x24x128 3
      [⟨S2x1024x24x64, subf (mulf A (broadcastInDim S2x1024x24x64 ![0, 1, 2, 3] bcast_S2x1024x1x64_S2x1024x24x64_0_1_2_3 C))
          (mulf B (broadcastInDim S2x1024x24x64 ![0, 1, 2, 3] bcast_S2x1024x1x64_S2x1024x24x64_0_1_2_3 D))⟩,
        ⟨S2x1024x24x64, addf (mulf B (broadcastInDim S2x1024x24x64 ![0, 1, 2, 3] bcast_S2x1024x1x64_S2x1024x24x64_0_1_2_3 C))
          (mulf A (broadcastInDim S2x1024x24x64 ![0, 1, 2, 3] bcast_S2x1024x1x64_S2x1024x24x64_0_1_2_3 D))⟩]
      concatenates_S2x1024x24x64_S2x1024x24x64_S2x1024x24x128_d3 (ix4 b s h d)
      = if h' : d.val < 64 then A (ix4 b s h ⟨d, h'⟩) * C (ix4 b s 0 ⟨d, h'⟩) - B (ix4 b s h ⟨d, h'⟩) * D (ix4 b s 0 ⟨d, h'⟩)
        else B (ix4 b s h ⟨d - 64, by omega⟩) * C (ix4 b s 0 ⟨d - 64, by omega⟩)
          + A (ix4 b s h ⟨d - 64, by omega⟩) * D (ix4 b s 0 ⟨d - 64, by omega⟩) := by
  pointwise

theorem max24_apply (A : FVec Ideal S2x1024x24x128 .f32) (init : FVec Ideal S_ .f32) (b : Fin 2) (s : Fin 1024) (h : Fin 24) :
    Host.reduce (FloatOps.maximumf (F := Ideal) (φ := .f32)) A init reducesTo_S2x1024x24x128_S2x1024x24_d3 h_S_ (ix3 b s h)
      = Finset.univ.fold (FloatOps.maximumf (F := Ideal) (φ := .f32)) (init (Shape.Idx.first h_S_)) fun d : Fin 128 => A (ix4 b s h d) := by
  rw [Host.reduce_eq_fold, Shape.ReducesTo.fold_fiber_r4_a3]
  congr 1

theorem y24_apply (A : FVec Ideal S2x1024x24x128 .f32) (b : Fin 2) (s : Fin 1024) (h : Fin 24) :
    mulf (Host.reduce FloatOps.maximumf (Host.absf A) (constant S_ .f32 0xFF800000#32) reducesTo_S2x1024x24x128_S2x1024x24_d3 h_S_)
      (broadcastInDim S2x1024x24 ![] bcast_S_S2x1024x24 (constant S_ .f32 0x3B124925#32)) (ix3 b s h)
      = yE fun d => A (ix4 b s h d) := by
  have e := max24_apply (Host.absf A) (constant S_ .f32 0xFF800000#32) b s h
  rw [mulf_apply, e, constant_apply, Ideal.ofBits_def, ofBits_bot]
  unfold yE amaxE
  rfl

theorem e24_apply (y : FVec Ideal S2x1024x24 .f32) (b : Fin 2) (s : Fin 1024) (h : Fin 24) :
    select (cmpf .olt y (broadcastInDim S2x1024x24 ![] bcast_S_S2x1024x24 (constant S_ .f32 0x00800000#32)))
      (broadcastInDim S2x1024x24 ![] bcast_S_S2x1024x24 (id (constant S_ .f32 0x00000000#32)))
      (addf (Host.floor (Host.divf (Host.log y)
          (broadcastInDim S2x1024x24 ![] bcast_S_S2x1024x24 (id (Host.log (constant S_ .f32 0x40000000#32))))))
        (broadcastInDim S2x1024x24 ![] bcast_S_S2x1024x24 (constant S_ .f32 0x3F800000#32))) (ix3 b s h)
      = expR (y (ix3 b s h)) := by
  unfold expR
  simp only [id]
  pointwise

theorem c24_apply (A : FVec Ideal S2x1024x24x128 .f32) (e : FVec Ideal S2x1024x24 .f32) (b : Fin 2) (s : Fin 1024) (h : Fin 24) (d : Fin 128) :
    minimumf (broadcastInDim S2x1024x24x128 ![] bcast_S_S2x1024x24x128 (id (constant S_ .f32 0x43E00000#32)))
      (maximumf (broadcastInDim S2x1024x24x128 ![] bcast_S_S2x1024x24x128 (id (constant S_ .f32 0xC3E00000#32)))
        (mulf A (broadcastInDim S2x1024x24x128 ![0, 1, 2, 3] bcast_S2x1024x24x1_S2x1024x24x128_0_1_2_3
          (broadcastInDim S2x1024x24x1 ![0, 1, 2] bcast_S2x1024x24_S2x1024x24x1_0_1_2
            (Host.powf (broadcastInDim S2x1024x24 ![] bcast_S_S2x1024x24 (constant S_ .f32 0x40000000#32)) (Host.negf e))))))
      (ix4 b s h d)
      = clipE (A (ix4 b s h d) * Ideal.pow (Ideal.ofBits .f32 0x40000000#32) (-(e (ix3 b s h)))) := by
  unfold clipE
  simp only [id]
  pointwise

theorem s24_apply (e : FVec Ideal S2x1024x24 .f32) (b : Fin 2) (s : Fin 1024) (h : Fin 24) :
    Host.powf (broadcastInDim S2x1024x24 ![] bcast_S_S2x1024x24 (constant S_ .f32 0x40000000#32)) e (ix3 b s h)
      = Ideal.pow (Ideal.ofBits .f32 0x40000000#32) (e (ix3 b s h)) := by
  pointwise

theorem rot4_apply (A B : FVec Ideal S2x1024x4x64 .f32) (C D : FVec Ideal S2x1024x1x64 .f32) (b : Fin 2) (s : Fin 1024) (h : Fin 4)
    (d : Fin 128) :
    concatenate S2x1024x4x128 3
      [⟨S2x1024x4x64, subf (mulf A (broadcastInDim S2x1024x4x64 ![0, 1, 2, 3] bcast_S2x1024x1x64_S2x1024x4x64_0_1_2_3 C))
          (mulf B (broadcastInDim S2x1024x4x64 ![0, 1, 2, 3] bcast_S2x1024x1x64_S2x1024x4x64_0_1_2_3 D))⟩,
        ⟨S2x1024x4x64, addf (mulf B (broadcastInDim S2x1024x4x64 ![0, 1, 2, 3] bcast_S2x1024x1x64_S2x1024x4x64_0_1_2_3 C))
          (mulf A (broadcastInDim S2x1024x4x64 ![0, 1, 2, 3] bcast_S2x1024x1x64_S2x1024x4x64_0_1_2_3 D))⟩]
      concatenates_S2x1024x4x64_S2x1024x4x64_S2x1024x4x128_d3 (ix4 b s h d)
      = if h' : d.val < 64 then A (ix4 b s h ⟨d, h'⟩) * C (ix4 b s 0 ⟨d, h'⟩) - B (ix4 b s h ⟨d, h'⟩) * D (ix4 b s 0 ⟨d, h'⟩)
        else B (ix4 b s h ⟨d - 64, by omega⟩) * C (ix4 b s 0 ⟨d - 64, by omega⟩)
          + A (ix4 b s h ⟨d - 64, by omega⟩) * D (ix4 b s 0 ⟨d - 64, by omega⟩) := by
  pointwise

theorem max4_apply (A : FVec Ideal S2x1024x4x128 .f32) (init : FVec Ideal S_ .f32) (b : Fin 2) (s : Fin 1024) (h : Fin 4) :
    Host.reduce (FloatOps.maximumf (F := Ideal) (φ := .f32)) A init reducesTo_S2x1024x4x128_S2x1024x4_d3 h_S_ (ix3 b s h)
      = Finset.univ.fold (FloatOps.maximumf (F := Ideal) (φ := .f32)) (init (Shape.Idx.first h_S_)) fun d : Fin 128 => A (ix4 b s h d) := by
  rw [Host.reduce_eq_fold, Shape.ReducesTo.fold_fiber_r4_a3]
  congr 1

theorem y4_apply (A : FVec Ideal S2x1024x4x128 .f32) (b : Fin 2) (s : Fin 1024) (h : Fin 4) :
    mulf (Host.reduce FloatOps.maximumf (Host.absf A) (constant S_ .f32 0xFF800000#32) reducesTo_S2x1024x4x128_S2x1024x4_d3 h_S_)
      (broadcastInDim S2x1024x4 ![] bcast_S_S2x1024x4 (constant S_ .f32 0x3B124925#32)) (ix3 b s h)
      = yE fun d => A (ix4 b s h d) := by
  have e := max4_apply (Host.absf A) (constant S_ .f32 0xFF800000#32) b s h
  rw [mulf_apply, e, constant_apply, Ideal.ofBits_def, ofBits_bot]
  unfold yE amaxE
  rfl

theorem e4_apply (y : FVec Ideal S2x1024x4 .f32) (b : Fin 2) (s : Fin 1024) (h : Fin 4) :
    select (cmpf .olt y (broadcastInDim S2x1024x4 ![] bcast_S_S2x1024x4 (constant S_ .f32 0x00800000#32)))
      (broadcastInDim S2x1024x4 ![] bcast_S_S2x1024x4 (id (constant S_ .f32 0x00000000#32)))
      (addf (Host.floor (Host.divf (Host.log y)
          (broadcastInDim S2x1024x4 ![] bcast_S_S2x1024x4 (id (Host.log (constant S_ .f32 0x40000000#32))))))
        (broadcastInDim S2x1024x4 ![] bcast_S_S2x1024x4 (constant S_ .f32 0x3F800000#32))) (ix3 b s h)
      = expR (y (ix3 b s h)) := by
  unfold expR
  simp only [id]
  pointwise

theorem c4_apply (A : FVec Ideal S2x1024x4x128 .f32) (e : FVec Ideal S2x1024x4 .f32) (b : Fin 2) (s : Fin 1024) (h : Fin 4) (d : Fin 128) :
    minimumf (broadcastInDim S2x1024x4x128 ![] bcast_S_S2x1024x4x128 (id (constant S_ .f32 0x43E00000#32)))
      (maximumf (broadcastInDim S2x1024x4x128 ![] bcast_S_S2x1024x4x128 (id (constant S_ .f32 0xC3E00000#32)))
        (mulf A (broadcastInDim S2x1024x4x128 ![0, 1, 2, 3] bcast_S2x1024x4x1_S2x1024x4x128_0_1_2_3
          (broadcastInDim S2x1024x4x1 ![0, 1, 2] bcast_S2x1024x4_S2x1024x4x1_0_1_2
            (Host.powf (broadcastInDim S2x1024x4 ![] bcast_S_S2x1024x4 (constant S_ .f32 0x40000000#32)) (Host.negf e))))))
      (ix4 b s h d)
      = clipE (A (ix4 b s h d) * Ideal.pow (Ideal.ofBits .f32 0x40000000#32) (-(e (ix3 b s h)))) := by
  unfold clipE
  simp only [id]
  pointwise

theorem s4_apply (e : FVec Ideal S2x1024x4 .f32) (b : Fin 2) (s : Fin 1024) (h : Fin 4) :
    Host.powf (broadcastInDim S2x1024x4 ![] bcast_S_S2x1024x4 (constant S_ .f32 0x40000000#32)) e (ix3 b s h)
      = Ideal.pow (Ideal.ofBits .f32 0x40000000#32) (e (ix3 b s h)) := by
  pointwise

variable (V0 : Valuation τ sig (Elt Ideal))

/-- The reference's arguments. -/
abbrev aX : FVec Ideal S2x1024x3072 .bf16 := V0 (Proc.devRef .tc main_arg0)
abbrev aK : FVec Ideal S2x1024x512 .bf16 := V0 (Proc.devRef .tc main_arg1)
abbrev aV : FVec Ideal S2x1024x512 .bf16 := V0 (Proc.devRef .tc main_arg2)
abbrev aP : IVec S2x1024 32 := V0 (Proc.devRef .tc main_arg3)

theorem v16_apply (b : Fin 2) (s : Fin 1024) (k : Fin 64) : res_main_v16 V0 (ix3 b s k) = angE (aP V0) b s k := by
  unfold res_main_v16 angE freqE
  clean_types
  pointwise
  rfl

theorem v18_apply (b : Fin 2) (s : Fin 1024) (k : Fin 64) :
    res_main_v18 V0 (ix4 b s 0 k) = Ideal.cos (angE (aP V0) b s k) := by
  rw [← v16_apply]
  unfold res_main_v18
  generalize res_main_v16 V0 = A
  clean_types
  pointwise

theorem v20_apply (b : Fin 2) (s : Fin 1024) (k : Fin 64) :
    res_main_v20 V0 (ix4 b s 0 k) = Ideal.sin (angE (aP V0) b s k) := by
  rw [← v16_apply]
  unfold res_main_v20
  generalize res_main_v16 V0 = A
  clean_types
  pointwise

theorem v22_apply (b : Fin 2) (s : Fin 1024) (h : Fin 24) (d : Fin 128) :
    res_main_v22 V0 (ix4 b s h d) = rowE (n := 24) (aX V0) b s h d := by
  unfold res_main_v22 rowE
  clean_types
  pointwise

theorem v23_apply (b : Fin 2) (s : Fin 1024) (h : Fin 24) (d : Fin 64) :
    res_main_v23 V0 (ix4 b s h d) = rowE (n := 24) (aX V0) b s h ⟨d, by omega⟩ := by
  rw [← v22_apply]
  unfold res_main_v23
  generalize res_main_v22 V0 = A
  clean_types
  pointwise

theorem v24_apply (b : Fin 2) (s : Fin 1024) (h : Fin 24) (d : Fin 64) :
    res_main_v24 V0 (ix4 b s h d) = rowE (n := 24) (aX V0) b s h ⟨64 + d, by omega⟩ := by
  rw [← v22_apply]
  unfold res_main_v24
  generalize res_main_v22 V0 = A
  clean_types
  pointwise

theorem v35_apply (b : Fin 2) (s : Fin 1024) (h : Fin 24) (d : Fin 128) :
    (res_main_v35 V0 : FVec Ideal S2x1024x24x128 .f32) (ix4 b s h d) = rrowE (n := 24) (aX V0) (aP V0) b s h d := by
  refine (rot24_apply (res_main_v23 V0) (res_main_v24 V0) (res_main_v18 V0) (res_main_v20 V0) b s h d).trans ?_
  unfold rrowE rotE
  split
  · rw [v23_apply, v24_apply, v18_apply, v20_apply]
  · rw [v23_apply, v24_apply, v18_apply, v20_apply]
    exact congrArg₂ _ (congrArg₂ _ (congrArg _ (Fin.ext (by show 64 + (d.val - 64) = d.val; omega))) rfl) rfl

theorem qscale (b : Fin 2) (s : Fin 1024) (h : Fin 24) :
    (res_main_v65 V0 : FVec Ideal S2x1024x24 .f32) (ix3 b s h) = expR (yE (rrowE (n := 24) (aX V0) (aP V0) b s h)) := by
  refine (e24_apply (res_main_v54 V0) b s h).trans (congrArg expR ?_)
  exact (y24_apply (res_main_v35 V0) b s h).trans (congrArg yE (funext fun d => v35_apply V0 b s h d))

theorem qcode (b : Fin 2) (s : Fin 1024) (h : Fin 24) (d : Fin 128) :
    (res_main_v74 V0 : FVec Ideal S2x1024x24x128 .f32) (ix4 b s h d) = codeR (rrowE (n := 24) (aX V0) (aP V0) b s h) d := by
  refine (c24_apply (res_main_v35 V0) (res_main_v65 V0) b s h d).trans ?_
  rw [v35_apply, qscale]
  rfl

theorem v37_apply (b : Fin 2) (s : Fin 1024) (h : Fin 4) (d : Fin 128) :
    res_main_v37 V0 (ix4 b s h d) = rowE (n := 4) (aK V0) b s h d := by
  unfold res_main_v37 rowE
  clean_types
  pointwise

theorem v38_apply (b : Fin 2) (s : Fin 1024) (h : Fin 4) (d : Fin 64) :
    res_main_v38 V0 (ix4 b s h d) = rowE (n := 4) (aK V0) b s h ⟨d, by omega⟩ := by
  rw [← v37_apply]
  unfold res_main_v38
  generalize res_main_v37 V0 = A
  clean_types
  pointwise

theorem v39_apply (b : Fin 2) (s : Fin 1024) (h : Fin 4) (d : Fin 64) :
    res_main_v39 V0 (ix4 b s h d) = rowE (n := 4) (aK V0) b s h ⟨64 + d, by omega⟩ := by
  rw [← v37_apply]
  unfold res_main_v39
  generalize res_main_v37 V0 = A
  clean_types
  pointwise

theorem v50_apply (b : Fin 2) (s : Fin 1024) (h : Fin 4) (d : Fin 128) :
    (res_main_v50 V0 : FVec Ideal S2x1024x4x128 .f32) (ix4 b s h d) = rrowE (n := 4) (aK V0) (aP V0) b s h d := by
  refine (rot4_apply (res_main_v38 V0) (res_main_v39 V0) (res_main_v18 V0) (res_main_v20 V0) b s h d).trans ?_
  unfold rrowE rotE
  split
  · rw [v38_apply, v39_apply, v18_apply, v20_apply]
  · rw [v38_apply, v39_apply, v18_apply, v20_apply]
    exact congrArg₂ _ (congrArg₂ _ (congrArg _ (Fin.ext (by show 64 + (d.val - 64) = d.val; omega))) rfl) rfl

theorem kscale (b : Fin 2) (s : Fin 1024) (h : Fin 4) :
    (res_main_v89 V0 : FVec Ideal S2x1024x4 .f32) (ix3 b s h) = expR (yE (rrowE (n := 4) (aK V0) (aP V0) b s h)) := by
  refine (e4_apply (res_main_v78 V0) b s h).trans (congrArg expR ?_)
  exact (y4_apply (res_main_v50 V0) b s h).trans (congrArg yE (funext fun d => v50_apply V0 b s h d))

theorem kcode (b : Fin 2) (s : Fin 1024) (h : Fin 4) (d : Fin 128) :
    (res_main_v98 V0 : FVec Ideal S2x1024x4x128 .f32) (ix4 b s h d) = codeR (rrowE (n := 4) (aK V0) (aP V0) b s h) d := by
  refine (c4_apply (res_main_v50 V0) (res_main_v89 V0) b s h d).trans ?_
  rw [v50_apply, kscale]
  rfl

theorem v100_apply (b : Fin 2) (s : Fin 1024) (h : Fin 4) (d : Fin 128) :
    (res_main_v100 V0 : FVec Ideal S2x1024x4x128 .f32) (ix4 b s h d) = rowE (n := 4) (aV V0) b s h d := by
  unfold res_main_v100 rowE
  clean_types
  pointwise

theorem vscale (b : Fin 2) (s : Fin 1024) (h : Fin 4) :
    (res_main_v115 V0 : FVec Ideal S2x1024x4 .f32) (ix3 b s h) = expR (yE (rowE (n := 4) (aV V0) b s h)) := by
  refine (e4_apply (res_main_v104 V0) b s h).trans (congrArg expR ?_)
  exact (y4_apply (res_main_v100 V0) b s h).trans (congrArg yE (funext fun d => v100_apply V0 b s h d))

theorem vcode (b : Fin 2) (s : Fin 1024) (h : Fin 4) (d : Fin 128) :
    (res_main_v124 V0 : FVec Ideal S2x1024x4x128 .f32) (ix4 b s h d) = codeR (rowE (n := 4) (aV V0) b s h) d := by
  refine (c4_apply (res_main_v100 V0) (res_main_v115 V0) b s h d).trans ?_
  rw [v100_apply, vscale]
  rfl

end Cert.Attn
-- ==== Proof.Grid.lean ====
module

public import proofs.«01_k».proof.Proof.RunIdeal
public import proofs.«01_k».proof.Proof.KerQuant
public import proofs.«01_k».proof.Proof.AttnRow
public import proofs.«01_k».proof.Proof.RefQuant
public import Idealize.ShloMosaic.Lib.Pipeline.ValueKit
public import Idealize.ShloMosaic.Lib.Pipeline.ArrRel

/-!
# What the body finds, and what the results' arrays hold at the end
-/

@[expose] public section

set_option maxRecDepth 16384

noncomputable section

namespace Cert.Attn.KernelIdeal

open Idealize.ShloMosaic Idealize.ShloMosaic.TcCoe Idealize.ShloMosaic.Tactic
open Idealize.SL Idealize.SL.Sem
open Idealize.ShloMosaic.Pipeline (RDat Cfg Window)
open Cert.KernelIdeal Cert.KernelIdeal.Gen

variable (m : (ℓ : Loc nD τ sig) → Buf (Elt Ideal) ℓ)

/-- The windows' block indices. -/
theorem idx : ∀ t : Fin grid0.N, win0_0.index t = ![0, t.val % 8] ∧ win0_1.index t = ![0, 0] ∧ win0_2.index t = ![t.val / 8, t.val % 8, 0]
    ∧ win0_3.index t = ![t.val / 8, t.val % 8, 0] ∧ win0_4.index t = ![t.val / 8, t.val % 8, 0]
    ∧ win0_7.index t = ![t.val / 8, t.val % 8, 0] ∧ win0_8.index t = ![t.val / 8, t.val % 8, 0] ∧ win0_9.index t = ![t.val / 8, t.val % 8, 0]
    ∧ win0_10.index t = ![t.val / 8, t.val % 8, 0] ∧ win0_11.index t = ![t.val / 8, t.val % 8, 0]
    ∧ win0_12.index t = ![t.val / 8, t.val % 8, 0] ∧ win0_5.index t = ![t.val / 8, t.val % 8, 0] ∧ win0_6.index t = ![0, 0]
    := by decide +kernel

/-- The token of a block. -/
def tok (t : Fin cfg0.N) (i : Fin 128) : Fin 1024 := ⟨t.val % 8 * 128 + i, by omega⟩

/-- The batch of a point. -/
def bat (t : Fin cfg0.N) : Fin 2 := ⟨t.val / 8, by have := t.2.trans_eq N_0; omega⟩

theorem blk0 (c : Dev nD) (t : Fin cfg0.N) (b : Fin 2) (i : Fin 128) :
    iblk m c 0 t (ix2 b i) = m ((c : Thread nD τ).loc main_arg3) (ix2 b (tok t i)) := by
  rw [← V_main_arg3 m c]
  obtain ⟨h0, h1, h2, h3, h4, -⟩ := idx t
  unfold iblk tok
  generalize V m c = W
  blk_ext [h0]

theorem blk2 (c : Dev nD) (t : Fin cfg0.N) (i : Fin 128) (d : Fin 3072) :
    iblk m c 2 t (ix3 0 i d) = m ((c : Thread nD τ).loc main_arg0) (ix3 (bat t) (tok t i) d) := by
  rw [← V_main_arg0 m c]
  obtain ⟨h0, h1, h2, h3, h4, -⟩ := idx t
  unfold iblk tok bat
  generalize V m c = W
  blk_ext [h2]

theorem blk3 (c : Dev nD) (t : Fin cfg0.N) (i : Fin 128) (d : Fin 512) :
    iblk m c 3 t (ix3 0 i d) = m ((c : Thread nD τ).loc main_arg1) (ix3 (bat t) (tok t i) d) := by
  rw [← V_main_arg1 m c]
  obtain ⟨h0, h1, h2, h3, h4, -⟩ := idx t
  unfold iblk tok bat
  generalize V m c = W
  blk_ext [h3]

theorem blk4 (c : Dev nD) (t : Fin cfg0.N) (i : Fin 128) (d : Fin 512) :
    iblk m c 4 t (ix3 0 i d) = m ((c : Thread nD τ).loc main_arg2) (ix3 (bat t) (tok t i) d) := by
  rw [← V_main_arg2 m c]
  obtain ⟨h0, h1, h2, h3, h4, -⟩ := idx t
  unfold iblk tok bat
  generalize V m c = W
  blk_ext [h4]

theorem V_freq (c : Dev nD) (k : Fin 64) (i : Fin 128) : V m c main_v12 (ix2 k i) = freqE k := by
  have h : V m c main_v12 = broadcastInDim S64x128 ![0, 1] bcast_S64x1_S64x128_0_1 (broadcastInDim S64x1 ![0] bcast_S64_S64x1_0
    (Host.divf (broadcastInDim S64 ![] bcast_S_S64 (constant S_ .f32 0x3F800000#32) : FVec Ideal S64 .f32)
      (Host.powf (broadcastInDim S64 ![] bcast_S_S64 (constant S_ .f32 0x48F42400#32) : FVec Ideal S64 .f32)
        (Host.divf (addf (broadcastInDim S64 ![] bcast_S_S64 (constant S_ .f32 0x00000000#32) : FVec Ideal S64 .f32)
          (mulf (broadcastInDim S64 ![] bcast_S_S64 (constant S_ .f32 0x40000000#32) : FVec Ideal S64 .f32)
            (sitofp .f32 (iotaInDim S64 32 0)))) (broadcastInDim S64 ![] bcast_S_S64 (constant S_ .f32 0x43000000#32) : FVec Ideal S64 .f32))))) := by
    rfl
  rw [h]
  unfold freqE
  pointwise
  rfl

theorem blk1 (c : Dev nD) (t : Fin cfg0.N) (k : Fin 64) (i : Fin 128) : iblk m c 1 t (ix2 k i) = freqE k := by
  rw [← V_freq m c k i]
  obtain ⟨h0, h1, h2, h3, h4, -⟩ := idx t
  unfold iblk
  generalize V m c = W
  blk_ext [h1]

variable {m}

theorem found0 {S : Dev nD → Spec Ideal} {c : Dev nD} {t : Fin cfg0.N} {X} (h : (rdat m S c).Finds 0 t X) : X = iblk m c 0 t := by
  obtain ⟨d, rfl⟩ := (RDat.finds_of_fetch _ (fetch0_0 t) X).1 h
  rfl
theorem found2 {S : Dev nD → Spec Ideal} {c : Dev nD} {t : Fin cfg0.N} {X} (h : (rdat m S c).Finds 2 t X) : X = iblk m c 2 t := by
  obtain ⟨d, rfl⟩ := (RDat.finds_of_fetch _ (fetch0_2 t) X).1 h
  rfl
theorem found3 {S : Dev nD → Spec Ideal} {c : Dev nD} {t : Fin cfg0.N} {X} (h : (rdat m S c).Finds 3 t X) : X = iblk m c 3 t := by
  obtain ⟨d, rfl⟩ := (RDat.finds_of_fetch _ (fetch0_3 t) X).1 h
  rfl
theorem found4 {S : Dev nD → Spec Ideal} {c : Dev nD} {t : Fin cfg0.N} {X} (h : (rdat m S c).Finds 4 t X) : X = iblk m c 4 t := by
  obtain ⟨d, rfl⟩ := (RDat.finds_of_fetch _ (fetch0_4 t) X).1 h
  rfl

/-- The frequencies, fetched once, are kept if the body keeps them. -/
theorem found1 {S : Dev nD → Spec Ideal} {c : Dev nD} (hS : ∀ t Y X, (S c).rel 1 t Y X → X = Y) : ∀ (n : ℕ) (hn : n < cfg0.N) (X),
    (rdat m S c).Finds 1 ⟨n, hn⟩ X → ∀ k i, X (ix2 k i) = freqE k
  | 0, hn, X, h, k, i => by
    obtain ⟨d, rfl⟩ := (RDat.finds_of_fetch _ ((fetch0_1 ⟨0, hn⟩).2 rfl) X).1 h
    exact blk1 m c ⟨0, hn⟩ k i
  | n + 1, hn, X, h, k, i => by
    have hf : (cfg0.win 1).fetch ⟨n + 1, hn⟩ = false := by
      rw [Bool.eq_false_iff, ne_eq, fetch0_1]
      have : n + 1 < 16 := hn.trans_eq N_0
      show ¬ (n + 1) % 16 = 0
      omega
    rcases (RDat.finds_of_pos _ hf (Nat.succ_ne_zero n) X).1 h with h' | ⟨Y, hY, hr⟩
    · exact absurd h' (by
        rw [Bool.not_eq_true]
        exact rfl)
    · have e := hS _ _ _ hr
      subst e
      exact found1 hS n (Nat.lt_of_succ_lt hn) _ hY k i

/-! ### The specification -/

section Spec

variable (m)

/-- The argument `x`. -/
def xA (c : Dev nD) : FVec Ideal ⟨3, ![2, 1024, 24 * 128]⟩ .bf16 := m ((c : Thread nD τ).loc main_arg0)
/-- The argument `k`. -/
def kA (c : Dev nD) : FVec Ideal ⟨3, ![2, 1024, 4 * 128]⟩ .bf16 := m ((c : Thread nD τ).loc main_arg1)
/-- The argument `v`. -/
def vA (c : Dev nD) : FVec Ideal ⟨3, ![2, 1024, 4 * 128]⟩ .bf16 := m ((c : Thread nD τ).loc main_arg2)
/-- The positions. -/
def pA (c : Dev nD) : IVec ⟨2, ![2, 1024]⟩ 32 := m ((c : Thread nD τ).loc main_arg3)

/-- A query's row. -/
def qRow (c : Dev nD) (b : Fin 2) (s : Fin 1024) (h : Fin 24) : Fin 128 → EReal := rrowE (n := 24) (xA m c) (pA m c) b s h
/-- A key's row. -/
def kRow (c : Dev nD) (b : Fin 2) (s : Fin 1024) (g : Fin 4) : Fin 128 → EReal := rrowE (n := 4) (kA m c) (pA m c) b s g
/-- A value's row. -/
def vRow (c : Dev nD) (b : Fin 2) (s : Fin 1024) (g : Fin 4) : Fin 128 → EReal := rowE (n := 4) (vA m c) b s g

/-- A row of the output. -/
def oRow (c : Dev nD) (b : Fin 2) (s : Fin 1024) : Fin 3072 → EReal := outRow (qRow m c b s) (kRow m c b) (vRow m c b) s

/-- The batch and the block at the start of point `t`. -/
def atB (t : ℕ) : Fin 2 := ⟨t / 8 % 2, by omega⟩

/-- What the body leaves in each window's buffer. -/
def rel (c : Dev nD) : (w : Fin cfg0.W) → Fin cfg0.N → (Y X : (cfg0.win w).block.Idx → Elt Ideal (cfg0.win w).elt) → Prop
  | 1 => fun _ Y X => X = Y
  | 5 => fun t _ X => ∀ (i : Fin 128) (h : Fin 24) (d : Fin 128),
      X (ix3 0 i ⟨h * 128 + d, by omega⟩ : S1x128x3072.Idx) = codeE (oRow m c (bat t) (tok t i)) ⟨h * 128 + d, by omega⟩
  | 6 => fun t Y X => ∀ (b : Fin 2) (s : Fin 1024),
      X (ix2 b s : S2x1024.Idx) = if b = bat t ∧ s.val / 128 = t.val % 8 then scaleE (yE (oRow m c b s)) else Y (ix2 b s : S2x1024.Idx)
  | 7 => fun t _ X => ∀ (i : Fin 128) (h : Fin 24) (d : Fin 128),
      X (ix3 0 i ⟨h * 128 + d, by omega⟩ : S1x128x3072.Idx) = codeE (qRow m c (bat t) (tok t i) h) d
  | 8 => fun t _ X => ∀ (i : Fin 128) (h : Fin 24), X (ix3 0 i h : S1x128x24.Idx) = scaleE (yE (qRow m c (bat t) (tok t i) h))
  | 9 => fun t _ X => ∀ (i : Fin 128) (g : Fin 4) (d : Fin 128),
      X (ix3 0 i ⟨g * 128 + d, by omega⟩ : S1x128x512.Idx) = codeE (kRow m c (bat t) (tok t i) g) d
  | 10 => fun t _ X => ∀ (i : Fin 128) (g : Fin 4), X (ix3 0 i g : S1x128x4.Idx) = scaleE (yE (kRow m c (bat t) (tok t i) g))
  | 11 => fun t _ X => ∀ (i : Fin 128) (g : Fin 4) (d : Fin 128),
      X (ix3 0 i ⟨g * 128 + d, by omega⟩ : S1x128x512.Idx) = codeE (vRow m c (bat t) (tok t i) g) d
  | 12 => fun t _ X => ∀ (i : Fin 128) (g : Fin 4), X (ix3 0 i g : S1x128x4.Idx) = scaleE (yE (vRow m c (bat t) (tok t i) g))
  | _ => fun _ _ _ => True

/-- The specification of the run. -/
def spec (c : Dev nD) : Spec Ideal := ⟨rel m c, fun t ζ =>
  Cache (fun g s => kRow m c (atB t) s g) (fun g s => vRow m c (atB t) s g) (t % 8 * 128) ζ⟩

end Spec

/-- Nothing is cached before the first key. -/
theorem cache_zero (kr vr : Fin 4 → Fin 1024 → Fin 128 → EReal) (N : ℕ) (hN : N = 0) (ζ : St Ideal) : Cache kr vr N ζ := by
  subst hN
  exact ⟨fun _ _ _ h => absurd h (Nat.not_lt_zero _), fun _ _ _ h => absurd h (Nat.not_lt_zero _), fun _ _ _ h => absurd h (Nat.not_lt_zero _)⟩

theorem score_eq : (score (F := Ideal) : EReal) = (((Real.sqrt 128)⁻¹ * (Real.log 2)⁻¹ : ℝ) : EReal) := by
  unfold score
  rfl

theorem rowB_eq {n : ℕ} (X : FVec Ideal ⟨3, ![1, 128, n * 128]⟩ .bf16) (A : FVec Ideal ⟨3, ![2, 1024, n * 128]⟩ .bf16) (i : Fin 128)
    (b : Fin 2) (s : Fin 1024) (h : Fin n) (hX : ∀ d, X (ix3 0 i d) = A (ix3 b s d)) : rowB X i h = rowE A b s h :=
  funext fun _ => hX _

theorem rrowB_eq {n : ℕ} (X : FVec Ideal ⟨3, ![1, 128, n * 128]⟩ .bf16) (A : FVec Ideal ⟨3, ![2, 1024, n * 128]⟩ .bf16)
    (P : IVec ⟨2, ![2, 1024]⟩ 32) (a : FVec Ideal S64x128 .f32) (i : Fin 128)
    (b : Fin 2) (s : Fin 1024) (h : Fin n) (hX : ∀ d, X (ix3 0 i d) = A (ix3 b s d)) (ha : ∀ k, a (ix2 k i) = angE P b s k) :
    rrowB X a i h = rrowE A P b s h := by
  unfold rrowB rrowE
  rw [rowB_eq X A i b s h hX]
  simp only [ha]

section Facts

variable {S : Dev nD → Spec Ideal} {c : Dev nD} (hS : ∀ t Y X, (S c).rel 1 t Y X → X = Y) {t : Fin cfg0.N} {Y : Wins Ideal} (ζ : St Ideal)
  (hY : ∀ w, (rdat m S c).Finds w t (Y w))

include hS hY in
theorem ang_found (k : Fin 64) (i : Fin 128) : angV (bat t) (join Y ζ) (ix2 k i) = angE (pA m c) (bat t) (tok t i) k := by
  rw [angV_apply]
  unfold angE
  refine congrArg₂ (fun x y : EReal => x * y) ?_ (found1 hS t.val t.isLt (Y 1) (hY 1) k i)
  refine congrArg (fun p : BitVec 32 => ((p.toInt : ℝ) : EReal)) ?_
  show Y 0 (ix2 (bat t) i) = _
  rw [found0 (hY 0)]
  exact blk0 m c t (bat t) i

include hS hY in
theorem q_found (i : Fin 128) (h : Fin 24) : rrowB (n := 24) (join Y ζ .x) (angV (bat t) (join Y ζ)) i h = qRow m c (bat t) (tok t i) h := by
  refine rrowB_eq _ _ _ _ _ _ _ _ (fun d => ?_) fun k => ang_found hS ζ hY k i
  show Y 2 (ix3 0 i d) = _
  rw [found2 (hY 2)]
  exact blk2 m c t i d

include hS hY in
theorem k_found (i : Fin 128) (g : Fin 4) : rrowB (n := 4) (join Y ζ .k) (angV (bat t) (join Y ζ)) i g = kRow m c (bat t) (tok t i) g := by
  refine rrowB_eq _ _ _ _ _ _ _ _ (fun d => ?_) fun k => ang_found hS ζ hY k i
  show Y 3 (ix3 0 i d) = _
  rw [found3 (hY 3)]
  exact blk3 m c t i d

include hY in
theorem v_found (i : Fin 128) (g : Fin 4) : rowB (n := 4) (join Y ζ .v) i g = vRow m c (bat t) (tok t i) g := by
  refine rowB_eq _ _ _ _ _ _ fun d => ?_
  show Y 4 (ix3 0 i d) = _
  rw [found4 (hY 4)]
  exact blk4 m c t i d

end Facts

/-- What the body does to the caches, the output's codes, and the output's scales. -/
theorem body_out {b : Fin 2} {n : Fin 8} {qr : Fin 24 → Fin 128 → Fin 128 → EReal} {kr vr : Fin 4 → Fin 1024 → Fin 128 → EReal} {σ : St Ideal}
    (hC : Cache kr vr (n * 128) σ)
    (hq : ∀ h i, qr h i = rrowB (n := 24) (σ .x) (angV b σ) i h)
    (hk : ∀ g s, s.val / 128 = n.val → kr g s = rrowB (n := 4) (σ .k) (angV b σ) (col' s) g)
    (hv : ∀ g s, s.val / 128 = n.val → vr g s = rowB (n := 4) (σ .v) (col' s) g)
    (bq : ∀ h i d, Bdd ((2 : ℝ) ^ (130 : ℤ)) (qr h i d)) (bk : ∀ g s d, Bdd ((2 : ℝ) ^ (130 : ℤ)) (kr g s d))
    (bv : ∀ g s d, Bdd ((2 : ℝ) ^ (130 : ℤ)) (vr g s d)) :
    Cache kr vr ((n + 1) * 128) ((body score b n).exec σ).2
      ∧ (∀ (i : Fin 128) (h : Fin 24) (d : Fin 128), ((body score b n).exec σ).2 .oc (ix3 0 i ⟨h * 128 + d, by omega⟩)
        = codeE (outRow (fun h => qr h i) (fun k g => kr g k) (fun k g => vr g k) (n * 128 + i)) ⟨h * 128 + d, by omega⟩)
      ∧ ∀ (b' : Fin 2) (s : Fin 1024), ((body score b n).exec σ).2 .os (ix2 b' s)
        = if b' = b ∧ s.val / 128 = n.val then
            scaleE (yE (outRow (fun h => qr h (col' s)) (fun k g => kr g k) (fun k g => vr g k) (n * 128 + (col' s).val)))
          else σ .os (ix2 b' s) := by
  have hI := quant_base (b := b) (qr := qr) σ hC hq hk hv (score (F := Ideal))
  refine ⟨body_cache (score (F := Ideal)) σ hC hk hv, fun i h d => (body_oc (score (F := Ideal)) σ hI i h d).trans ?_,
    fun b' s => (body_os (score (F := Ideal)) σ hI b' s).trans (if_congr Iff.rfl ?_ rfl)⟩
  · rw [score_eq]
    exact oc_row qr kr vr bq bk bv _ rfl n i h d
  · rw [score_eq]
    exact os_row qr kr vr bq bk bv _ rfl n (col' s)

theorem ite_left {α : Type} {p : Prop} [Decidable p] {a b x : α} (h : p → a = b) : (if p then a else x) = if p then b else x := by
  split_ifs with hp
  · exact h hp
  · rfl

theorem tok_col (t : Fin cfg0.N) (s : Fin 1024) (hs : s.val / 128 = (nOf t).val) : tok t (col' s) = s :=
  Fin.ext (by
    show t.val % 8 * 128 + s.val % 128 = s.val
    have : s.val / 128 = t.val % 8 := hs
    omega)

theorem step (c : Dev nD) (bq : ∀ b s h d, Bdd ((2 : ℝ) ^ (130 : ℤ)) (qRow m c b s h d)) (bk : ∀ b s g d, Bdd ((2 : ℝ) ^ (130 : ℤ)) (kRow m c b s g d))
    (bv : ∀ b s g d, Bdd ((2 : ℝ) ^ (130 : ℤ)) (vRow m c b s g d)) : Step m (spec m) c := by
  intro t Y ζ hY hI
  have hS : ∀ t Y X, (spec m c).rel 1 t Y X → X = Y := fun _ _ _ h => h
  have hq := q_found hS ζ hY
  have hk := k_found hS ζ hY
  have hv := v_found ζ hY
  have hat : atB t.val = bat t := Fin.ext (by have := t.2.trans_eq N_0; show t.val / 8 % 2 = t.val / 8; omega)
  have hC : Cache (fun g s => kRow m c (bat t) s g) (fun g s => vRow m c (bat t) s g) (nOf t * 128) (join Y ζ) := by
    rw [← hat]
    exact Cache.congr hI rfl rfl rfl
  have hk' : ∀ (g : Fin 4) (s : Fin 1024), s.val / 128 = (nOf t).val →
      kRow m c (bat t) s g = rrowB (n := 4) (join Y ζ .k) (angV (bat t) (join Y ζ)) (col' s) g := fun g s hs => by rw [hk, tok_col t s hs]
  have hv' : ∀ (g : Fin 4) (s : Fin 1024), s.val / 128 = (nOf t).val →
      vRow m c (bat t) s g = rowB (n := 4) (join Y ζ .v) (col' s) g := fun g s hs => by rw [hv, tok_col t s hs]
  have hos0 : join Y ζ .os = Y 6 := rfl
  have hout := body_out (σ := join Y ζ) hC (fun h i => (hq i h).symm) hk' hv' (fun h i => bq _ _ h) (fun g s => bk _ s g) fun g s => bv _ s g
  refine ⟨fun w => ?_, ?_⟩
  swap
  · show Cache (fun g s => kRow m c (atB (t.val + 1)) s g) (fun g s => vRow m c (atB (t.val + 1)) s g) ((t.val + 1) % 8 * 128) _
    by_cases h7 : t.val % 8 = 7
    · exact cache_zero _ _ _ (by omega) _
    · have h1 : atB (t.val + 1) = bat t := Fin.ext (by have := t.2.trans_eq N_0; show (t.val + 1) / 8 % 2 = t.val / 8; omega)
      have h2 : (t.val + 1) % 8 * 128 = ((nOf t).val + 1) * 128 := by show _ = (t.val % 8 + 1) * 128; omega
      rw [h1, h2]
      exact hout.1
  replace hout := hout.2
  show rel m c w t (Y w) (wins ((body score (bat t) (nOf t)).exec (join Y ζ)).2 w)
  generalize hσ : join Y ζ = σ at hq hk hv hos0 hout
  have kp : ∀ r : Buf0, ¬ AOnly r → ¬ OOnly r → ((body score (bat t) (nOf t)).exec σ).2 r = ((quant (bat t) (nOf t)).exec σ).2 r :=
    fun r => body_keep score (bat t) (nOf t) σ
  have hout' := hout
  generalize ((body score (bat t) (nOf t)).exec σ).2 = σ' at kp hout'
  fin_cases w
  · trivial
  · show σ' .freq = Y 1
    rw [kp _ (by simp [AOnly]) (by simp [OOnly]), quant_keep _ _ _ (by simp) (by simp) (by simp) (by simp [KOnly]) (by simp [QOnly]), ← hσ]
    rfl
  · trivial
  · trivial
  · trivial
  · exact fun i h d => hout'.1 i h d
  · intro b s
    refine (hout'.2 b s).trans ?_
    rw [hos0]
    exact ite_left fun h => congrArg₂ (fun b s => scaleE (yE (oRow m c b s))) h.1.symm (tok_col t s h.2)
  · intro i h d
    show σ' .qc _ = _
    rw [kp _ (by simp [AOnly]) (by simp [OOnly])]
    refine (quant_qc _ _ _ _ _ _).trans ?_
    rw [hq]
  · intro i h
    show σ' .qso _ = _
    rw [kp _ (by simp [AOnly]) (by simp [OOnly])]
    refine (quant_qso _ _ _ _ _).trans ?_
    rw [hq]
  · intro i h d
    show σ' .kco _ = _
    rw [kp _ (by simp [AOnly]) (by simp [OOnly])]
    refine (quant_kco _ _ _ _ _ _).trans ?_
    rw [hk]
  · intro i h
    show σ' .kso _ = _
    rw [kp _ (by simp [AOnly]) (by simp [OOnly])]
    refine (quant_kso _ _ _ _ _).trans ?_
    rw [hk]
  · intro i h d
    show σ' .vco _ = _
    rw [kp _ (by simp [AOnly]) (by simp [OOnly])]
    refine (quant_vco _ _ _ _ _ _).trans ?_
    rw [hv]
  · intro i h
    show σ' .vso _ = _
    rw [kp _ (by simp [AOnly]) (by simp [OOnly])]
    refine (quant_vso _ _ _ _ _).trans ?_
    rw [hv]

/-- The scales of the output written before a point are kept. -/
theorem found6 {S : Dev nD → Spec Ideal} {c : Dev nD} (hS : ∀ t Y X, (S c).rel 6 t Y X → rel m c 6 t Y X) : ∀ (n : ℕ) (hn : n < cfg0.N) (X),
    (rdat m S c).Finds 6 ⟨n, hn⟩ X → ∀ (b : Fin 2) (s : Fin 1024), b.val * 8 + s.val / 128 < n → X (ix2 b s : S2x1024.Idx) = scaleE (yE (oRow m c b s))
  | 0, _, _, _, _, _, h => absurd h (Nat.not_lt_zero _)
  | n + 1, hn, X, h, b, s, hb => by
    have hN : n + 1 < 16 := hn.trans_eq N_0
    have hf : (cfg0.win 6).fetch ⟨n + 1, hn⟩ = false := rfl
    rcases (RDat.finds_of_pos _ hf (Nat.succ_ne_zero n) X).1 h with h' | ⟨Y, hY, hr⟩
    · rw [flush0_6] at h'
      have : n % 16 = 15 := h'
      omega
    · have e := hS _ _ _ hr b s
      rw [e]
      have iff : (b = bat ⟨n, Nat.lt_of_succ_lt hn⟩ ∧ s.val / 128 = n % 8) ↔ b.val * 8 + s.val / 128 = n := by
        constructor
        · rintro ⟨h1, h2⟩
          have : b.val = n / 8 := congrArg Fin.val h1
          omega
        · intro h1
          exact ⟨Fin.ext (by show b.val = n / 8; omega), by omega⟩
      split_ifs with hc
      · rfl
      · refine found6 hS n (Nat.lt_of_succ_lt hn) Y hY b s ?_
        have := mt iff.2 hc
        omega

end Cert.Attn.KernelIdeal
-- ==== Proof.Final.lean ====
module

public import proofs.«01_k».proof.Proof.Grid

/-!
# The results' arrays at the end of the run
-/

@[expose] public section

set_option maxRecDepth 16384

noncomputable section

namespace Cert.Attn.KernelIdeal

open Idealize.ShloMosaic Idealize.ShloMosaic.TcCoe Idealize.ShloMosaic.Tactic
open Idealize.SL Idealize.SL.Sem
open Idealize.ShloMosaic.Pipeline (RDat Cfg Window)
open Cert.KernelIdeal Cert.KernelIdeal.Gen

/-- The array of the codes of rows. -/
def codesA {n : ℕ} (R : Fin 2 → Fin 1024 → Fin n → Fin 128 → EReal) (j : (⟨3, ![2, 1024, n * 128]⟩ : Shape).Idx) : EReal :=
  codeE (R (j 0) (j 1) ⟨(j 2).val / 128, Nat.div_lt_of_lt_mul (by have : (j 2).val < n * 128 := (j 2).2; omega)⟩)
    ⟨(j 2).val % 128, Nat.mod_lt _ (by decide)⟩

/-- The array of the scales of rows. -/
def scalesA {n : ℕ} (R : Fin 2 → Fin 1024 → Fin n → Fin 128 → EReal) (j : (⟨3, ![2, 1024, n]⟩ : Shape).Idx) : EReal :=
  scaleE (yE (R (j 0) (j 1) (j 2)))

variable {m : (ℓ : Loc nD τ sig) → Buf (Elt Ideal) ℓ} {S : Dev nD → Spec Ideal} {c : Dev nD}
  {after : (w : Fin cfg0.W) → Fin cfg0.N → (cfg0.win w).block.Idx → Elt Ideal (cfg0.win w).elt}

theorem ex3 {n : ℕ} (y : (⟨3, ![1, 128, n]⟩ : Shape).Idx) : ∃ (i : Fin 128) (d : Fin n), y = ix3 0 i d := by
  refine ⟨y 1, y 2, (eq_ix3 y).trans (Cmd.ix3_congr ?_ rfl rfl)⟩
  have : (y 0).val < 1 := (y 0).2
  exact Nat.lt_one_iff.1 this

theorem codesA_blk {n : ℕ} (R : Fin 2 → Fin 1024 → Fin n → Fin 128 → EReal) (t : Fin cfg0.N) (X : (⟨3, ![1, 128, n * 128]⟩ : Shape).Idx → EReal)
    (hX : ∀ (i : Fin 128) (h : Fin n) (d : Fin 128), X (ix3 0 i ⟨h * 128 + d, by omega⟩) = codeE (R (bat t) (tok t i) h) d)
    (y : (⟨3, ![1, 128, n * 128]⟩ : Shape).Idx) (j : (⟨3, ![2, 1024, n * 128]⟩ : Shape).Idx)
    (h0 : (j 0).val = t.val / 8) (h1 : (j 1).val = t.val % 8 * 128 + (y 1).val) (h2 : (j 2).val = (y 2).val) : X y = codesA R j := by
  obtain ⟨i, d, rfl⟩ := ex3 y
  have hj : j = ix3 (bat t) (tok t i) d := (eq_ix3 j).trans (Cmd.ix3_congr h0 h1 h2)
  subst hj
  refine Eq.trans ?_ (hX i ⟨d.val / 128, Nat.div_lt_of_lt_mul (by omega)⟩ ⟨d.val % 128, Nat.mod_lt _ (by decide)⟩)
  exact congrArg X (Cmd.ix3_congr rfl rfl (by show d.val = d.val / 128 * 128 + d.val % 128; omega))

theorem scalesA_blk {n : ℕ} (R : Fin 2 → Fin 1024 → Fin n → Fin 128 → EReal) (t : Fin cfg0.N) (X : (⟨3, ![1, 128, n]⟩ : Shape).Idx → EReal)
    (hX : ∀ (i : Fin 128) (h : Fin n), X (ix3 0 i h) = scaleE (yE (R (bat t) (tok t i) h)))
    (y : (⟨3, ![1, 128, n]⟩ : Shape).Idx) (j : (⟨3, ![2, 1024, n]⟩ : Shape).Idx)
    (h0 : (j 0).val = t.val / 8) (h1 : (j 1).val = t.val % 8 * 128 + (y 1).val) (h2 : (j 2).val = (y 2).val) : X y = scalesA R j := by
  obtain ⟨i, d, rfl⟩ := ex3 y
  have hj : j = ix3 (bat t) (tok t i) d := (eq_ix3 j).trans (Cmd.ix3_congr h0 h1 h2)
  subst hj
  exact hX i d

theorem arr7 (hL : ∀ u, (rdat m S c).Leaves 7 u (after 7 u)) (hS : ∀ t Y X, (S c).rel 7 t Y X → rel m c 7 t Y X) :
    ((rdat m S c).withAfter after).arrAt 7 cfg0.N = (codesA (n := 24) (qRow m c) : S2x1024x3072.Idx → EReal) := by
  refine ((rdat m S c).withAfter after).arrAt_eq_of_covers 7 _ (by decide +kernel) fun t hf y => ?_
  obtain ⟨Y, -, hr⟩ := hL t
  obtain ⟨-, -, -, -, -, h7, h8, h9, h10, h11, h12, -⟩ := idx t
  blk_simp
  refine codesA_blk (n := 24) (qRow m c) t (after 7 t) (hS _ _ _ hr) y _ ?_ ?_ ?_ <;> blk_simp [h7]

theorem arr8 (hL : ∀ u, (rdat m S c).Leaves 8 u (after 8 u)) (hS : ∀ t Y X, (S c).rel 8 t Y X → rel m c 8 t Y X) :
    ((rdat m S c).withAfter after).arrAt 8 cfg0.N = (scalesA (n := 24) (qRow m c) : S2x1024x24.Idx → EReal) := by
  refine ((rdat m S c).withAfter after).arrAt_eq_of_covers 8 _ (by decide +kernel) fun t hf y => ?_
  obtain ⟨Y, -, hr⟩ := hL t
  obtain ⟨-, -, -, -, -, h7, h8, h9, h10, h11, h12, -⟩ := idx t
  blk_simp
  refine scalesA_blk (n := 24) (qRow m c) t (after 8 t) (hS _ _ _ hr) y _ ?_ ?_ ?_ <;> blk_simp [h8]

theorem arr9 (hL : ∀ u, (rdat m S c).Leaves 9 u (after 9 u)) (hS : ∀ t Y X, (S c).rel 9 t Y X → rel m c 9 t Y X) :
    ((rdat m S c).withAfter after).arrAt 9 cfg0.N = (codesA (n := 4) (kRow m c) : S2x1024x512.Idx → EReal) := by
  refine ((rdat m S c).withAfter after).arrAt_eq_of_covers 9 _ (by decide +kernel) fun t hf y => ?_
  obtain ⟨Y, -, hr⟩ := hL t
  obtain ⟨-, -, -, -, -, h7, h8, h9, h10, h11, h12, -⟩ := idx t
  blk_simp
  refine codesA_blk (n := 4) (kRow m c) t (after 9 t) (hS _ _ _ hr) y _ ?_ ?_ ?_ <;> blk_simp [h9]

theorem arr10 (hL : ∀ u, (rdat m S c).Leaves 10 u (after 10 u)) (hS : ∀ t Y X, (S c).rel 10 t Y X → rel m c 10 t Y X) :
    ((rdat m S c).withAfter after).arrAt 10 cfg0.N = (scalesA (n := 4) (kRow m c) : S2x1024x4.Idx → EReal) := by
  refine ((rdat m S c).withAfter after).arrAt_eq_of_covers 10 _ (by decide +kernel) fun t hf y => ?_
  obtain ⟨Y, -, hr⟩ := hL t
  obtain ⟨-, -, -, -, -, h7, h8, h9, h10, h11, h12, -⟩ := idx t
  blk_simp
  refine scalesA_blk (n := 4) (kRow m c) t (after 10 t) (hS _ _ _ hr) y _ ?_ ?_ ?_ <;> blk_simp [h10]

theorem arr11 (hL : ∀ u, (rdat m S c).Leaves 11 u (after 11 u)) (hS : ∀ t Y X, (S c).rel 11 t Y X → rel m c 11 t Y X) :
    ((rdat m S c).withAfter after).arrAt 11 cfg0.N = (codesA (n := 4) (vRow m c) : S2x1024x512.Idx → EReal) := by
  refine ((rdat m S c).withAfter after).arrAt_eq_of_covers 11 _ (by decide +kernel) fun t hf y => ?_
  obtain ⟨Y, -, hr⟩ := hL t
  obtain ⟨-, -, -, -, -, h7, h8, h9, h10, h11, h12, -⟩ := idx t
  blk_simp
  refine codesA_blk (n := 4) (vRow m c) t (after 11 t) (hS _ _ _ hr) y _ ?_ ?_ ?_ <;> blk_simp [h11]

theorem arr12 (hL : ∀ u, (rdat m S c).Leaves 12 u (after 12 u)) (hS : ∀ t Y X, (S c).rel 12 t Y X → rel m c 12 t Y X) :
    ((rdat m S c).withAfter after).arrAt 12 cfg0.N = (scalesA (n := 4) (vRow m c) : S2x1024x4.Idx → EReal) := by
  refine ((rdat m S c).withAfter after).arrAt_eq_of_covers 12 _ (by decide +kernel) fun t hf y => ?_
  obtain ⟨Y, -, hr⟩ := hL t
  obtain ⟨-, -, -, -, -, h7, h8, h9, h10, h11, h12, -⟩ := idx t
  blk_simp
  refine scalesA_blk (n := 4) (vRow m c) t (after 12 t) (hS _ _ _ hr) y _ ?_ ?_ ?_ <;> blk_simp [h12]

/-- The array of the codes of the output. -/
def outA (R : Fin 2 → Fin 1024 → Fin 3072 → EReal) (j : S2x1024x3072.Idx) : EReal := codeE (R (j 0) (j 1)) (j 2)

/-- The array of the scales of the output. -/
def outS (R : Fin 2 → Fin 1024 → Fin 3072 → EReal) (j : S2x1024.Idx) : EReal := scaleE (yE (R (j 0) (j 1)))

theorem outA_blk (R : Fin 2 → Fin 1024 → Fin 3072 → EReal) (t : Fin cfg0.N) (X : S1x128x3072.Idx → EReal)
    (hX : ∀ (i : Fin 128) (h : Fin 24) (d : Fin 128), X (ix3 0 i ⟨h * 128 + d, by omega⟩) = codeE (R (bat t) (tok t i)) ⟨h * 128 + d, by omega⟩)
    (y : S1x128x3072.Idx) (j : S2x1024x3072.Idx)
    (h0 : (j 0).val = t.val / 8) (h1 : (j 1).val = t.val % 8 * 128 + (y 1).val) (h2 : (j 2).val = (y 2).val) : X y = outA R j := by
  obtain ⟨i, d, rfl⟩ := ex3 (n := 3072) y
  have hj : j = ix3 (bat t) (tok t i) d := (eq_ix3 j).trans (Cmd.ix3_congr h0 h1 h2)
  subst hj
  have hd : d = ⟨d.val / 128 * 128 + d.val % 128, by omega⟩ := Fin.ext (by show d.val = d.val / 128 * 128 + d.val % 128; omega)
  show _ = codeE (R (bat t) (tok t i)) d
  have h := hX i ⟨d.val / 128, by omega⟩ ⟨d.val % 128, by omega⟩
  exact (congrArg X (Cmd.ix3_congr rfl rfl (congrArg Fin.val hd))).trans (h.trans (congrArg _ hd.symm))

theorem arr5 (hL : ∀ u, (rdat m S c).Leaves 5 u (after 5 u)) (hS : ∀ t Y X, (S c).rel 5 t Y X → rel m c 5 t Y X) :
    ((rdat m S c).withAfter after).arrAt 5 cfg0.N = (outA (oRow m c) : S2x1024x3072.Idx → EReal) := by
  refine ((rdat m S c).withAfter after).arrAt_eq_of_covers 5 _ (by decide +kernel) fun t hf y => ?_
  obtain ⟨Y, -, hr⟩ := hL t
  obtain ⟨-, -, -, -, -, -, -, -, -, -, -, h5, -⟩ := idx t
  blk_simp
  refine outA_blk (oRow m c) t (after 5 t) (hS _ _ _ hr) y _ ?_ ?_ ?_ <;> blk_simp [h5]

/-- The last point. -/
def lastT : Fin cfg0.N := ⟨15, (show 15 < 16 by decide).trans_eq N_0.symm⟩

theorem arr6 (hL : (rdat m S c).Leaves 6 lastT (after 6 lastT)) (hS : ∀ t Y X, (S c).rel 6 t Y X → rel m c 6 t Y X) :
    ((rdat m S c).withAfter after).arrAt 6 cfg0.N = (outS (oRow m c) : S2x1024.Idx → EReal) := by
  refine ((rdat m S c).withAfter after).arrAt_eq_of_covers 6 _ (by decide +kernel) fun t hf y => ?_
  obtain ⟨Y, hY, hr⟩ := hL
  have ht : t = lastT := Fin.ext (by
    have h1 := (flush0_6 t).1 hf
    have h2 := t.2.trans_eq N_0
    show t.val = 15
    omega)
  subst ht
  have key : ∀ (b : Fin 2) (s : Fin 1024), after 6 lastT (ix2 b s : S2x1024.Idx) = scaleE (yE (oRow m c b s)) := fun b s => by
    have e := hS _ _ _ hr b s
    rw [e]
    split_ifs with hc
    · rfl
    · refine found6 hS 15 lastT.2 Y hY b s ?_
      by_contra hn
      refine hc ⟨Fin.ext ?_, ?_⟩
      · show b.val = 15 / 8; omega
      · show s.val / 128 = 15 % 8; omega
  obtain ⟨-, -, -, -, -, -, -, -, -, -, -, -, h6⟩ := idx lastT
  generalize oRow m c = R at key
  have blk : ∀ (y : S2x1024.Idx) (j : S2x1024.Idx), (j 0).val = (y 0).val → (j 1).val = (y 1).val → after 6 lastT y = outS R j := fun y j h0 h1 => by
    have hy : y = j := funext fun a => by
      fin_cases a
      · exact Fin.ext h0.symm
      · exact Fin.ext h1.symm
    subst hy
    exact (congrArg (after 6 lastT) (eq_ix2 y)).trans (key _ _)
  blk_simp
  refine blk y _ ?_ ?_ <;> blk_simp [h6]

end Cert.Attn.KernelIdeal
-- ==== Proof.RefAttn.lean ====
module

public import proofs.«01_k».proof.Proof.RefQuant

/-!
# The reference's attention, element by element
-/

@[expose] public section

set_option maxRecDepth 16384

noncomputable section

namespace Cert.Attn

open Idealize.ShloMosaic Cert.ReferenceIdeal Cert.ReferenceIdeal.Gen Cert.ReferenceIdeal.Value

/-- The query head of a key and value head and a place among its query heads. -/
def hOf (g : Fin 4) (r : Fin 6) : Fin 24 := ⟨g * 6 + r, by omega⟩

theorem prodR_apply (Q : FVec Ideal S2x1024x24x128 .f32) (K : FVec Ideal S2x1024x4x128 .f32) (b : Fin 2) (g : Fin 4) (s : Fin 1024) (r : Fin 6)
    (k : Fin 1024) :
    (Host.dotGeneral dot_S2x4x1024x6x128_S2x4x1024x128_S2x4x1024x6x1024_4_3_23_2_01_01 none
      (transpose S2x4x1024x6x128 [0, 2, 1, 3, 4] (shapeCast S2x1024x4x6x128 Q shapeCasts_S2x1024x24x128_S2x1024x4x6x128)
        transposes_S2x1024x4x6x128_S2x4x1024x6x128_0_2_1_3_4)
      (transpose S2x4x1024x128 [0, 2, 1, 3] K transposes_S2x1024x4x128_S2x4x1024x128_0_2_1_3) : FVec Ideal S2x4x1024x6x1024 .f32) (ix5 b g s r k)
      = ∑ d : Fin 128, (Q (ix4 b s (hOf g r) d) : EReal) * K (ix4 b k g d) := by
  unfold hOf
  pointwise

theorem qsR_apply (S : FVec Ideal S2x1024x24 .f32) (b : Fin 2) (g : Fin 4) (s : Fin 1024) (r : Fin 6) (k : Fin 1024) :
    broadcastInDim S2x4x1024x6x1024 ![0, 1, 2, 3, 4] bcast_S2x4x1024x6x1_S2x4x1024x6x1024_0_1_2_3_4
      (broadcastInDim S2x4x1024x6x1 ![0, 1, 2, 3] bcast_S2x4x1024x6_S2x4x1024x6x1_0_1_2_3
        (transpose S2x4x1024x6 [0, 2, 1, 3] (shapeCast S2x1024x4x6 S shapeCasts_S2x1024x24_S2x1024x4x6)
          transposes_S2x1024x4x6_S2x4x1024x6_0_2_1_3)) (ix5 b g s r k) = S (ix3 b s (hOf g r)) := by
  unfold hOf
  pointwise

theorem ksR_apply (S : FVec Ideal S2x1024x4 .f32) (b : Fin 2) (g : Fin 4) (s : Fin 1024) (r : Fin 6) (k : Fin 1024) :
    broadcastInDim S2x4x1024x6x1024 ![0, 1, 2, 3, 4] bcast_S2x4x1x1x1024_S2x4x1024x6x1024_0_1_2_3_4
      (broadcastInDim S2x4x1x1x1024 ![0, 1, 4] bcast_S2x4x1024_S2x4x1x1x1024_0_1_4
        (transpose S2x4x1024 [0, 2, 1] S transposes_S2x1024x4_S2x4x1024_0_2_1)) (ix5 b g s r k) = S (ix3 b k g) := by
  pointwise

theorem maskR_apply (A B : FVec Ideal S2x4x1024x6x1024 .f32) (b : Fin 2) (g : Fin 4) (s : Fin 1024) (r : Fin 6) (k : Fin 1024) :
    select (broadcastInDim S2x4x1024x6x1024 ![0, 1, 2, 3, 4] bcast_S1x1x1024x1x1024_S2x4x1024x6x1024_0_1_2_3_4
        (broadcastInDim S1x1x1024x1x1024 ![2, 4] bcast_S1024x1024_S1x1x1024x1x1024_2_4
          (cmpi .sle (broadcastInDim S1024x1024 ![0, 1] bcast_S1x1024_S1024x1024_0_1 (broadcastInDim S1x1024 ![1] bcast_S1024_S1x1024_1 (iotaInDim S1024 32 0)))
            (broadcastInDim S1024x1024 ![0, 1] bcast_S1024x1_S1024x1024_0_1 (broadcastInDim S1024x1 ![0] bcast_S1024_S1024x1_0 (iotaInDim S1024 32 0))))))
      A B (ix5 b g s r k) = if k.val ≤ s.val then A (ix5 b g s r k) else B (ix5 b g s r k) := by
  have h : (if k.val ≤ s.val then A (ix5 b g s r k) else B (ix5 b g s r k))
      = Scalar.select (IntOp.cmpi .sle (BitVec.ofNat 32 k.val) (BitVec.ofNat 32 s.val)) (A (ix5 b g s r k)) (B (ix5 b g s r k)) := by
    have small : ∀ x : Fin 1024, (BitVec.ofNat 32 x.val).toInt = (x.val : ℤ) := fun x => by
      rw [BitVec.toInt_eq_toNat_of_lt (by rw [BitVec.toNat_ofNat]; omega), BitVec.toNat_ofNat]; omega
    unfold IntOp.cmpi Scalar.select
    simp only [BitVec.sle, small]
    by_cases h : k.val ≤ s.val <;> simp [h]
  rw [h]
  generalize hA : A (ix5 b g s r k) = a
  generalize hB : B (ix5 b g s r k) = c
  pointwise
  try rw [hA, hB]

theorem max5_apply (A : FVec Ideal S2x4x1024x6x1024 .f32) (init : FVec Ideal S_ .f32) (b : Fin 2) (g : Fin 4) (s : Fin 1024) (r : Fin 6) :
    Host.reduce (FloatOps.maximumf (F := Ideal) (φ := .f32)) A init reducesTo_S2x4x1024x6x1024_S2x4x1024x6_d4 h_S_ (ix4 b g s r)
      = Finset.univ.fold (FloatOps.maximumf (F := Ideal) (φ := .f32)) (init (Shape.Idx.first h_S_)) fun k : Fin 1024 => A (ix5 b g s r k) := by
  rw [Host.reduce_eq_fold, Shape.ReducesTo.fold_fiber_r5_a4]
  congr 1

theorem sum5_apply (A : FVec Ideal S2x4x1024x6x1024 .f32) (b : Fin 2) (g : Fin 4) (s : Fin 1024) (r : Fin 6) :
    Host.reduceAdd A (constant S_ .f32 0x00000000#32) reducesTo_S2x4x1024x6x1024_S2x4x1024x6_d4 h_S_ (ix4 b g s r)
      = ∑ k : Fin 1024, (A (ix5 b g s r k) : EReal) := by
  pointwise

theorem row5_apply (M : FVec Ideal S2x4x1024x6 .f32) (b : Fin 2) (g : Fin 4) (s : Fin 1024) (r : Fin 6) (k : Fin 1024) :
    broadcastInDim S2x4x1024x6x1024 ![0, 1, 2, 3, 4] bcast_S2x4x1024x6x1_S2x4x1024x6x1024_0_1_2_3_4
      (broadcastInDim S2x4x1024x6x1 ![0, 1, 2, 3] bcast_S2x4x1024x6_S2x4x1024x6x1_0_1_2_3 M) (ix5 b g s r k) = M (ix4 b g s r) := by
  pointwise

theorem outR_apply (W : FVec Ideal S2x4x1024x6x1024 .f32) (V : FVec Ideal S2x1024x4x128 .f32) (b : Fin 2) (s : Fin 1024) (g : Fin 4) (r : Fin 6)
    (d : Fin 128) :
    shapeCast S2x1024x3072 (transpose S2x1024x4x6x128 [0, 2, 1, 3, 4]
      (Host.dotGeneral dot_S2x4x1024x6x1024_S2x4x1024x128_S2x4x1024x6x128_4_2_23_3_01_01 none (truncf .bf16 W bitsLt_bf16_f32)
        (transpose S2x4x1024x128 [0, 2, 1, 3] (truncf .bf16 V bitsLt_bf16_f32) transposes_S2x1024x4x128_S2x4x1024x128_0_2_1_3) : FVec Ideal S2x4x1024x6x128 .f32)
      transposes_S2x4x1024x6x128_S2x1024x4x6x128_0_2_1_3_4) shapeCasts_S2x1024x4x6x128_S2x1024x3072 (ix3 b s ⟨(hOf g r).val * 128 + d, by omega⟩)
      = ∑ k : Fin 1024, (W (ix5 b g s r k) : EReal) * V (ix4 b k g d) := by
  unfold hOf
  pointwise

theorem max2_apply (A : FVec Ideal S2x1024x3072 .f32) (init : FVec Ideal S_ .f32) (b : Fin 2) (s : Fin 1024) :
    Host.reduce (FloatOps.maximumf (F := Ideal) (φ := .f32)) A init reducesTo_S2x1024x3072_S2x1024_d2 h_S_ (ix2 b s)
      = Finset.univ.fold (FloatOps.maximumf (F := Ideal) (φ := .f32)) (init (Shape.Idx.first h_S_)) fun d : Fin 3072 => A (ix3 b s d) := by
  rw [Host.reduce_eq_fold, Shape.ReducesTo.fold_fiber_r3_a2]
  congr 1

theorem y1_apply (A : FVec Ideal S2x1024x3072 .f32) (b : Fin 2) (s : Fin 1024) :
    mulf (Host.reduce FloatOps.maximumf (Host.absf A) (constant S_ .f32 0xFF800000#32) reducesTo_S2x1024x3072_S2x1024_d2 h_S_)
      (broadcastInDim S2x1024 ![] bcast_S_S2x1024 (constant S_ .f32 0x3B124925#32)) (ix2 b s)
      = yE fun d => A (ix3 b s d) := by
  have e := max2_apply (Host.absf A) (constant S_ .f32 0xFF800000#32) b s
  rw [mulf_apply, e, constant_apply, Ideal.ofBits_def, ofBits_bot]
  unfold yE amaxE
  rfl

theorem e1_apply (y : FVec Ideal S2x1024 .f32) (b : Fin 2) (s : Fin 1024) :
    select (cmpf .olt y (broadcastInDim S2x1024 ![] bcast_S_S2x1024 (constant S_ .f32 0x00800000#32)))
      (broadcastInDim S2x1024 ![] bcast_S_S2x1024 (id (constant S_ .f32 0x00000000#32)))
      (addf (Host.floor (Host.divf (Host.log y)
          (broadcastInDim S2x1024 ![] bcast_S_S2x1024 (id (Host.log (constant S_ .f32 0x40000000#32))))))
        (broadcastInDim S2x1024 ![] bcast_S_S2x1024 (constant S_ .f32 0x3F800000#32))) (ix2 b s)
      = expR (y (ix2 b s)) := by
  unfold expR
  simp only [id]
  pointwise

theorem c1_apply (A : FVec Ideal S2x1024x3072 .f32) (e : FVec Ideal S2x1024 .f32) (b : Fin 2) (s : Fin 1024) (d : Fin 3072) :
    minimumf (broadcastInDim S2x1024x3072 ![] bcast_S_S2x1024x3072 (id (constant S_ .f32 0x43E00000#32)))
      (maximumf (broadcastInDim S2x1024x3072 ![] bcast_S_S2x1024x3072 (id (constant S_ .f32 0xC3E00000#32)))
        (mulf A (broadcastInDim S2x1024x3072 ![0, 1, 2] bcast_S2x1024x1_S2x1024x3072_0_1_2
          (broadcastInDim S2x1024x1 ![0, 1] bcast_S2x1024_S2x1024x1_0_1
            (Host.powf (broadcastInDim S2x1024 ![] bcast_S_S2x1024 (constant S_ .f32 0x40000000#32)) (Host.negf e))))))
      (ix3 b s d)
      = clipE (A (ix3 b s d) * Ideal.pow (Ideal.ofBits .f32 0x40000000#32) (-(e (ix2 b s)))) := by
  unfold clipE
  simp only [id]
  pointwise

theorem s1_apply (e : FVec Ideal S2x1024 .f32) (b : Fin 2) (s : Fin 1024) :
    Host.powf (broadcastInDim S2x1024 ![] bcast_S_S2x1024 (constant S_ .f32 0x40000000#32)) e (ix2 b s)
      = Ideal.pow (Ideal.ofBits .f32 0x40000000#32) (e (ix2 b s)) := by
  pointwise

end Cert.Attn
-- ==== Proof.RefOut.lean ====
module

public import proofs.«01_k».proof.Proof.RefAttn
public import proofs.«01_k».proof.Proof.AttnRow

/-!
# The reference's attention and its quantised output
-/

@[expose] public section

set_option maxRecDepth 16384

noncomputable section

namespace Cert.Attn

open Idealize.ShloMosaic Cert.ReferenceIdeal Cert.ReferenceIdeal.Gen Cert.ReferenceIdeal.Value

theorem divS_apply (A : FVec Ideal S2x4x1024x6x1024 .f32) (b : Fin 2) (g : Fin 4) (s : Fin 1024) (r : Fin 6) (k : Fin 1024) :
    Host.divf A (broadcastInDim S2x4x1024x6x1024 ![] bcast_S_S2x4x1024x6x1024 (id (Host.sqrt (constant S_ .f32 0x43000000#32)))) (ix5 b g s r k)
      = Ideal.div (A (ix5 b g s r k)) (Ideal.sqrt (Ideal.ofBits .f32 0x43000000#32)) := by
  simp only [id]
  pointwise

theorem botS_apply (b : Fin 2) (g : Fin 4) (s : Fin 1024) (r : Fin 6) (k : Fin 1024) :
    (broadcastInDim S2x4x1024x6x1024 ![] bcast_S_S2x4x1024x6x1024 (id (constant S_ .f32 0xFF800000#32)) : FVec Ideal S2x4x1024x6x1024 .f32) (ix5 b g s r k)
      = (⊥ : EReal) := by
  rw [← ofBits_bot]
  simp only [id]
  pointwise

theorem top5_apply (A : FVec Ideal S2x4x1024x6x1024 .f32) (b : Fin 2) (g : Fin 4) (s : Fin 1024) (r : Fin 6) :
    maximumf (broadcastInDim S2x4x1024x6 ![] bcast_S_S2x4x1024x6 (constant S_ .f32 0xFF800000#32))
      (Host.reduce FloatOps.maximumf A (constant S_ .f32 0xFF800000#32) reducesTo_S2x4x1024x6x1024_S2x4x1024x6_d4 h_S_) (ix4 b g s r)
      = max ⊥ (Finset.univ.fold max ⊥ fun k : Fin 1024 => (A (ix5 b g s r k) : EReal)) := by
  have e := max5_apply A (constant S_ .f32 0xFF800000#32) b g s r
  rw [constant_apply, Ideal.ofBits_def, ofBits_bot] at e
  rw [maximumf_apply, e, ← ofBits_bot]
  rfl

theorem exp5_apply (A M : FVec Ideal S2x4x1024x6x1024 .f32) (j : S2x4x1024x6x1024.Idx) :
    Host.exp (subf A M) j = Ideal.exp ((A j : EReal) - M j) := rfl

theorem w5_apply (W L S : FVec Ideal S2x4x1024x6x1024 .f32) (j : S2x4x1024x6x1024.Idx) :
    mulf (Host.divf W L) S j = Ideal.div (W j) (L j) * (S j : EReal) := rfl

theorem oc_apply (A : FVec Ideal S2x1024x3072 .f32) (e : FVec Ideal S2x1024 .f32) (b : Fin 2) (s : Fin 1024) (u : Fin 3072 → EReal)
    (hA : ∀ d, A (ix3 b s d) = u d) (he : e (ix2 b s) = expR (yE u)) (d : Fin 3072) :
    (Host.convertf (φ := .f32) .fp8e4m3 (minimumf (broadcastInDim S2x1024x3072 ![] bcast_S_S2x1024x3072 (id (constant S_ .f32 0x43E00000#32)))
      (maximumf (broadcastInDim S2x1024x3072 ![] bcast_S_S2x1024x3072 (id (constant S_ .f32 0xC3E00000#32)))
        (mulf A (broadcastInDim S2x1024x3072 ![0, 1, 2] bcast_S2x1024x1_S2x1024x3072_0_1_2
          (broadcastInDim S2x1024x1 ![0, 1] bcast_S2x1024_S2x1024x1_0_1
            (Host.powf (broadcastInDim S2x1024 ![] bcast_S_S2x1024 (constant S_ .f32 0x40000000#32)) (Host.negf e)))))))
        : FVec Ideal S2x1024x3072 .fp8e4m3) (ix3 b s d) = codeR u d := by
  refine Eq.trans (b := clipE (A (ix3 b s d) * Ideal.pow (Ideal.ofBits .f32 0x40000000#32) (-(e (ix2 b s))))) (c1_apply A e b s d) ?_
  rw [hA, he]
  rfl

theorem os_apply (e : FVec Ideal S2x1024 .f32) (b : Fin 2) (s : Fin 1024) (u : Fin 3072 → EReal) (he : e (ix2 b s) = expR (yE u)) :
    (Host.powf (broadcastInDim S2x1024 ![] bcast_S_S2x1024 (constant S_ .f32 0x40000000#32)) e : FVec Ideal S2x1024 .f32) (ix2 b s) = scaleR u := by
  refine (s1_apply e b s).trans ?_
  rw [he]
  rfl

section Out

variable (V0 : Valuation τ sig (Elt Ideal)) (qR : Fin 2 → Fin 1024 → Fin 24 → Fin 128 → EReal) (kR vR : Fin 2 → Fin 1024 → Fin 4 → Fin 128 → EReal)
  (hQ : ∀ b s h d, res_main_v74 V0 (ix4 b s h d) = codeE (qR b s h) d)
  (hK : ∀ b s g d, res_main_v98 V0 (ix4 b s g d) = codeE (kR b s g) d)
  (hV : ∀ b s g d, res_main_v124 V0 (ix4 b s g d) = codeE (vR b s g) d)
  (hq : ∀ b s h, Ideal.pow (Ideal.ofBits .f32 0x40000000#32) (res_main_v65 V0 (ix3 b s h)) = scaleE (yE (qR b s h)))
  (hk : ∀ b s g, Ideal.pow (Ideal.ofBits .f32 0x40000000#32) (res_main_v89 V0 (ix3 b s g)) = scaleE (yE (kR b s g)))
  (hv : ∀ b s g, Ideal.pow (Ideal.ofBits .f32 0x40000000#32) (res_main_v115 V0 (ix3 b s g)) = scaleE (yE (vR b s g)))

include hQ hK hq hk in
theorem v154_apply (b : Fin 2) (g : Fin 4) (s : Fin 1024) (r : Fin 6) (k : Fin 1024) :
    res_main_v154 V0 (ix5 b g s r k) = refT (qR b s (hOf g r)) (fun k => kR b k g) s k := by
  unfold res_main_v154
  refine (maskR_apply _ _ b g s r k).trans ?_
  unfold refT
  refine if_congr Iff.rfl ?_ (botS_apply b g s r k)
  refine (divS_apply _ b g s r k).trans (congrArg (fun x => Ideal.div x _) ?_)
  refine (mulf_apply _ _ _).trans (congrArg₂ (fun x y : EReal => x * y) ?_ ?_)
  · refine (mulf_apply _ _ _).trans (congrArg₂ (fun x y : EReal => x * y) ?_ ?_)
    · refine (prodR_apply _ _ b g s r k).trans (Finset.sum_congr rfl fun d _ => ?_)
      rw [hQ, hK]
    · exact (qsR_apply _ b g s r k).trans ((s24_apply _ _ _ _).trans (hq _ _ _))
  · exact (ksR_apply _ b g s r k).trans ((s4_apply _ _ _ _).trans (hk _ _ _))

include hQ hK hq hk in
theorem v161_apply (b : Fin 2) (g : Fin 4) (s : Fin 1024) (r : Fin 6) (k : Fin 1024) :
    res_main_v161 V0 (ix5 b g s r k) = refW (refT (qR b s (hOf g r)) (fun k => kR b k g) s) k := by
  unfold res_main_v161 refW
  refine (exp5_apply _ _ _).trans ?_
  refine congrArg Ideal.exp (congrArg₂ (fun x y : EReal => x - y) (v154_apply V0 qR kR hQ hK hq hk b g s r k) ?_)
  refine (row5_apply _ b g s r k).trans ((top5_apply _ b g s r).trans (congrArg (fun x : EReal => max ⊥ x) ?_))
  exact Finset.fold_congr fun k _ => v154_apply V0 qR kR hQ hK hq hk b g s r k

include hQ hK hV hq hk hv in
theorem v171_head (b : Fin 2) (g : Fin 4) (s : Fin 1024) (r : Fin 6) (d : Fin 128) :
    res_main_v171 V0 (ix3 b s ⟨(hOf g r).val * 128 + d, by omega⟩) = refOut (qR b s (hOf g r)) (fun k => kR b k g) (fun k => vR b k g) s d := by
  unfold res_main_v171 refOut refO
  refine (outR_apply _ _ b s g r d).trans (Finset.sum_congr rfl fun k _ => congrArg₂ (fun x y : EReal => x * y) ?_ (hV _ _ _ _))
  refine (w5_apply _ _ _ _).trans (congrArg₂ (fun x y : EReal => x * y) (congrArg₂ Ideal.div (v161_apply V0 qR kR hQ hK hq hk b g s r k) ?_) ?_)
  · refine (row5_apply _ b g s r k).trans ((sum5_apply _ b g s r).trans (Finset.sum_congr rfl fun k _ => ?_))
    exact v161_apply V0 qR kR hQ hK hq hk b g s r k
  · exact (ksR_apply _ b g s r k).trans ((s4_apply _ _ _ _).trans (hv _ _ _))

include hQ hK hV hq hk hv in
theorem v171_apply (b : Fin 2) (s : Fin 1024) (e : Fin 3072) :
    res_main_v171 V0 (ix3 b s e) = outRow (qR b s) (kR b) (vR b) s e := by
  have hg : grp ⟨e.val / 128, by omega⟩ = (⟨e.val / 768, by omega⟩ : Fin 4) := Fin.ext (by unfold grp; show e.val / 128 / 6 = e.val / 768; omega)
  have hh : hOf ⟨e.val / 768, by omega⟩ ⟨e.val / 128 % 6, by omega⟩ = (⟨e.val / 128, by omega⟩ : Fin 24) :=
    Fin.ext (by unfold hOf; show e.val / 768 * 6 + e.val / 128 % 6 = e.val / 128; omega)
  have h := v171_head V0 qR kR vR hQ hK hV hq hk hv b ⟨e.val / 768, by omega⟩ s ⟨e.val / 128 % 6, by omega⟩ ⟨e.val % 128, by omega⟩
  refine Eq.trans (congrArg _ (congrArg (ix3 b s) (Fin.ext ?_))) (h.trans ?_)
  · show e.val = (e.val / 768 * 6 + e.val / 128 % 6) * 128 + e.val % 128; omega
  · rw [hh]; unfold outRow; rw [hg]

theorem v186_apply (b : Fin 2) (s : Fin 1024) (u : Fin 3072 → EReal) (hu : ∀ e, res_main_v171 V0 (ix3 b s e) = u e) :
    res_main_v186 V0 (ix2 b s) = expR (yE u) := by
  unfold res_main_v186
  refine (e1_apply _ b s).trans (congrArg expR ?_)
  unfold res_main_v175
  refine (y1_apply _ b s).trans (congrArg yE (funext hu))

include hQ hK hV hq hk hv in
theorem ref_oc (hb : ∀ b s e, Bdd ((2 : ℝ) ^ (130 : ℤ)) (outRow (qR b s) (kR b) (vR b) s e)) (b : Fin 2) (s : Fin 1024) (d : Fin 3072) :
    (Host.convertf (φ := .f32) .fp8e4m3 (minimumf (broadcastInDim S2x1024x3072 ![] bcast_S_S2x1024x3072 (id (constant S_ .f32 0x43E00000#32)))
      (maximumf (broadcastInDim S2x1024x3072 ![] bcast_S_S2x1024x3072 (id (constant S_ .f32 0xC3E00000#32)))
        (mulf (res_main_v171 V0) (broadcastInDim S2x1024x3072 ![0, 1, 2] bcast_S2x1024x1_S2x1024x3072_0_1_2
          (broadcastInDim S2x1024x1 ![0, 1] bcast_S2x1024_S2x1024x1_0_1
            (Host.powf (broadcastInDim S2x1024 ![] bcast_S_S2x1024 (constant S_ .f32 0x40000000#32)) (Host.negf (res_main_v186 V0))))))))
        : FVec Ideal S2x1024x3072 .fp8e4m3) (ix3 b s d) = codeE (outRow (qR b s) (kR b) (vR b) s) d := by
  obtain ⟨-, -, -, -, hc⟩ := quant_real (by decide) _ (hb b s)
  refine Eq.trans ?_ (hc d)
  exact oc_apply _ _ b s _ (fun e => v171_apply V0 qR kR vR hQ hK hV hq hk hv b s e)
    (v186_apply V0 b s _ fun e => v171_apply V0 qR kR vR hQ hK hV hq hk hv b s e) d

include hQ hK hV hq hk hv in
theorem ref_os (hb : ∀ b s e, Bdd ((2 : ℝ) ^ (130 : ℤ)) (outRow (qR b s) (kR b) (vR b) s e)) (b : Fin 2) (s : Fin 1024) :
    (Host.powf (broadcastInDim S2x1024 ![] bcast_S_S2x1024 (constant S_ .f32 0x40000000#32)) (res_main_v186 V0) : FVec Ideal S2x1024 .f32) (ix2 b s)
      = scaleE (yE (outRow (qR b s) (kR b) (vR b) s)) := by
  obtain ⟨_, h1, -, h2, -⟩ := quant_real (by decide) _ (hb b s)
  refine Eq.trans ?_ (h2.trans h1.symm)
  exact os_apply _ b s _ (v186_apply V0 b s _ fun e => v171_apply V0 qR kR vR hQ hK hV hq hk hv b s e)

end Out

end Cert.Attn
-- ==== Proof.Algebraic.lean ====
module

public import proofs.«01_k».proof.Proof.Final
public import proofs.«01_k».proof.Proof.RefQuant
public import proofs.«01_k».proof.Proof.RefOut
public import proofs.«01_k».proof.Defs
public import Idealize.ShloMosaic.Lib.ReduceAll

/-!
# The results of the kernel are those of the reference
-/

@[expose] public section

set_option maxRecDepth 16384

noncomputable section

namespace Cert.Attn

open Idealize.ShloMosaic Idealize.ShloMosaic.TcCoe Idealize.SL Idealize.SL.Sem

/-! ## The precondition -/

instance preFacts : Cert.Pre_finite.Facts where
  bitsLt_bf16_f32 := by decide
  bcast_S_S2x1024x3072 := by decide
  reducesTo_S2x1024x3072_S_d0_1_2 := by decide
  h_S_ := by decide
  bcast_S_S2x1024x512 := by decide
  reducesTo_S2x1024x512_S_d0_1_2 := by decide

theorem ofBits_bound : ∃ r : ℝ, Ideal.ofBits .f32 0x7F7F0000#32 = (r : EReal) ∧ r ≤ (2 : ℝ) ^ (128 : ℤ) := by
  refine ⟨(16711680 : ℝ) * (2 : ℝ) ^ (104 : ℤ), ?_, by norm_num⟩
  simp [Ideal.ofBits, Ideal.ieee]

/-- An element that passes the precondition's comparison is a bounded real number. -/
theorem bdd_of_le (x : EReal) (h : Ideal.cmp .ole (max x (-x)) (Ideal.ofBits .f32 0x7F7F0000#32) = 1#1) : Bdd ((2 : ℝ) ^ (128 : ℤ)) x := by
  obtain ⟨r, hr, hb⟩ := ofBits_bound
  have hle : max x (-x) ≤ (r : EReal) := by
    rw [hr] at h
    by_contra hn
    simp [Ideal.cmp, hn] at h
  induction x with
  | bot => simp at hle
  | top => simp at hle
  | coe x =>
    refine ⟨x, rfl, le_trans ?_ hb⟩
    rw [abs_eq_max_neg]
    rw [← EReal.coe_neg, ← coe_max] at hle
    exact EReal.coe_le_coe_iff.1 hle

instance : Subsingleton Cert.Pre_finite.S_.Idx := ⟨fun a b => funext fun i => i.elim0⟩

theorem pre_bdd (X : FVec Ideal Cert.Pre_finite.S2x1024x3072 .bf16) (K W : FVec Ideal Cert.Pre_finite.S2x1024x512 .bf16)
    (P : IVec Cert.Pre_finite.S2x1024 32) (h : Cert.Pre_finite.fn X K W P = fun _ => 1#1) :
    (∀ j, Bdd ((2 : ℝ) ^ (128 : ℤ)) (X j)) ∧ (∀ j, Bdd ((2 : ℝ) ^ (128 : ℤ)) (K j)) ∧ ∀ j, Bdd ((2 : ℝ) ^ (128 : ℤ)) (W j) := by
  have h0 := congrFun h (fun i => i.elim0)
  dsimp only [Cert.Pre_finite.fn] at h0
  rw [andi_apply, andi_apply] at h0
  obtain ⟨h1, h3⟩ := IntOp.andi_eq_one.1 h0
  obtain ⟨h1, h2⟩ := IntOp.andi_eq_one.1 h1
  exact ⟨fun j => bdd_of_le _ (Host.reduce_andi_all _ _ _ _ _ h1 j), fun j => bdd_of_le _ (Host.reduce_andi_all _ _ _ _ _ h2 j),
    fun j => bdd_of_le _ (Host.reduce_andi_all _ _ _ _ _ h3 j)⟩

/-! ## The rotary angles are real numbers -/

theorem div_real (x y : ℝ) (hy : y ≠ 0) : Ideal.div (x : EReal) (y : EReal) = ((x * y⁻¹ : ℝ) : EReal) := by
  unfold Ideal.div
  rw [if_neg (by exact_mod_cast hy), ← EReal.coe_inv, ← EReal.coe_mul]

theorem ofBits_base : ∃ r : ℝ, Ideal.ofBits .f32 0x48F42400#32 = (r : EReal) ∧ 0 < r := by
  refine ⟨(16000000 : ℝ) * (2 : ℝ) ^ (-5 : ℤ), ?_, by positivity⟩
  simp [Ideal.ofBits, Ideal.ieee]

theorem ofBits_128 : ∃ r : ℝ, Ideal.ofBits .f32 0x43000000#32 = (r : EReal) ∧ 0 < r := by
  refine ⟨(8388608 : ℝ) * (2 : ℝ) ^ (-16 : ℤ), ?_, by positivity⟩
  simp [Ideal.ofBits, Ideal.ieee]

theorem freqE_real (k : Fin 64) : ∃ r : ℝ, freqE k = (r : EReal) := by
  obtain ⟨B, hB, hB0⟩ := ofBits_base
  obtain ⟨D, hD, hD0⟩ := ofBits_128
  unfold freqE
  rw [hB, hD, ofBits_two, ← EReal.coe_mul, div_real _ _ hD0.ne']
  exact ⟨_, div_real 1 _ (Real.rpow_pos_of_pos hB0 _).ne'⟩

theorem angE_real (P : IVec Cert.ReferenceIdeal.S2x1024 32) (b : Fin 2) (s : Fin 1024) (k : Fin 64) : ∃ r : ℝ, angE P b s k = (r : EReal) := by
  obtain ⟨r, hr⟩ := freqE_real k
  exact ⟨_, by unfold angE; rw [hr, ← EReal.coe_mul]⟩

/-! ## The rows -/

theorem rowE_bdd {n : ℕ} (X : FVec Ideal ⟨3, ![2, 1024, n * 128]⟩ .bf16) (hX : ∀ j, Bdd ((2 : ℝ) ^ (128 : ℤ)) (X j)) (b : Fin 2) (s : Fin 1024)
    (h : Fin n) (d : Fin 128) : Bdd ((2 : ℝ) ^ (130 : ℤ)) (rowE X b s h d) := (hX _).mono (by norm_num)

theorem rrowE_bdd {n : ℕ} (X : FVec Ideal ⟨3, ![2, 1024, n * 128]⟩ .bf16) (hX : ∀ j, Bdd ((2 : ℝ) ^ (128 : ℤ)) (X j))
    (P : IVec Cert.ReferenceIdeal.S2x1024 32) (b : Fin 2) (s : Fin 1024) (h : Fin n) (d : Fin 128) :
    Bdd ((2 : ℝ) ^ (130 : ℤ)) (rrowE X P b s h d) := rotE_bdd _ (angE_real P b s) _ (fun _ => hX _) d

theorem scale_same (u : Fin 128 → EReal) (h : ∀ d, Bdd ((2 : ℝ) ^ (130 : ℤ)) (u d)) : scaleR u = scaleE (yE u) := by
  obtain ⟨e, h1, -, h2, -⟩ := quant_real (by decide) u h
  rw [h1, h2]

theorem code_same (u : Fin 128 → EReal) (h : ∀ d, Bdd ((2 : ℝ) ^ (130 : ℤ)) (u d)) (d : Fin 128) : codeR u d = codeE u d := by
  obtain ⟨e, -, -, -, h⟩ := quant_real (by decide) u h
  exact h d

/-! ## The reference's results -/

section Reference

open Cert.ReferenceIdeal Cert.ReferenceIdeal.Gen Cert.ReferenceIdeal.Value

theorem flat24_apply (A : FVec Ideal S2x1024x24x128 .f32) (b : Fin 2) (s : Fin 1024) (c : Fin 3072) :
    shapeCast S2x1024x3072 (Host.convertf .fp8e4m3 A) shapeCasts_S2x1024x24x128_S2x1024x3072 (ix3 b s c)
      = A (ix4 b s ⟨c.val / 128, by omega⟩ ⟨c.val % 128, by omega⟩) := by
  pointwise

theorem flat4_apply (A : FVec Ideal S2x1024x4x128 .f32) (b : Fin 2) (s : Fin 1024) (c : Fin 512) :
    shapeCast S2x1024x512 (Host.convertf .fp8e4m3 A) shapeCasts_S2x1024x4x128_S2x1024x512 (ix3 b s c)
      = A (ix4 b s ⟨c.val / 128, by omega⟩ ⟨c.val % 128, by omega⟩) := by
  pointwise

open Cert.Attn.KernelIdeal (codesA scalesA)

variable (V0 : Valuation τ sig (Elt Ideal))

theorem ref_qc (hX : ∀ j, Bdd ((2 : ℝ) ^ (128 : ℤ)) (aX V0 j)) :
    (shapeCast S2x1024x3072 (Host.convertf (φ := .f32) .fp8e4m3 (res_main_v74 V0)) shapeCasts_S2x1024x24x128_S2x1024x3072 : FVec Ideal S2x1024x3072 .fp8e4m3)
      = codesA (n := 24) (rrowE (n := 24) (aX V0) (aP V0)) := by
  funext j
  rw [eq_ix3 j]
  exact (flat24_apply _ _ _ _).trans ((qcode V0 _ _ _ _).trans (code_same _ (rrowE_bdd (n := 24) _ hX _ _ _ _) _))

theorem ref_kc (hX : ∀ j, Bdd ((2 : ℝ) ^ (128 : ℤ)) (aK V0 j)) :
    (shapeCast S2x1024x512 (Host.convertf (φ := .f32) .fp8e4m3 (res_main_v98 V0)) shapeCasts_S2x1024x4x128_S2x1024x512 : FVec Ideal S2x1024x512 .fp8e4m3)
      = codesA (n := 4) (rrowE (n := 4) (aK V0) (aP V0)) := by
  funext j
  rw [eq_ix3 j]
  exact (flat4_apply _ _ _ _).trans ((kcode V0 _ _ _ _).trans (code_same _ (rrowE_bdd (n := 4) _ hX _ _ _ _) _))

theorem ref_vc (hX : ∀ j, Bdd ((2 : ℝ) ^ (128 : ℤ)) (aV V0 j)) :
    (shapeCast S2x1024x512 (Host.convertf (φ := .f32) .fp8e4m3 (res_main_v124 V0)) shapeCasts_S2x1024x4x128_S2x1024x512 : FVec Ideal S2x1024x512 .fp8e4m3)
      = codesA (n := 4) (rowE (n := 4) (aV V0)) := by
  funext j
  rw [eq_ix3 j]
  exact (flat4_apply _ _ _ _).trans ((vcode V0 _ _ _ _).trans (code_same _ (rowE_bdd (n := 4) _ hX _ _ _) _))

theorem ref_qs (hX : ∀ j, Bdd ((2 : ℝ) ^ (128 : ℤ)) (aX V0 j)) :
    (Host.powf (broadcastInDim S2x1024x24 ![] bcast_S_S2x1024x24 (constant S_ .f32 0x40000000#32)) (res_main_v65 V0) : FVec Ideal S2x1024x24 .f32)
      = scalesA (n := 24) (rrowE (n := 24) (aX V0) (aP V0)) := by
  funext j
  rw [eq_ix3 j]
  exact (s24_apply _ _ _ _).trans ((congrArg _ (qscale V0 _ _ _)).trans (scale_same _ (rrowE_bdd (n := 24) _ hX _ _ _ _)))

theorem ref_ks (hX : ∀ j, Bdd ((2 : ℝ) ^ (128 : ℤ)) (aK V0 j)) :
    (Host.powf (broadcastInDim S2x1024x4 ![] bcast_S_S2x1024x4 (constant S_ .f32 0x40000000#32)) (res_main_v89 V0) : FVec Ideal S2x1024x4 .f32)
      = scalesA (n := 4) (rrowE (n := 4) (aK V0) (aP V0)) := by
  funext j
  rw [eq_ix3 j]
  exact (s4_apply _ _ _ _).trans ((congrArg _ (kscale V0 _ _ _)).trans (scale_same _ (rrowE_bdd (n := 4) _ hX _ _ _ _)))

theorem ref_vs (hX : ∀ j, Bdd ((2 : ℝ) ^ (128 : ℤ)) (aV V0 j)) :
    (Host.powf (broadcastInDim S2x1024x4 ![] bcast_S_S2x1024x4 (constant S_ .f32 0x40000000#32)) (res_main_v115 V0) : FVec Ideal S2x1024x4 .f32)
      = scalesA (n := 4) (rowE (n := 4) (aV V0)) := by
  funext j
  rw [eq_ix3 j]
  exact (s4_apply _ _ _ _).trans ((congrArg _ (vscale V0 _ _ _)).trans (scale_same _ (rowE_bdd (n := 4) _ hX _ _ _)))

/-- The rows of the output. -/
def oRowR (V0 : Valuation τ sig (Elt Ideal)) (b : Fin 2) (s : Fin 1024) : Fin 3072 → EReal :=
  outRow (rrowE (n := 24) (aX V0) (aP V0) b s) (rrowE (n := 4) (aK V0) (aP V0) b) (rowE (n := 4) (aV V0) b) s

theorem oRowR_bdd (hX : ∀ j, Bdd ((2 : ℝ) ^ (128 : ℤ)) (aX V0 j)) (hK : ∀ j, Bdd ((2 : ℝ) ^ (128 : ℤ)) (aK V0 j))
    (hV : ∀ j, Bdd ((2 : ℝ) ^ (128 : ℤ)) (aV V0 j)) (b : Fin 2) (s : Fin 1024) (e : Fin 3072) : Bdd ((2 : ℝ) ^ (130 : ℤ)) (oRowR V0 b s e) := by
  have h := outRow_bdd (fun h _ => rrowE (n := 24) (aX V0) (aP V0) b s h) (fun g k => rrowE (n := 4) (aK V0) (aP V0) b k g)
    (fun g k => rowE (n := 4) (aV V0) b k g) (fun h _ => rrowE_bdd (n := 24) _ hX _ _ _ h) (fun g k => rrowE_bdd (n := 4) _ hK _ _ k g)
    (fun g k => rowE_bdd (n := 4) _ hV _ k g) _ rfl ⟨s.val / 128, by omega⟩ ⟨s.val % 128, by omega⟩ e
  have hs : s.val / 128 * 128 + s.val % 128 = s.val := by omega
  rw [show ((⟨s.val / 128, by omega⟩ : Fin 8).val * 128 + (⟨s.val % 128, by omega⟩ : Fin 128).val) = s.val from hs] at h
  exact h

section Out

variable (hX : ∀ j, Bdd ((2 : ℝ) ^ (128 : ℤ)) (aX V0 j)) (hK : ∀ j, Bdd ((2 : ℝ) ^ (128 : ℤ)) (aK V0 j))
  (hV : ∀ j, Bdd ((2 : ℝ) ^ (128 : ℤ)) (aV V0 j))

include hX hK hV

theorem ref_out_codes (b : Fin 2) (s : Fin 1024) (d : Fin 3072) :
    (Host.convertf (φ := .f32) .fp8e4m3 (minimumf (broadcastInDim S2x1024x3072 ![] bcast_S_S2x1024x3072 (id (constant S_ .f32 0x43E00000#32)))
      (maximumf (broadcastInDim S2x1024x3072 ![] bcast_S_S2x1024x3072 (id (constant S_ .f32 0xC3E00000#32)))
        (mulf (res_main_v171 V0) (broadcastInDim S2x1024x3072 ![0, 1, 2] bcast_S2x1024x1_S2x1024x3072_0_1_2
          (broadcastInDim S2x1024x1 ![0, 1] bcast_S2x1024_S2x1024x1_0_1
            (Host.powf (broadcastInDim S2x1024 ![] bcast_S_S2x1024 (constant S_ .f32 0x40000000#32)) (Host.negf (res_main_v186 V0))))))))
        : FVec Ideal S2x1024x3072 .fp8e4m3) (ix3 b s d) = codeE (oRowR V0 b s) d :=
  ref_oc V0 _ _ _ (fun b s h d => (qcode V0 b s h d).trans (code_same _ (rrowE_bdd (n := 24) _ hX _ _ _ _) _))
    (fun b s h d => (kcode V0 b s h d).trans (code_same _ (rrowE_bdd (n := 4) _ hK _ _ _ _) _))
    (fun b s h d => (vcode V0 b s h d).trans (code_same _ (rowE_bdd (n := 4) _ hV _ _ _) _))
    (fun b s h => (congrArg _ (qscale V0 b s h)).trans (scale_same _ (rrowE_bdd (n := 24) _ hX _ _ _ _)))
    (fun b s h => (congrArg _ (kscale V0 b s h)).trans (scale_same _ (rrowE_bdd (n := 4) _ hK _ _ _ _)))
    (fun b s h => (congrArg _ (vscale V0 b s h)).trans (scale_same _ (rowE_bdd (n := 4) _ hV _ _ _)))
    (oRowR_bdd V0 hX hK hV) b s d

theorem ref_out_scale (b : Fin 2) (s : Fin 1024) :
    (Host.powf (broadcastInDim S2x1024 ![] bcast_S_S2x1024 (constant S_ .f32 0x40000000#32)) (res_main_v186 V0) : FVec Ideal S2x1024 .f32) (ix2 b s)
      = scaleE (yE (oRowR V0 b s)) :=
  ref_os V0 _ _ _ (fun b s h d => (qcode V0 b s h d).trans (code_same _ (rrowE_bdd (n := 24) _ hX _ _ _ _) _))
    (fun b s h d => (kcode V0 b s h d).trans (code_same _ (rrowE_bdd (n := 4) _ hK _ _ _ _) _))
    (fun b s h d => (vcode V0 b s h d).trans (code_same _ (rowE_bdd (n := 4) _ hV _ _ _) _))
    (fun b s h => (congrArg _ (qscale V0 b s h)).trans (scale_same _ (rrowE_bdd (n := 24) _ hX _ _ _ _)))
    (fun b s h => (congrArg _ (kscale V0 b s h)).trans (scale_same _ (rrowE_bdd (n := 4) _ hK _ _ _ _)))
    (fun b s h => (congrArg _ (vscale V0 b s h)).trans (scale_same _ (rowE_bdd (n := 4) _ hV _ _ _)))
    (oRowR_bdd V0 hX hK hV) b s

end Out

end Reference

/-! ## The kernel's results -/

section Kernel

open Cert.KernelIdeal Cert.KernelIdeal.Gen Cert.Attn.KernelIdeal
open Idealize.ShloMosaic.Pipeline (RDat Cfg Window)

variable {m : (ℓ : Loc nD τ sig) → Buf (Elt Ideal) ℓ}

/-- What the run leaves in the results' arrays. -/
theorem ker_results {r : PUnit × MemSt nD τ sig (Elt Ideal)} (h : Pipeline.RDat.FramePost cfg0 (rdat m (spec m)) (V m) r) (c : Dev nD) :
    r.2.mem ((c : Thread nD τ).loc main_v13_0) = (outA (oRow m c) : S2x1024x3072.Idx → EReal)
      ∧ r.2.mem ((c : Thread nD τ).loc main_v13_1) = (outS (oRow m c) : S2x1024.Idx → EReal)
      ∧ r.2.mem ((c : Thread nD τ).loc main_v13_2) = (codesA (n := 24) (qRow m c) : S2x1024x3072.Idx → EReal)
      ∧ r.2.mem ((c : Thread nD τ).loc main_v13_3) = (scalesA (n := 24) (qRow m c) : S2x1024x24.Idx → EReal)
      ∧ r.2.mem ((c : Thread nD τ).loc main_v13_4) = (codesA (n := 4) (kRow m c) : S2x1024x512.Idx → EReal)
      ∧ r.2.mem ((c : Thread nD τ).loc main_v13_5) = (scalesA (n := 4) (kRow m c) : S2x1024x4.Idx → EReal)
      ∧ r.2.mem ((c : Thread nD τ).loc main_v13_6) = (codesA (n := 4) (vRow m c) : S2x1024x512.Idx → EReal)
      ∧ r.2.mem ((c : Thread nD τ).loc main_v13_7) = (scalesA (n := 4) (vRow m c) : S2x1024x4.Idx → EReal) := by
  obtain ⟨after, hL, hA⟩ := Pipeline.RDat.FramePost.exists_exact h c
  exact ⟨(hA 5).trans (arr5 (fun u => hL 5 u (flush0_5 u)) fun _ _ _ h => h),
    (hA 6).trans (arr6 (hL 6 lastT ((flush0_6 lastT).2 rfl)) fun _ _ _ h => h),
    (hA 7).trans (arr7 (fun u => hL 7 u (flush0_7 u)) fun _ _ _ h => h),
    (hA 8).trans (arr8 (fun u => hL 8 u (flush0_8 u)) fun _ _ _ h => h),
    (hA 9).trans (arr9 (fun u => hL 9 u (flush0_9 u)) fun _ _ _ h => h),
    (hA 10).trans (arr10 (fun u => hL 10 u (flush0_10 u)) fun _ _ _ h => h),
    (hA 11).trans (arr11 (fun u => hL 11 u (flush0_11 u)) fun _ _ _ h => h),
    (hA 12).trans (arr12 (fun u => hL 12 u (flush0_12 u)) fun _ _ _ h => h)⟩

end Kernel

/-! ## The claim -/

open Cert.Attn.KernelIdeal (codesA scalesA outA outS)

theorem algebraic : Cert.algebraic_KernelIdeal_ReferenceIdeal_pre_finite := by
  intro m g m' g' hp ha
  have hb := fun c => pre_bdd _ _ _ _ (hp c)
  refine ⟨fun c => outA (KernelIdeal.oRow m c), fun c => outS (KernelIdeal.oRow m c), fun c => codesA (n := 24) (KernelIdeal.qRow m c),
    fun c => scalesA (n := 24) (KernelIdeal.qRow m c), fun c => codesA (n := 4) (KernelIdeal.kRow m c),
    fun c => scalesA (n := 4) (KernelIdeal.kRow m c), fun c => codesA (n := 4) (KernelIdeal.vRow m c),
    fun c => scalesA (n := 4) (KernelIdeal.vRow m c), ?_, ?_⟩
  · refine (θ_run Cert.KernelIdeal.defs _ _).mono (fun r h c => ?_)
      (KernelIdeal.run m g (KernelIdeal.spec m) (fun _ _ => KernelIdeal.cache_zero _ _ _ rfl _) fun c => KernelIdeal.step c
        (fun _ _ _ => rrowE_bdd (n := 24) _ (hb c).1 _ _ _ _) (fun _ _ _ => rrowE_bdd (n := 4) _ (hb c).2.1 _ _ _ _)
        fun _ _ _ => rowE_bdd (n := 4) _ (hb c).2.2 _ _ _)
    obtain ⟨h0, h1, h2, h3, h4, h5, h6, h7⟩ := ker_results h.1 c
    exact ⟨h0, h1, h2, h3, h4, h5, h6, h7, KernelIdeal.args h.1 c⟩
  · refine (θ_run Cert.ReferenceIdeal.defs _ _).mono (fun r h c => ?_) (Cert.ReferenceIdeal.Value.run (F := Ideal) m' g')
    obtain ⟨h0, h1, h2, h3, h4, h5, h6, h7, hargs⟩ := h c
    obtain ⟨a0, a1, a2, a3⟩ := ha c
    obtain ⟨bX, bK, bV⟩ := hb c
    have e0 : aX (Idealize.ShloMosaic.StableHlo.launchContents m' c) = KernelIdeal.xA m c := a0
    have e1 : aK (Idealize.ShloMosaic.StableHlo.launchContents m' c) = KernelIdeal.kA m c := a1
    have e2 : aV (Idealize.ShloMosaic.StableHlo.launchContents m' c) = KernelIdeal.vA m c := a2
    have e3 : aP (Idealize.ShloMosaic.StableHlo.launchContents m' c) = KernelIdeal.pA m c := a3
    have r2 := ref_qc (Idealize.ShloMosaic.StableHlo.launchContents m' c) (by rw [e0]; exact bX)
    have r3 := ref_qs (Idealize.ShloMosaic.StableHlo.launchContents m' c) (by rw [e0]; exact bX)
    have r4 := ref_kc (Idealize.ShloMosaic.StableHlo.launchContents m' c) (by rw [e1]; exact bK)
    have r5 := ref_ks (Idealize.ShloMosaic.StableHlo.launchContents m' c) (by rw [e1]; exact bK)
    have r6 := ref_vc (Idealize.ShloMosaic.StableHlo.launchContents m' c) (by rw [e2]; exact bV)
    have r7 := ref_vs (Idealize.ShloMosaic.StableHlo.launchContents m' c) (by rw [e2]; exact bV)
    have bX' : ∀ j, Bdd ((2 : ℝ) ^ (128 : ℤ)) (aX (Idealize.ShloMosaic.StableHlo.launchContents m' c) j) := by rw [e0]; exact bX
    have bK' : ∀ j, Bdd ((2 : ℝ) ^ (128 : ℤ)) (aK (Idealize.ShloMosaic.StableHlo.launchContents m' c) j) := by rw [e1]; exact bK
    have bV' : ∀ j, Bdd ((2 : ℝ) ^ (128 : ℤ)) (aV (Idealize.ShloMosaic.StableHlo.launchContents m' c) j) := by rw [e2]; exact bV
    have r0 := ref_out_codes _ bX' bK' bV'
    have r1 := ref_out_scale _ bX' bK' bV'
    have eo : oRowR (Idealize.ShloMosaic.StableHlo.launchContents m' c) = KernelIdeal.oRow m c := by
      unfold oRowR
      rw [e0, e1, e2, e3]
      rfl
    rw [eo] at r0 r1
    rw [e0, e3] at r2 r3
    rw [e1, e3] at r4 r5
    rw [e2] at r6 r7
    refine ⟨h0.trans (funext fun j => ?_), h1.trans (funext fun j => ?_), h2.trans r2, h3.trans r3, h4.trans r4, h5.trans r5, h6.trans r6,
      h7.trans r7, hargs⟩
    · rw [eq_ix3 j]
      exact r0 _ _ _
    · rw [eq_ix2 j]
      exact r1 _ _

end Cert.Attn
-- ==== Proof.lean ====
module

public import proofs.«01_k».proof.Defs
public import proofs.«01_k».proof.Proof.Frames
public import proofs.«01_k».proof.Proof.Algebraic

/-!
# The claim
-/

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Attn.preFacts,
    Cert.Attn.frame_kernel, Cert.Attn.frame_kernelIdeal, fun m g _ => Cert.Attn.frame_kernelIdeal m g trivial,
    Cert.Attn.frame_referenceIdeal, fun m g _ => Cert.Attn.frame_referenceIdeal m g trivial, Cert.Attn.preserves, Cert.Attn.algebraic⟩

end Cert.Proof

end
